-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg_inf" .f32 0xF149F2CA#32 ⊥
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v56) = v0 c
          ∧ r.2.mem ((c.tc : Thread Cert.Reference8Ideal.nD Cert.Reference8Ideal.τ).loc Cert.Reference8Ideal.main_v58) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x22528 : Shape := ⟨2, ![8192, 22528]⟩
abbrev S2x128x4096 : Shape := ⟨3, ![2, 128, 4096]⟩
abbrev S8192x6144 : Shape := ⟨2, ![8192, 6144]⟩
abbrev S_ : Shape := ⟨0, ![]⟩
abbrev S2x16x4096 : Shape := ⟨3, ![2, 16, 4096]⟩

class Facts : Prop where
  slices_S8192x22528_S8192x6144_0_12288 : S8192x22528.Slices ![0, 12288] S8192x6144
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  slices_S2x128x4096_S2x16x4096_0_64_0 : S2x128x4096.Slices ![0, 64, 0] S2x16x4096
  bcast_S_S2x16x4096 : S_.BroadcastsInDim S2x16x4096 (![] : Fin 0 → Fin S2x16x4096.rank)
  reducesTo_S2x16x4096_S_d0_1_2 : S2x16x4096.ReducesTo [0, 1, 2] S_

variable [Facts]

def fn {F : FTy → Type} [FloatOps F] (main_arg0 : FVec F S8192x22528 .bf16) (main_arg1 : FVec F S2x128x4096 .f32) : IVec S_ 1 :=
  let main_v0 : FVec F S8192x6144 .bf16 := (extractStridedSlice S8192x6144 ![0, 12288] · slices_S8192x22528_S8192x6144_0_12288) main_arg0
  let main_v1 : FVec F S8192x6144 .f32 := (extf .f32 · bitsLt_bf16_f32) main_v0
  let main_v2 : FVec F S8192x6144 .f32 := Host.absf main_v1
  let main_cst : FVec F S_ .f32 := constant S_ .f32 0x7F800000#32
  let main_v3 : FVec F S8192x6144 .f32 := broadcastInDim S8192x6144 ![] bcast_S_S8192x6144 main_cst
  let main_v4 : IVec S8192x6144 1 := cmpf .olt main_v2 main_v3
  let main_c : IVec S_ 1 := constantI S_ 1 1#1
  let main_v5 : IVec S_ 1 := (fun x v => Host.reduce IntOp.andi x v reducesTo_S8192x6144_S_d0_1 h_S_) main_v4 main_c
  let main_v6 : FVec F S2x16x4096 .f32 := (extractStridedSlice S2x16x4096 ![0, 64, 0] · slices_S2x128x4096_S2x16x4096_0_64_0) main_arg1
  let main_v7 : FVec F S2x16x4096 .f32 := Host.absf main_v6
  let main_cst_0 : FVec F S_ .f32 := constant S_ .f32 0x7F800000#32
  let main_v8 : FVec F S2x16x4096 .f32 := broadcastInDim S2x16x4096 ![] bcast_S_S2x16x4096 main_cst_0
  let main_v9 : IVec S2x16x4096 1 := cmpf .olt main_v7 main_v8
  let main_c_1 : IVec S_ 1 := constantI S_ 1 1#1
  let main_v10 : IVec S_ 1 := (fun x v => Host.reduce IntOp.andi x v reducesTo_S2x16x4096_S_d0_1_2 h_S_) main_v9 main_c_1
  let main_v11 : IVec S_ 1 := andi main_v5 main_v10
  main_v11
-- ==== Kernel.lean ====
abbrev S8192x22528 : Shape := ⟨2, ![8192, 22528]⟩
abbrev S2x128x4096 : Shape := ⟨3, ![2, 128, 4096]⟩
abbrev S2x16x4096 : Shape := ⟨3, ![2, 16, 4096]⟩
abbrev S2x16x1x4096 : Shape := ⟨4, ![2, 16, 1, 4096]⟩
abbrev S8192x2048 : Shape := ⟨2, ![8192, 2048]⟩
abbrev S512x128 : Shape := ⟨2, ![512, 128]⟩
abbrev S4096x128 : Shape := ⟨2, ![4096, 128]⟩
abbrev S1x1x1x4096 : Shape := ⟨4, ![1, 1, 1, 4096]⟩
abbrev S144x4096 : Shape := ⟨2, ![144, 4096]⟩
abbrev S2x512x512 : Shape := ⟨3, ![2, 512, 512]⟩
abbrev S1x512 : Shape := ⟨2, ![1, 512]⟩
abbrev S144x512 : Shape := ⟨2, ![144, 512]⟩
abbrev S128x128 : Shape := ⟨2, ![128, 128]⟩
abbrev S1x1x1x128 : Shape := ⟨4, ![1, 1, 1, 128]⟩
abbrev S1x128 : Shape := ⟨2, ![1, 128]⟩
abbrev S16x4096 : Shape := ⟨2, ![16, 4096]⟩
abbrev S512x512 : Shape := ⟨2, ![512, 512]⟩
abbrev S1x512x512 : Shape := ⟨3, ![1, 512, 512]⟩
abbrev S512x256 : Shape := ⟨2, ![512, 256]⟩
abbrev S1x512x256 : Shape := ⟨3, ![1, 512, 256]⟩
abbrev S1x256 : Shape := ⟨2, ![1, 256]⟩
abbrev S8x64x256 : Shape := ⟨3, ![8, 64, 256]⟩
abbrev S1x64x256 : Shape := ⟨3, ![1, 64, 256]⟩
abbrev S64x256 : Shape := ⟨2, ![64, 256]⟩
abbrev S256 : Shape := ⟨1, ![256]⟩
abbrev S144x256 : Shape := ⟨2, ![144, 256]⟩
abbrev S1x256x256 : Shape := ⟨3, ![1, 256, 256]⟩
abbrev S256x256 : Shape := ⟨2, ![256, 256]⟩
abbrev S8x32x256 : Shape := ⟨3, ![8, 32, 256]⟩
abbrev S1x32x256 : Shape := ⟨3, ![1, 32, 256]⟩
abbrev S32x256 : Shape := ⟨2, ![32, 256]⟩
abbrev S128x512 : Shape := ⟨2, ![128, 512]⟩

abbrev nBuf : Space → Nat
  | .hbm => 5
  | .vmem => 15
  | .smem => 0
  | _ => 0

abbrev bufTy : (tb : Table) → Fin (tcTables nBuf tb) → BufTy
  | .hbm, ⟨0, _⟩ => ⟨S8192x22528, .bf16⟩
  | .hbm, ⟨1, _⟩ => ⟨S2x128x4096, .f32⟩
  | .hbm, ⟨2, _⟩ => ⟨S2x16x4096, .f32⟩
  | .hbm, ⟨3, _⟩ => ⟨S2x16x1x4096, .f32⟩
  | .hbm, ⟨4, _⟩ => ⟨S8192x2048, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x1x4096, .f32⟩
  | .local _ .vmem, ⟨7, _⟩ => ⟨S1x1x1x4096, .f32⟩
  | .local _ .vmem, ⟨8, _⟩ => ⟨S512x128, .bf16⟩
  | .local _ .vmem, ⟨9, _⟩ => ⟨S512x128, .bf16⟩
  | .local _ .vmem, ⟨10, _⟩ => ⟨S144x4096, .bf16⟩
  | .local _ .vmem, ⟨11, _⟩ => ⟨S4096x128, .f32⟩
  | .local _ .vmem, ⟨12, _⟩ => ⟨S2x512x512, .f32⟩
  | .local _ .vmem, ⟨13, _⟩ => ⟨S1x512, .f32⟩
  | .local _ .vmem, ⟨14, _⟩ => ⟨S144x512, .f32⟩
  | _, _ => ⟨S8192x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_44 : BitVec 32 := 0#32
  let c8_i32 : BitVec 32 := 8#32
  let v74 : BitVec 32 := Scalar.addi c0_i32_44 c8_i32
  let c1_i32_45 : BitVec 32 := 1#32
  ⟨c0_i32_44, v74, c1_i32_45⟩
def k0_mult1 (k0_t1 : Fin k0_t1_loop.trips) : BitVec 32 :=
  let c0_i32_44 : BitVec 32 := 0#32
  let c1_i32_45 : BitVec 32 := 1#32
  let arg13 : BitVec 32 := Scf.iv c0_i32_44 c1_i32_45 k0_t1
  let c4_i32 : BitVec 32 := 4#32
  let v79 : BitVec 32 := Scalar.muli arg13 c4_i32
  let c0_i32_50 : BitVec 32 := 0#32
  let v80 : BitVec 32 := Scalar.addi v79 c0_i32_50
  let c128_i32 : BitVec 32 := 128#32
  let v81 : BitVec 32 := Scalar.muli v80 c128_i32
  v81
def k0_off1 (k0_t1 : Fin k0_t1_loop.trips) (c0_i32_50 : BitVec 32) : Fin 2 → Nat :=
  let c0_i32_44 : BitVec 32 := 0#32
  let c1_i32_45 : BitVec 32 := 1#32
  let arg13 : BitVec 32 := Scf.iv c0_i32_44 c1_i32_45 k0_t1
  let c4_i32 : BitVec 32 := 4#32
  let v79 : BitVec 32 := Scalar.muli arg13 c4_i32
  let v80 : BitVec 32 := Scalar.addi v79 c0_i32_50
  let c128_i32 : BitVec 32 := 128#32
  let v81 : BitVec 32 := Scalar.muli v80 c128_i32
  let v82 : BitVec 32 := v81
  let v83 : Index := Scalar.indexCast v82
  let c0_51 : Index := 0#32
  ![v83.toNat, 0]
def k0_off2 (k0_t1 : Fin k0_t1_loop.trips) (c0_i32_50 : BitVec 32) : Fin 2 → Nat :=
  let c0_52 : Index := 0#32
  let c0_i32_44 : BitVec 32 := 0#32
  let c1_i32_45 : BitVec 32 := 1#32
  let arg13 : BitVec 32 := Scf.iv c0_i32_44 c1_i32_45 k0_t1
  let c4_i32 : BitVec 32 := 4#32
  let v79 : BitVec 32 := Scalar.muli arg13 c4_i32
  let v80 : BitVec 32 := Scalar.addi v79 c0_i32_50
  let c128_i32 : BitVec 32 := 128#32
  let v81 : BitVec 32 := Scalar.muli v80 c128_i32
  let v82 : BitVec 32 := v81
  let v88 : Index := Scalar.indexCast v82
  ![0, v88.toNat]
def k0_off3 (k0_t1 : Fin k0_t1_loop.trips) (c0_i32_50 : BitVec 32) : Fin 4 → Nat :=
  let c0_53 : Index := 0#32
  let c0_54 : Index := 0#32
  let c0_55 : Index := 0#32
  let c0_i32_44 : BitVec 32 := 0#32
  let c1_i32_45 : BitVec 32 := 1#32
  let arg13 : BitVec 32 := Scf.iv c0_i32_44 c1_i32_45 k0_t1
  let c4_i32 : BitVec 32 := 4#32
  let v79 : BitVec 32 := Scalar.muli arg13 c4_i32
  let v80 : BitVec 32 := Scalar.addi v79 c0_i32_50
  let c128_i32 : BitVec 32 := 128#32
  let v81 : BitVec 32 := Scalar.muli v80 c128_i32
  let v82 : BitVec 32 := v81
  let v92 : Index := Scalar.indexCast v82
  ![0, 0, 0, v92.toNat]
def k0_mult2 (k0_t1 : Fin k0_t1_loop.trips) : BitVec 32 :=
  let c0_i32_44 : BitVec 32 := 0#32
  let c1_i32_45 : BitVec 32 := 1#32
  let arg13 : BitVec 32 := Scf.iv c0_i32_44 c1_i32_45 k0_t1
  let c4_i32_58 : BitVec 32 := 4#32
  let v104 : BitVec 32 := Scalar.muli arg13 c4_i32_58
  let c1_i32_59 : BitVec 32 := 1#32
  let v105 : BitVec 32 := Scalar.addi v104 c1_i32_59
  let c128_i32_60 : BitVec 32 := 128#32
  let v106 : BitVec 32 := Scalar.muli v105 c128_i32_60
  v106
def k0_mult3 (k0_t1 : Fin k0_t1_loop.trips) : BitVec 32 :=
  let c0_i32_44 : BitVec 32 := 0#32
  let c1_i32_45 : BitVec 32 := 1#32
  let arg13 : BitVec 32 := Scf.iv c0_i32_44 c1_i32_45 k0_t1
  let c4_i32_68 : BitVec 32 := 4#32
  let v129 : BitVec 32 := Scalar.muli arg13 c4_i32_68
  let c2_i32_69 : BitVec 32 := 2#32
  let v130 : BitVec 32 := Scalar.addi v129 c2_i32_69
  let c128_i32_70 : BitVec 32 := 128#32
  let v131 : BitVec 32 := Scalar.muli v130 c128_i32_70
  v131
def k0_mult4 (k0_t1 : Fin k0_t1_loop.trips) : BitVec 32 :=
  let c0_i32_44 : BitVec 32 := 0#32
  let c1_i32_45 : BitVec 32 := 1#32
  let arg13 : BitVec 32 := Scf.iv c0_i32_44 c1_i32_45 k0_t1
  let c4_i32_78 : BitVec 32 := 4#32
  let v154 : BitVec 32 := Scalar.muli arg13 c4_i32_78
  let c3_i32 : BitVec 32 := 3#32
  let v155 : BitVec 32 := Scalar.addi v154 c3_i32
  let c128_i32_79 : BitVec 32 := 128#32
  let v156 : BitVec 32 := Scalar.muli v155 c128_i32_79
  v156
def k0_mult5 : BitVec 32 :=
  let c0_i32_5 : BitVec 32 := 0#32
  c0_i32_5
@[reducible] def k0_t2_loop (i : grid0.Coords) : Scf.Loop 32 :=
  let c0_i32_19 : BitVec 32 := 0#32
  let arg2 : BitVec 32 := BitVec.ofNat 32 (i 2).val
  let c0_i32_13 : BitVec 32 := 0#32
  let v20 : BitVec 1 := Scalar.cmpi .sgt arg2 c0_i32_13
  let v21 : BitVec 32 := Scalar.extui v20
  let c0_i32_14 : BitVec 32 := 0#32
  let v22 : BitVec 1 := Scalar.cmpi .slt arg2 c0_i32_14
  let v23 : BitVec 32 := Scalar.extui v22
  let v24 : BitVec 32 := Scalar.subi v21 v23
  let c2_i32 : BitVec 32 := 2#32
  let c0_i32_15 : BitVec 32 := 0#32
  let v25 : BitVec 1 := Scalar.cmpi .sgt c2_i32 c0_i32_15
  let v26 : BitVec 32 := Scalar.extui v25
  let c0_i32_16 : BitVec 32 := 0#32
  let v27 : BitVec 1 := Scalar.cmpi .slt c2_i32 c0_i32_16
  let v28 : BitVec 32 := Scalar.extui v27
  let v29 : BitVec 32 := Scalar.subi v26 v28
  let v30 : BitVec 1 := Scalar.cmpi .ne v24 v29
  let v31 : BitVec 32 := Scalar.remsi arg2 c2_i32
  let c0_i32_17 : BitVec 32 := 0#32
  let v32 : BitVec 1 := Scalar.cmpi .ne v31 c0_i32_17
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_21 : BitVec 32 := 1#32
  ⟨c0_i32_19, v40, c1_i32_21⟩
def k0_mult6 (i : grid0.Coords) (k0_t2 : Fin (k0_t2_loop i).trips) : BitVec 32 :=
  let c2_i32_44 : BitVec 32 := 2#32
  let c0_i32_19 : BitVec 32 := 0#32
  let c1_i32_21 : BitVec 32 := 1#32
  let arg13 : BitVec 32 := Scf.iv c0_i32_19 c1_i32_21 k0_t2
  let v74 : BitVec 32 := Scalar.muli c2_i32_44 arg13
  let c1_i32_45 : BitVec 32 := 1#32
  let v75 : BitVec 32 := Scalar.addi v74 c1_i32_45
  let c512_i32 : BitVec 32 := 512#32
  let v76 : BitVec 32 := Scalar.muli v75 c512_i32
  v76
def k0_off4 (i : grid0.Coords) (k0_t2 : Fin (k0_t2_loop i).trips) (c1_i32_45 : BitVec 32) : Fin 2 → Nat :=
  let c2_i32_44 : BitVec 32 := 2#32
  let c0_i32_19 : BitVec 32 := 0#32
  let c1_i32_21 : BitVec 32 := 1#32
  let arg13 : BitVec 32 := Scf.iv c0_i32_19 c1_i32_21 k0_t2
  let v74 : BitVec 32 := Scalar.muli c2_i32_44 arg13
  let v75 : BitVec 32 := Scalar.addi v74 c1_i32_45
  let c512_i32 : BitVec 32 := 512#32
  let v76 : BitVec 32 := Scalar.muli v75 c512_i32
  let v77 : BitVec 32 := v76
  let v78 : Index := Scalar.indexCast v77
  let c0_46 : Index := 0#32
  ![v78.toNat, 0]
def k0_mult7 (i : grid0.Coords) (k0_t2 : Fin (k0_t2_loop i).trips) : BitVec 32 :=
  let c2_i32_44 : BitVec 32 := 2#32
  let c0_i32_19 : BitVec 32 := 0#32
  let c1_i32_21 : BitVec 32 := 1#32
  let arg13 : BitVec 32 := Scf.iv c0_i32_19 c1_i32_21 k0_t2
  let v74 : BitVec 32 := Scalar.muli c2_i32_44 arg13
  let c512_i32_52 : BitVec 32 := 512#32
  let v85 : BitVec 32 := Scalar.muli v74 c512_i32_52
  v85
def k0_off5 (i : grid0.Coords) (k0_t2 : Fin (k0_t2_loop i).trips) : Fin 2 → Nat :=
  let c2_i32_44 : BitVec 32 := 2#32
  let c0_i32_19 : BitVec 32 := 0#32
  let c1_i32_21 : BitVec 32 := 1#32
  let arg13 : BitVec 32 := Scf.iv c0_i32_19 c1_i32_21 k0_t2
  let v74 : BitVec 32 := Scalar.muli c2_i32_44 arg13
  let c512_i32_52 : BitVec 32 := 512#32
  let v85 : BitVec 32 := Scalar.muli v74 c512_i32_52
  let v86 : BitVec 32 := v85
  let v87 : Index := Scalar.indexCast v86
  let c0_53 : Index := 0#32
  ![v87.toNat, 0]
def k0_off6 (i : grid0.Coords) (k0_t2 : Fin (k0_t2_loop i).trips) : Fin 2 → Nat :=
  let c0_54 : Index := 0#32
  let c2_i32_44 : BitVec 32 := 2#32
  let c0_i32_19 : BitVec 32 := 0#32
  let c1_i32_21 : BitVec 32 := 1#32
  let arg13 : BitVec 32 := Scf.iv c0_i32_19 c1_i32_21 k0_t2
  let v74 : BitVec 32 := Scalar.muli c2_i32_44 arg13
  let c512_i32_52 : BitVec 32 := 512#32
  let v85 : BitVec 32 := Scalar.muli v74 c512_i32_52
  let v86 : BitVec 32 := v85
  let v90 : Index := Scalar.indexCast v86
  ![0, v90.toNat]
def k0_mult8 (i : grid0.Coords) (k0_t2 : Fin (k0_t2_loop i).trips) : BitVec 32 :=
  let c2_i32_44 : BitVec 32 := 2#32
  let c0_i32_19 : BitVec 32 := 0#32
  let c1_i32_21 : BitVec 32 := 1#32
  let arg13 : BitVec 32 := Scf.iv c0_i32_19 c1_i32_21 k0_t2
  let v74 : BitVec 32 := Scalar.muli c2_i32_44 arg13
  let c2_i32_82 : BitVec 32 := 2#32
  let v192 : BitVec 32 := Scalar.addi v74 c2_i32_82
  let c512_i32_83 : BitVec 32 := 512#32
  let v193 : BitVec 32 := Scalar.muli v192 c512_i32_83
  v193
def k0_mult9 (i : grid0.Coords) (k0_t2 : Fin (k0_t2_loop i).trips) : BitVec 32 :=
  let c2_i32_44 : BitVec 32 := 2#32
  let c0_i32_19 : BitVec 32 := 0#32
  let c1_i32_21 : BitVec 32 := 1#32
  let arg13 : BitVec 32 := Scf.iv c0_i32_19 c1_i32_21 k0_t2
  let v74 : BitVec 32 := Scalar.muli c2_i32_44 arg13
  let c1_i32_91 : BitVec 32 := 1#32
  let v202 : BitVec 32 := Scalar.addi v74 c1_i32_91
  let c512_i32_92 : BitVec 32 := 512#32
  let v203 : BitVec 32 := Scalar.muli v202 c512_i32_92
  v203
def k0_off7 (i : grid0.Coords) (k0_t2 : Fin (k0_t2_loop i).trips) : Fin 2 → Nat :=
  let c0_94 : Index := 0#32
  let c2_i32_44 : BitVec 32 := 2#32
  let c0_i32_19 : BitVec 32 := 0#32
  let c1_i32_21 : BitVec 32 := 1#32
  let arg13 : BitVec 32 := Scf.iv c0_i32_19 c1_i32_21 k0_t2
  let v74 : BitVec 32 := Scalar.muli c2_i32_44 arg13
  let c1_i32_91 : BitVec 32 := 1#32
  let v202 : BitVec 32 := Scalar.addi v74 c1_i32_91
  let c512_i32_92 : BitVec 32 := 512#32
  let v203 : BitVec 32 := Scalar.muli v202 c512_i32_92
  let v204 : BitVec 32 := v203
  let v208 : Index := Scalar.indexCast v204
  ![0, v208.toNat]
@[reducible] def k0_t3_loop (i : grid0.Coords) : Scf.Loop 32 :=
  let c0_i32_19 : BitVec 32 := 0#32
  let arg2 : BitVec 32 := BitVec.ofNat 32 (i 2).val
  let c0_i32_13 : BitVec 32 := 0#32
  let v20 : BitVec 1 := Scalar.cmpi .sgt arg2 c0_i32_13
  let v21 : BitVec 32 := Scalar.extui v20
  let c0_i32_14 : BitVec 32 := 0#32
  let v22 : BitVec 1 := Scalar.cmpi .slt arg2 c0_i32_14
  let v23 : BitVec 32 := Scalar.extui v22
  let v24 : BitVec 32 := Scalar.subi v21 v23
  let c2_i32 : BitVec 32 := 2#32
  let c0_i32_15 : BitVec 32 := 0#32
  let v25 : BitVec 1 := Scalar.cmpi .sgt c2_i32 c0_i32_15
  let v26 : BitVec 32 := Scalar.extui v25
  let c0_i32_16 : BitVec 32 := 0#32
  let v27 : BitVec 1 := Scalar.cmpi .slt c2_i32 c0_i32_16
  let v28 : BitVec 32 := Scalar.extui v27
  let v29 : BitVec 32 := Scalar.subi v26 v28
  let v30 : BitVec 1 := Scalar.cmpi .ne v24 v29
  let v31 : BitVec 32 := Scalar.remsi arg2 c2_i32
  let c0_i32_17 : BitVec 32 := 0#32
  let v32 : BitVec 1 := Scalar.cmpi .ne v31 c0_i32_17
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let v37 : BitVec 32 := Scalar.addi c0_i32_19 v36
  let c1_i32_22 : BitVec 32 := 1#32
  ⟨v40, v37, c1_i32_22⟩
def k0_mult10 (i : grid0.Coords) (k0_t3 : Fin (k0_t3_loop i).trips) : BitVec 32 :=
  let c2_i32_44 : BitVec 32 := 2#32
  let c0_i32_19 : BitVec 32 := 0#32
  let arg2 : BitVec 32 := BitVec.ofNat 32 (i 2).val
  let c0_i32_13 : BitVec 32 := 0#32
  let v20 : BitVec 1 := Scalar.cmpi .sgt arg2 c0_i32_13
  let v21 : BitVec 32 := Scalar.extui v20
  let c0_i32_14 : BitVec 32 := 0#32
  let v22 : BitVec 1 := Scalar.cmpi .slt arg2 c0_i32_14
  let v23 : BitVec 32 := Scalar.extui v22
  let v24 : BitVec 32 := Scalar.subi v21 v23
  let c2_i32 : BitVec 32 := 2#32
  let c0_i32_15 : BitVec 32 := 0#32
  let v25 : BitVec 1 := Scalar.cmpi .sgt c2_i32 c0_i32_15
  let v26 : BitVec 32 := Scalar.extui v25
  let c0_i32_16 : BitVec 32 := 0#32
  let v27 : BitVec 1 := Scalar.cmpi .slt c2_i32 c0_i32_16
  let v28 : BitVec 32 := Scalar.extui v27
  let v29 : BitVec 32 := Scalar.subi v26 v28
  let v30 : BitVec 1 := Scalar.cmpi .ne v24 v29
  let v31 : BitVec 32 := Scalar.remsi arg2 c2_i32
  let c0_i32_17 : BitVec 32 := 0#32
  let v32 : BitVec 1 := Scalar.cmpi .ne v31 c0_i32_17
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_22 : BitVec 32 := 1#32
  let arg13 : BitVec 32 := Scf.iv v40 c1_i32_22 k0_t3
  let v74 : BitVec 32 := Scalar.muli c2_i32_44 arg13
  let c1_i32_45 : BitVec 32 := 1#32
  let v75 : BitVec 32 := Scalar.addi v74 c1_i32_45
  let c512_i32 : BitVec 32 := 512#32
  let v76 : BitVec 32 := Scalar.muli v75 c512_i32
  v76
def k0_off8 (i : grid0.Coords) (k0_t3 : Fin (k0_t3_loop i).trips) (c1_i32_45 : BitVec 32) : Fin 2 → Nat :=
  let c2_i32_44 : BitVec 32 := 2#32
  let c0_i32_19 : BitVec 32 := 0#32
  let arg2 : BitVec 32 := BitVec.ofNat 32 (i 2).val
  let c0_i32_13 : BitVec 32 := 0#32
  let v20 : BitVec 1 := Scalar.cmpi .sgt arg2 c0_i32_13
  let v21 : BitVec 32 := Scalar.extui v20
  let c0_i32_14 : BitVec 32 := 0#32
  let v22 : BitVec 1 := Scalar.cmpi .slt arg2 c0_i32_14
  let v23 : BitVec 32 := Scalar.extui v22
  let v24 : BitVec 32 := Scalar.subi v21 v23
  let c2_i32 : BitVec 32 := 2#32
  let c0_i32_15 : BitVec 32 := 0#32
  let v25 : BitVec 1 := Scalar.cmpi .sgt c2_i32 c0_i32_15
  let v26 : BitVec 32 := Scalar.extui v25
  let c0_i32_16 : BitVec 32 := 0#32
  let v27 : BitVec 1 := Scalar.cmpi .slt c2_i32 c0_i32_16
  let v28 : BitVec 32 := Scalar.extui v27
  let v29 : BitVec 32 := Scalar.subi v26 v28
  let v30 : BitVec 1 := Scalar.cmpi .ne v24 v29
  let v31 : BitVec 32 := Scalar.remsi arg2 c2_i32
  let c0_i32_17 : BitVec 32 := 0#32
  let v32 : BitVec 1 := Scalar.cmpi .ne v31 c0_i32_17
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_22 : BitVec 32 := 1#32
  let arg13 : BitVec 32 := Scf.iv v40 c1_i32_22 k0_t3
  let v74 : BitVec 32 := Scalar.muli c2_i32_44 arg13
  let v75 : BitVec 32 := Scalar.addi v74 c1_i32_45
  let c512_i32 : BitVec 32 := 512#32
  let v76 : BitVec 32 := Scalar.muli v75 c512_i32
  let v77 : BitVec 32 := v76
  let v78 : Index := Scalar.indexCast v77
  let c0_46 : Index := 0#32
  ![v78.toNat, 0]
def k0_mult11 (i : grid0.Coords) (k0_t3 : Fin (k0_t3_loop i).trips) : BitVec 32 :=
  let c2_i32_44 : BitVec 32 := 2#32
  let c0_i32_19 : BitVec 32 := 0#32
  let arg2 : BitVec 32 := BitVec.ofNat 32 (i 2).val
  let c0_i32_13 : BitVec 32 := 0#32
  let v20 : BitVec 1 := Scalar.cmpi .sgt arg2 c0_i32_13
  let v21 : BitVec 32 := Scalar.extui v20
  let c0_i32_14 : BitVec 32 := 0#32
  let v22 : BitVec 1 := Scalar.cmpi .slt arg2 c0_i32_14
  let v23 : BitVec 32 := Scalar.extui v22
  let v24 : BitVec 32 := Scalar.subi v21 v23
  let c2_i32 : BitVec 32 := 2#32
  let c0_i32_15 : BitVec 32 := 0#32
  let v25 : BitVec 1 := Scalar.cmpi .sgt c2_i32 c0_i32_15
  let v26 : BitVec 32 := Scalar.extui v25
  let c0_i32_16 : BitVec 32 := 0#32
  let v27 : BitVec 1 := Scalar.cmpi .slt c2_i32 c0_i32_16
  let v28 : BitVec 32 := Scalar.extui v27
  let v29 : BitVec 32 := Scalar.subi v26 v28
  let v30 : BitVec 1 := Scalar.cmpi .ne v24 v29
  let v31 : BitVec 32 := Scalar.remsi arg2 c2_i32
  let c0_i32_17 : BitVec 32 := 0#32
  let v32 : BitVec 1 := Scalar.cmpi .ne v31 c0_i32_17
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_22 : BitVec 32 := 1#32
  let arg13 : BitVec 32 := Scf.iv v40 c1_i32_22 k0_t3
  let v74 : BitVec 32 := Scalar.muli c2_i32_44 arg13
  let c512_i32_52 : BitVec 32 := 512#32
  let v85 : BitVec 32 := Scalar.muli v74 c512_i32_52
  v85
def k0_off9 (i : grid0.Coords) (k0_t3 : Fin (k0_t3_loop i).trips) : Fin 2 → Nat :=
  let c2_i32_44 : BitVec 32 := 2#32
  let c0_i32_19 : BitVec 32 := 0#32
  let arg2 : BitVec 32 := BitVec.ofNat 32 (i 2).val
  let c0_i32_13 : BitVec 32 := 0#32
  let v20 : BitVec 1 := Scalar.cmpi .sgt arg2 c0_i32_13
  let v21 : BitVec 32 := Scalar.extui v20
  let c0_i32_14 : BitVec 32 := 0#32
  let v22 : BitVec 1 := Scalar.cmpi .slt arg2 c0_i32_14
  let v23 : BitVec 32 := Scalar.extui v22
  let v24 : BitVec 32 := Scalar.subi v21 v23
  let c2_i32 : BitVec 32 := 2#32
  let c0_i32_15 : BitVec 32 := 0#32
  let v25 : BitVec 1 := Scalar.cmpi .sgt c2_i32 c0_i32_15
  let v26 : BitVec 32 := Scalar.extui v25
  let c0_i32_16 : BitVec 32 := 0#32
  let v27 : BitVec 1 := Scalar.cmpi .slt c2_i32 c0_i32_16
  let v28 : BitVec 32 := Scalar.extui v27
  let v29 : BitVec 32 := Scalar.subi v26 v28
  let v30 : BitVec 1 := Scalar.cmpi .ne v24 v29
  let v31 : BitVec 32 := Scalar.remsi arg2 c2_i32
  let c0_i32_17 : BitVec 32 := 0#32
  let v32 : BitVec 1 := Scalar.cmpi .ne v31 c0_i32_17
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_22 : BitVec 32 := 1#32
  let arg13 : BitVec 32 := Scf.iv v40 c1_i32_22 k0_t3
  let v74 : BitVec 32 := Scalar.muli c2_i32_44 arg13
  let c512_i32_52 : BitVec 32 := 512#32
  let v85 : BitVec 32 := Scalar.muli v74 c512_i32_52
  let v86 : BitVec 32 := v85
  let v87 : Index := Scalar.indexCast v86
  let c0_53 : Index := 0#32
  ![v87.toNat, 0]
def k0_off10 (i : grid0.Coords) (k0_t3 : Fin (k0_t3_loop i).trips) : Fin 2 → Nat :=
  let c0_54 : Index := 0#32
  let c2_i32_44 : BitVec 32 := 2#32
  let c0_i32_19 : BitVec 32 := 0#32
  let arg2 : BitVec 32 := BitVec.ofNat 32 (i 2).val
  let c0_i32_13 : BitVec 32 := 0#32
  let v20 : BitVec 1 := Scalar.cmpi .sgt arg2 c0_i32_13
  let v21 : BitVec 32 := Scalar.extui v20
  let c0_i32_14 : BitVec 32 := 0#32
  let v22 : BitVec 1 := Scalar.cmpi .slt arg2 c0_i32_14
  let v23 : BitVec 32 := Scalar.extui v22
  let v24 : BitVec 32 := Scalar.subi v21 v23
  let c2_i32 : BitVec 32 := 2#32
  let c0_i32_15 : BitVec 32 := 0#32
  let v25 : BitVec 1 := Scalar.cmpi .sgt c2_i32 c0_i32_15
  let v26 : BitVec 32 := Scalar.extui v25
  let c0_i32_16 : BitVec 32 := 0#32
  let v27 : BitVec 1 := Scalar.cmpi .slt c2_i32 c0_i32_16
  let v28 : BitVec 32 := Scalar.extui v27
  let v29 : BitVec 32 := Scalar.subi v26 v28
  let v30 : BitVec 1 := Scalar.cmpi .ne v24 v29
  let v31 : BitVec 32 := Scalar.remsi arg2 c2_i32
  let c0_i32_17 : BitVec 32 := 0#32
  let v32 : BitVec 1 := Scalar.cmpi .ne v31 c0_i32_17
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_22 : BitVec 32 := 1#32
  let arg13 : BitVec 32 := Scf.iv v40 c1_i32_22 k0_t3
  let v74 : BitVec 32 := Scalar.muli c2_i32_44 arg13
  let c512_i32_52 : BitVec 32 := 512#32
  let v85 : BitVec 32 := Scalar.muli v74 c512_i32_52
  let v86 : BitVec 32 := v85
  let v90 : Index := Scalar.indexCast v86
  ![0, v90.toNat]
def k0_mult12 (i : grid0.Coords) (k0_t3 : Fin (k0_t3_loop i).trips) : BitVec 32 :=
  let c2_i32_44 : BitVec 32 := 2#32
  let c0_i32_19 : BitVec 32 := 0#32
  let arg2 : BitVec 32 := BitVec.ofNat 32 (i 2).val
  let c0_i32_13 : BitVec 32 := 0#32
  let v20 : BitVec 1 := Scalar.cmpi .sgt arg2 c0_i32_13
  let v21 : BitVec 32 := Scalar.extui v20
  let c0_i32_14 : BitVec 32 := 0#32
  let v22 : BitVec 1 := Scalar.cmpi .slt arg2 c0_i32_14
  let v23 : BitVec 32 := Scalar.extui v22
  let v24 : BitVec 32 := Scalar.subi v21 v23
  let c2_i32 : BitVec 32 := 2#32
  let c0_i32_15 : BitVec 32 := 0#32
  let v25 : BitVec 1 := Scalar.cmpi .sgt c2_i32 c0_i32_15
  let v26 : BitVec 32 := Scalar.extui v25
  let c0_i32_16 : BitVec 32 := 0#32
  let v27 : BitVec 1 := Scalar.cmpi .slt c2_i32 c0_i32_16
  let v28 : BitVec 32 := Scalar.extui v27
  let v29 : BitVec 32 := Scalar.subi v26 v28
  let v30 : BitVec 1 := Scalar.cmpi .ne v24 v29
  let v31 : BitVec 32 := Scalar.remsi arg2 c2_i32
  let c0_i32_17 : BitVec 32 := 0#32
  let v32 : BitVec 1 := Scalar.cmpi .ne v31 c0_i32_17
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_22 : BitVec 32 := 1#32
  let arg13 : BitVec 32 := Scf.iv v40 c1_i32_22 k0_t3
  let v74 : BitVec 32 := Scalar.muli c2_i32_44 arg13
  let c2_i32_82 : BitVec 32 := 2#32
  let v192 : BitVec 32 := Scalar.addi v74 c2_i32_82
  let c512_i32_83 : BitVec 32 := 512#32
  let v193 : BitVec 32 := Scalar.muli v192 c512_i32_83
  v193
def k0_mult13 (i : grid0.Coords) (k0_t3 : Fin (k0_t3_loop i).trips) : BitVec 32 :=
  let c2_i32_44 : BitVec 32 := 2#32
  let c0_i32_19 : BitVec 32 := 0#32
  let arg2 : BitVec 32 := BitVec.ofNat 32 (i 2).val
  let c0_i32_13 : BitVec 32 := 0#32
  let v20 : BitVec 1 := Scalar.cmpi .sgt arg2 c0_i32_13
  let v21 : BitVec 32 := Scalar.extui v20
  let c0_i32_14 : BitVec 32 := 0#32
  let v22 : BitVec 1 := Scalar.cmpi .slt arg2 c0_i32_14
  let v23 : BitVec 32 := Scalar.extui v22
  let v24 : BitVec 32 := Scalar.subi v21 v23
  let c2_i32 : BitVec 32 := 2#32
  let c0_i32_15 : BitVec 32 := 0#32
  let v25 : BitVec 1 := Scalar.cmpi .sgt c2_i32 c0_i32_15
  let v26 : BitVec 32 := Scalar.extui v25
  let c0_i32_16 : BitVec 32 := 0#32
  let v27 : BitVec 1 := Scalar.cmpi .slt c2_i32 c0_i32_16
  let v28 : BitVec 32 := Scalar.extui v27
  let v29 : BitVec 32 := Scalar.subi v26 v28
  let v30 : BitVec 1 := Scalar.cmpi .ne v24 v29
  let v31 : BitVec 32 := Scalar.remsi arg2 c2_i32
  let c0_i32_17 : BitVec 32 := 0#32
  let v32 : BitVec 1 := Scalar.cmpi .ne v31 c0_i32_17
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_22 : BitVec 32 := 1#32
  let arg13 : BitVec 32 := Scf.iv v40 c1_i32_22 k0_t3
  let v74 : BitVec 32 := Scalar.muli c2_i32_44 arg13
  let c1_i32_91 : BitVec 32 := 1#32
  let v202 : BitVec 32 := Scalar.addi v74 c1_i32_91
  let c512_i32_92 : BitVec 32 := 512#32
  let v203 : BitVec 32 := Scalar.muli v202 c512_i32_92
  v203
def k0_off11 (i : grid0.Coords) (k0_t3 : Fin (k0_t3_loop i).trips) : Fin 2 → Nat :=
  let c0_94 : Index := 0#32
  let c2_i32_44 : BitVec 32 := 2#32
  let c0_i32_19 : BitVec 32 := 0#32
  let arg2 : BitVec 32 := BitVec.ofNat 32 (i 2).val
  let c0_i32_13 : BitVec 32 := 0#32
  let v20 : BitVec 1 := Scalar.cmpi .sgt arg2 c0_i32_13
  let v21 : BitVec 32 := Scalar.extui v20
  let c0_i32_14 : BitVec 32 := 0#32
  let v22 : BitVec 1 := Scalar.cmpi .slt arg2 c0_i32_14
  let v23 : BitVec 32 := Scalar.extui v22
  let v24 : BitVec 32 := Scalar.subi v21 v23
  let c2_i32 : BitVec 32 := 2#32
  let c0_i32_15 : BitVec 32 := 0#32
  let v25 : BitVec 1 := Scalar.cmpi .sgt c2_i32 c0_i32_15
  let v26 : BitVec 32 := Scalar.extui v25
  let c0_i32_16 : BitVec 32 := 0#32
  let v27 : BitVec 1 := Scalar.cmpi .slt c2_i32 c0_i32_16
  let v28 : BitVec 32 := Scalar.extui v27
  let v29 : BitVec 32 := Scalar.subi v26 v28
  let v30 : BitVec 1 := Scalar.cmpi .ne v24 v29
  let v31 : BitVec 32 := Scalar.remsi arg2 c2_i32
  let c0_i32_17 : BitVec 32 := 0#32
  let v32 : BitVec 1 := Scalar.cmpi .ne v31 c0_i32_17
  let v33 : BitVec 1 := Scalar.andi v30 v32
  let v19 : BitVec 32 := Scalar.divsi arg2 c2_i32
  let c1_i32 : BitVec 32 := 1#32
  let v34 : BitVec 32 := Scalar.subi v19 c1_i32
  let v35 : BitVec 32 := Scalar.select v33 v34 v19
  let v36 : BitVec 32 := Scalar.subi v35 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_22 : BitVec 32 := 1#32
  let arg13 : BitVec 32 := Scf.iv v40 c1_i32_22 k0_t3
  let v74 : BitVec 32 := Scalar.muli c2_i32_44 arg13
  let c1_i32_91 : BitVec 32 := 1#32
  let v202 : BitVec 32 := Scalar.addi v74 c1_i32_91
  let c512_i32_92 : BitVec 32 := 512#32
  let v203 : BitVec 32 := Scalar.muli v202 c512_i32_92
  let v204 : BitVec 32 := v203
  let v208 : Index := Scalar.indexCast v204
  ![0, v208.toNat]
def k0_cond2 (i : grid0.Coords) : BitVec 1 :=
  let arg2 : BitVec 32 := BitVec.ofNat 32 (i 2).val
  let c2_i32_23 : BitVec 32 := 2#32
  let c0_i32_24 : BitVec 32 := 0#32
  let v41 : BitVec 1 := Scalar.cmpi .eq c2_i32_23 c0_i32_24
  let c1_i32_25 : BitVec 32 := 1#32
  let v42 : BitVec 32 := Scalar.select v41 c1_i32_25 c2_i32_23
  let v43 : BitVec 32 := Scalar.remsi arg2 v42
  let c0_i32_27 : BitVec 32 := 0#32
  let v45 : BitVec 1 := Scalar.cmpi .slt v43 c0_i32_27
  let c0_i32_28 : BitVec 32 := 0#32
  let v46 : BitVec 1 := Scalar.cmpi .slt v42 c0_i32_28
  let v47 : BitVec 1 := Scalar.xori v45 v46
  let c0_i32_26 : BitVec 32 := 0#32
  let v44 : BitVec 1 := Scalar.cmpi .ne v43 c0_i32_26
  let v48 : BitVec 1 := Scalar.andi v47 v44
  let v49 : BitVec 32 := Scalar.addi v43 v42
  let v50 : BitVec 32 := Scalar.select v48 v49 v43
  let c0_i32_29 : BitVec 32 := 0#32
  let v51 : BitVec 1 := Scalar.cmpi .eq v50 c0_i32_29
  let v52 : BitVec 32 := Scalar.extui v51
  let c0_i32_30 : BitVec 32 := 0#32
  let v53 : BitVec 1 := Scalar.cmpi .ne v52 c0_i32_30
  v53

def k0_mult14 (i : grid0.Coords) : BitVec 32 :=
  let arg2 : BitVec 32 := BitVec.ofNat 32 (i 2).val
  let c512_i32 : BitVec 32 := 512#32
  let v74 : BitVec 32 := Scalar.muli arg2 c512_i32
  v74
def k0_off12 (i : grid0.Coords) : Fin 2 → Nat :=
  let arg2 : BitVec 32 := BitVec.ofNat 32 (i 2).val
  let c512_i32 : BitVec 32 := 512#32
  let v74 : BitVec 32 := Scalar.muli arg2 c512_i32
  let v75 : BitVec 32 := v74
  let v76 : Index := Scalar.indexCast v75
  let c0_44 : Index := 0#32
  ![v76.toNat, 0]
def k0_off13 (i : grid0.Coords) : Fin 2 → Nat :=
  let c0_45 : Index := 0#32
  let arg2 : BitVec 32 := BitVec.ofNat 32 (i 2).val
  let c512_i32 : BitVec 32 := 512#32
  let v74 : BitVec 32 := Scalar.muli arg2 c512_i32
  let v75 : BitVec 32 := v74
  let v79 : Index := Scalar.indexCast v75
  ![0, v79.toNat]
def k0_cond3 (i : grid0.Coords) : BitVec 1 :=
  let arg2 : BitVec 32 := BitVec.ofNat 32 (i 2).val
  let c2_i32_31 : BitVec 32 := 2#32
  let c0_i32_32 : BitVec 32 := 0#32
  let v54 : BitVec 1 := Scalar.cmpi .eq c2_i32_31 c0_i32_32
  let c1_i32_33 : BitVec 32 := 1#32
  let v55 : BitVec 32 := Scalar.select v54 c1_i32_33 c2_i32_31
  let v56 : BitVec 32 := Scalar.remsi arg2 v55
  let c0_i32_35 : BitVec 32 := 0#32
  let v58 : BitVec 1 := Scalar.cmpi .slt v56 c0_i32_35
  let c0_i32_36 : BitVec 32 := 0#32
  let v59 : BitVec 1 := Scalar.cmpi .slt v55 c0_i32_36
  let v60 : BitVec 1 := Scalar.xori v58 v59
  let c0_i32_34 : BitVec 32 := 0#32
  let v57 : BitVec 1 := Scalar.cmpi .ne v56 c0_i32_34
  let v61 : BitVec 1 := Scalar.andi v60 v57
  let v62 : BitVec 32 := Scalar.addi v56 v55
  let v63 : BitVec 32 := Scalar.select v61 v62 v56
  let c1_i32_37 : BitVec 32 := 1#32
  let v64 : BitVec 1 := Scalar.cmpi .eq v63 c1_i32_37
  let v65 : BitVec 32 := Scalar.extui v64
  let c0_i32_38 : BitVec 32 := 0#32
  let v66 : BitVec 1 := Scalar.cmpi .ne v65 c0_i32_38
  v66

def k0_mult15 (i : grid0.Coords) : BitVec 32 :=
  let arg2 : BitVec 32 := BitVec.ofNat 32 (i 2).val
  let c512_i32 : BitVec 32 := 512#32
  let v74 : BitVec 32 := Scalar.muli arg2 c512_i32
  v74
def k0_off14 (i : grid0.Coords) : Fin 2 → Nat :=
  let arg2 : BitVec 32 := BitVec.ofNat 32 (i 2).val
  let c512_i32 : BitVec 32 := 512#32
  let v74 : BitVec 32 := Scalar.muli arg2 c512_i32
  let v75 : BitVec 32 := v74
  let v76 : Index := Scalar.indexCast v75
  let c0_44 : Index := 0#32
  ![v76.toNat, 0]
def k0_mult16 (i : grid0.Coords) : BitVec 32 :=
  let arg2 : BitVec 32 := BitVec.ofNat 32 (i 2).val
  let c1_i32_50 : BitVec 32 := 1#32
  let v83 : BitVec 32 := Scalar.subi arg2 c1_i32_50
  let c512_i32_51 : BitVec 32 := 512#32
  let v84 : BitVec 32 := Scalar.muli v83 c512_i32_51
  v84
def k0_off15 (i : grid0.Coords) : Fin 2 → Nat :=
  let arg2 : BitVec 32 := BitVec.ofNat 32 (i 2).val
  let c1_i32_50 : BitVec 32 := 1#32
  let v83 : BitVec 32 := Scalar.subi arg2 c1_i32_50
  let c512_i32_51 : BitVec 32 := 512#32
  let v84 : BitVec 32 := Scalar.muli v83 c512_i32_51
  let v85 : BitVec 32 := v84
  let v86 : Index := Scalar.indexCast v85
  let c0_52 : Index := 0#32
  ![v86.toNat, 0]
def k0_off16 (i : grid0.Coords) : Fin 2 → Nat :=
  let c0_53 : Index := 0#32
  let arg2 : BitVec 32 := BitVec.ofNat 32 (i 2).val
  let c1_i32_50 : BitVec 32 := 1#32
  let v83 : BitVec 32 := Scalar.subi arg2 c1_i32_50
  let c512_i32_51 : BitVec 32 := 512#32
  let v84 : BitVec 32 := Scalar.muli v83 c512_i32_51
  let v85 : BitVec 32 := v84
  let v89 : Index := Scalar.indexCast v85
  ![0, v89.toNat]
def k0_mult17 (i : grid0.Coords) : BitVec 32 :=
  let arg2 : BitVec 32 := BitVec.ofNat 32 (i 2).val
  let c512_i32_81 : BitVec 32 := 512#32
  let v191 : BitVec 32 := Scalar.muli arg2 c512_i32_81
  v191
def k0_off17 (i : grid0.Coords) : Fin 2 → Nat :=
  let c0_83 : Index := 0#32
  let arg2 : BitVec 32 := BitVec.ofNat 32 (i 2).val
  let c512_i32_81 : BitVec 32 := 512#32
  let v191 : BitVec 32 := Scalar.muli arg2 c512_i32_81
  let v192 : BitVec 32 := v191
  let v196 : Index := Scalar.indexCast v192
  ![0, v196.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c96_i32 : BitVec 32 := 96#32
  let v2 : BitVec 32 := Scalar.addi c96_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c112_i32 : BitVec 32 := 112#32
  let v0 : BitVec 32 := Scalar.addi c112_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg_inf" => some ⊥
  | "scale_log2e" => some (((Real.sqrt 128)⁻¹ * (Real.log 2)⁻¹ : ℝ) : EReal)
  | _ => none
-- ==== ReferenceIdeal.lean ====
abbrev S8192x22528 : Shape := ⟨2, ![8192, 22528]⟩
abbrev S2x128x4096 : Shape := ⟨3, ![2, 128, 4096]⟩
abbrev S8192x6144 : Shape := ⟨2, ![8192, 6144]⟩
abbrev S2x4096x6144 : Shape := ⟨3, ![2, 4096, 6144]⟩
abbrev S2x4096x2048 : Shape := ⟨3, ![2, 4096, 2048]⟩
abbrev S2x4096x16x128 : Shape := ⟨4, ![2, 4096, 16, 128]⟩
abbrev S2x16x4096 : Shape := ⟨3, ![2, 16, 4096]⟩
abbrev S2x4096x16 : Shape := ⟨3, ![2, 4096, 16]⟩
abbrev S2x16x4096x4096 : Shape := ⟨4, ![2, 16, 4096, 4096]⟩
abbrev S_ : Shape := ⟨0, ![]⟩
abbrev S2x16x4096x1 : Shape := ⟨4, ![2, 16, 4096, 1]⟩
abbrev S2x16x1x4096 : Shape := ⟨4, ![2, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x128x4096 : Shape := ⟨4, ![2, 16, 128, 4096]⟩
abbrev S8192x2048 : Shape := ⟨2, ![8192, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x22528, .bf16⟩
  | .hbm, ⟨1, _⟩ => ⟨S2x128x4096, .f32⟩
  | .hbm, ⟨2, _⟩ => ⟨S8192x6144, .bf16⟩
  | .hbm, ⟨3, _⟩ => ⟨S8192x6144, .f32⟩
  | .hbm, ⟨4, _⟩ => ⟨S2x4096x6144, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2x4096x16x128, .f32⟩
  | .hbm, ⟨9, _⟩ => ⟨S2x4096x16x128, .f32⟩
  | .hbm, ⟨10, _⟩ => ⟨S2x4096x16x128, .f32⟩
  | .hbm, ⟨11, _⟩ => ⟨S2x16x4096, .f32⟩
  | .hbm, ⟨12, _⟩ => ⟨S2x4096x16, .f32⟩
  | .hbm, ⟨13, _⟩ => ⟨S2x16x4096, .f32⟩
  | .hbm, ⟨14, _⟩ => ⟨S2x16x4096x4096, .f32⟩
  | .hbm, ⟨15, _⟩ => ⟨S_, .f32⟩
  | .hbm, ⟨16, _⟩ => ⟨S_, .f32⟩
  | .hbm, ⟨17, _⟩ => ⟨S2x16x4096x4096, .f32⟩
  | .hbm, ⟨18, _⟩ => ⟨S2x16x4096x4096, .f32⟩
  | .hbm, ⟨19, _⟩ => ⟨S2x16x4096x1, .f32⟩
  | .hbm, ⟨20, _⟩ => ⟨S2x16x4096x4096, .f32⟩
  | .hbm, ⟨21, _⟩ => ⟨S2x16x4096x4096, .f32⟩
  | .hbm, ⟨22, _⟩ => ⟨S2x16x1x4096, .f32⟩
  | .hbm, ⟨23, _⟩ => ⟨S2x16x4096x4096, .f32⟩
  | .hbm, ⟨24, _⟩ => ⟨S2x16x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S2x16x4096x4096, .i1⟩
  | .hbm, ⟨34, _⟩ => ⟨S2x16x4096x4096, .f32⟩
  | .hbm, ⟨35, _⟩ => ⟨S2x16x4096x4096, .f32⟩
  | .hbm, ⟨36, _⟩ => ⟨S_, .f32⟩
  | .hbm, ⟨37, _⟩ => ⟨S2x16x4096, .f32⟩
  | .hbm, ⟨38, _⟩ => ⟨S_, .f32⟩
  | .hbm, ⟨39, _⟩ => ⟨S2x16x4096, .f32⟩
  | .hbm, ⟨40, _⟩ => ⟨S2x16x4096, .f32⟩
  | .hbm, ⟨41, _⟩ => ⟨S2x16x4096x1, .f32⟩
  | .hbm, ⟨42, _⟩ => ⟨S2x16x4096x4096, .f32⟩
  | .hbm, ⟨43, _⟩ => ⟨S2x16x4096x4096, .f32⟩
  | .hbm, ⟨44, _⟩ => ⟨S2x16x4096x4096, .f32⟩
  | .hbm, ⟨45, _⟩ => ⟨S_, .f32⟩
  | .hbm, ⟨46, _⟩ => ⟨S2x16x4096, .f32⟩
  | .hbm, ⟨47, _⟩ => ⟨S2x16x4096x1, .f32⟩
  | .hbm, ⟨48, _⟩ => ⟨S2x16x4096x4096, .f32⟩
  | .hbm, ⟨49, _⟩ => ⟨S2x16x4096x4096, .f32⟩
  | .hbm, ⟨50, _⟩ => ⟨S2x16x128x4096, .f32⟩
  | .hbm, ⟨51, _⟩ => ⟨S2x4096x16x128, .f32⟩
  | .hbm, ⟨52, _⟩ => ⟨S8192x2048, .f32⟩
  | .hbm, ⟨53, _⟩ => ⟨S8192x2048, .bf16⟩
  | _, _ => ⟨S8192x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel2.lean ====
abbrev S8192x2048 : Shape := ⟨2, ![8192, 2048]⟩
abbrev S4x2048x22608 : Shape := ⟨3, ![4, 2048, 22608]⟩
abbrev S4x22608x2048 : Shape := ⟨3, ![4, 22608, 2048]⟩
abbrev S8192x22528 : Shape := ⟨2, ![8192, 22528]⟩
abbrev S1024x2048 : Shape := ⟨2, ![1024, 2048]⟩
abbrev S1x1024x2048 : Shape := ⟨3, ![1, 1024, 2048]⟩
abbrev S1x128x2048 : Shape := ⟨3, ![1, 128, 2048]⟩
abbrev S1024x1024 : Shape := ⟨2, ![1024, 1024]⟩
abbrev S1x256x2048 : Shape := ⟨3, ![1, 256, 2048]⟩
abbrev S256x2048 : Shape := ⟨2, ![256, 2048]⟩
abbrev S1x192x2048 : Shape := ⟨3, ![1, 192, 2048]⟩
abbrev S192x2048 : Shape := ⟨2, ![192, 2048]⟩
abbrev S1x64x2048 : Shape := ⟨3, ![1, 64, 2048]⟩
abbrev S64x2048 : Shape := ⟨2, ![64, 2048]⟩
abbrev S1x176x2048 : Shape := ⟨3, ![1, 176, 2048]⟩
abbrev S176x2048 : Shape := ⟨2, ![176, 2048]⟩
abbrev S1x80x2048 : Shape := ⟨3, ![1, 80, 2048]⟩
abbrev S80x2048 : Shape := ⟨2, ![80, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x2048x22608, .f32⟩
  | .hbm, ⟨2, _⟩ => ⟨S4x22608x2048, .f32⟩
  | .hbm, ⟨3, _⟩ => ⟨S8192x22528, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x128x2048, .f32⟩
  | .local _ .vmem, ⟨5, _⟩ => ⟨S1x128x2048, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![22, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c176_i32 : BitVec 32 := 176#32
  let v2 : BitVec 32 := Scalar.minsi v1 c176_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S4x2048x22608 : Shape := ⟨3, ![4, 2048, 22608]⟩
abbrev S1x2048x22608 : Shape := ⟨3, ![1, 2048, 22608]⟩
abbrev S2048x22608 : Shape := ⟨2, ![2048, 22608]⟩
abbrev S8192x22608 : Shape := ⟨2, ![8192, 22608]⟩
abbrev S8192x12288 : Shape := ⟨2, ![8192, 12288]⟩
abbrev S8192x6144 : Shape := ⟨2, ![8192, 6144]⟩
abbrev S8192x4096 : Shape := ⟨2, ![8192, 4096]⟩
abbrev S8192x22528 : Shape := ⟨2, ![8192, 22528]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x22608, .f32⟩
  | .hbm, ⟨2, _⟩ => ⟨S1x2048x22608, .f32⟩
  | .hbm, ⟨3, _⟩ => ⟨S2048x22608, .f32⟩
  | .hbm, ⟨4, _⟩ => ⟨S2048x22608, .bf16⟩
  | .hbm, ⟨5, _⟩ => ⟨S8192x22608, .f32⟩
  | .hbm, ⟨6, _⟩ => ⟨S8192x22608, .bf16⟩
  | .hbm, ⟨7, _⟩ => ⟨S8192x12288, .bf16⟩
  | .hbm, ⟨8, _⟩ => ⟨S8192x6144, .bf16⟩
  | .hbm, ⟨9, _⟩ => ⟨S8192x4096, .bf16⟩
  | .hbm, ⟨10, _⟩ => ⟨S8192x22528, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel3.lean ====
abbrev S8192x2048 : Shape := ⟨2, ![8192, 2048]⟩
abbrev S4x2048x5632 : Shape := ⟨3, ![4, 2048, 5632]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x5632, .f32⟩
  | .hbm, ⟨2, _⟩ => ⟨S4x2048x5632, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S4x2048x5632 : Shape := ⟨3, ![4, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x5632, .f32⟩
  | .hbm, ⟨2, _⟩ => ⟨S4x2048x5632, .f32⟩
  | .hbm, ⟨3, _⟩ => ⟨S1x2048x5632, .f32⟩
  | .hbm, ⟨4, _⟩ => ⟨S2048x5632, .f32⟩
  | .hbm, ⟨5, _⟩ => ⟨S2048x5632, .bf16⟩
  | .hbm, ⟨6, _⟩ => ⟨S8192x5632, .f32⟩
  | .hbm, ⟨7, _⟩ => ⟨S1x2048x5632, .f32⟩
  | .hbm, ⟨8, _⟩ => ⟨S2048x5632, .f32⟩
  | .hbm, ⟨9, _⟩ => ⟨S2048x5632, .bf16⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel4.lean ====
abbrev S8192x5632 : Shape := ⟨2, ![8192, 5632]⟩
abbrev S4x5632x2048 : Shape := ⟨3, ![4, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩
abbrev S1x256x512 : Shape := ⟨3, ![1, 256, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x5632 : Shape := ⟨2, ![8192, 5632]⟩
abbrev S4x5632x2048 : Shape := ⟨3, ![4, 5632, 2048]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S1x5632x2048, .f32⟩
  | .hbm, ⟨3, _⟩ => ⟨S5632x2048, .f32⟩
  | .hbm, ⟨4, _⟩ => ⟨S5632x2048, .bf16⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x4096 : Shape := ⟨2, ![8192, 4096]⟩
abbrev S4x4096x2048 : Shape := ⟨3, ![4, 4096, 2048]⟩
abbrev S8192x2048 : Shape := ⟨2, ![8192, 2048]⟩
abbrev S4x2048x2048 : Shape := ⟨3, ![4, 2048, 2048]⟩
abbrev S8192x22528 : Shape := ⟨2, ![8192, 22528]⟩
abbrev S512x4096 : Shape := ⟨2, ![512, 4096]⟩
abbrev S1x4096x512 : Shape := ⟨3, ![1, 4096, 512]⟩
abbrev S512x2048 : Shape := ⟨2, ![512, 2048]⟩
abbrev S1x2048x512 : Shape := ⟨3, ![1, 2048, 512]⟩
abbrev S512x512 : Shape := ⟨2, ![512, 512]⟩
abbrev S4096x512 : Shape := ⟨2, ![4096, 512]⟩
abbrev S2048x512 : Shape := ⟨2, ![2048, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .f32⟩
  | .hbm, ⟨2, _⟩ => ⟨S8192x2048, .bf16⟩
  | .hbm, ⟨3, _⟩ => ⟨S4x2048x2048, .f32⟩
  | .hbm, ⟨4, _⟩ => ⟨S8192x22528, .bf16⟩
  | .hbm, ⟨5, _⟩ => ⟨S4x4096x2048, .bf16⟩
  | .hbm, ⟨6, _⟩ => ⟨S4x2048x2048, .bf16⟩
  | .hbm, ⟨7, _⟩ => ⟨S8192x2048, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8192x4096 : Shape := ⟨2, ![8192, 4096]⟩
abbrev S4x4096x2048 : Shape := ⟨3, ![4, 4096, 2048]⟩
abbrev S8192x2048 : Shape := ⟨2, ![8192, 2048]⟩
abbrev S4x2048x2048 : Shape := ⟨3, ![4, 2048, 2048]⟩
abbrev S8192x22528 : Shape := ⟨2, ![8192, 22528]⟩
abbrev S1x4096x2048 : Shape := ⟨3, ![1, 4096, 2048]⟩
abbrev S4096x2048 : Shape := ⟨2, ![4096, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .f32⟩
  | .hbm, ⟨2, _⟩ => ⟨S8192x2048, .bf16⟩
  | .hbm, ⟨3, _⟩ => ⟨S4x2048x2048, .f32⟩
  | .hbm, ⟨4, _⟩ => ⟨S8192x22528, .bf16⟩
  | .hbm, ⟨5, _⟩ => ⟨S1x4096x2048, .f32⟩
  | .hbm, ⟨6, _⟩ => ⟨S4096x2048, .f32⟩
  | .hbm, ⟨7, _⟩ => ⟨S4096x2048, .bf16⟩
  | .hbm, ⟨8, _⟩ => ⟨S8192x2048, .f32⟩
  | .hbm, ⟨9, _⟩ => ⟨S1x2048x2048, .f32⟩
  | .hbm, ⟨10, _⟩ => ⟨S2048x2048, .f32⟩
  | .hbm, ⟨11, _⟩ => ⟨S2048x2048, .bf16⟩
  | .hbm, ⟨12, _⟩ => ⟨S8192x2048, .f32⟩
  | .hbm, ⟨13, _⟩ => ⟨S8192x4096, .bf16⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel6.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S1x2048x2048, .f32⟩
  | .hbm, ⟨3, _⟩ => ⟨S2048x2048, .f32⟩
  | .hbm, ⟨4, _⟩ => ⟨S2048x2048, .bf16⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x2048 : Shape := ⟨2, ![8192, 2048]⟩
abbrev S4x4x2048 : Shape := ⟨3, ![4, 4, 2048]⟩
abbrev S4x2x6x2048 : Shape := ⟨4, ![4, 2, 6, 2048]⟩
abbrev S1x2x6x2048 : Shape := ⟨4, ![1, 2, 6, 2048]⟩
abbrev S2x6x2048 : Shape := ⟨3, ![2, 6, 2048]⟩
abbrev S12x1x2048 : Shape := ⟨3, ![12, 1, 2048]⟩
abbrev S1x1x2048 : Shape := ⟨3, ![1, 1, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x4x2048, .f32⟩
  | .hbm, ⟨3, _⟩ => ⟨S4x2x6x2048, .f32⟩
  | .hbm, ⟨4, _⟩ => ⟨S1x2x6x2048, .f32⟩
  | .hbm, ⟨5, _⟩ => ⟨S2x6x2048, .f32⟩
  | .hbm, ⟨6, _⟩ => ⟨S12x1x2048, .f32⟩
  | .hbm, ⟨7, _⟩ => ⟨S1x1x2048, .f32⟩
  | .hbm, ⟨8, _⟩ => ⟨S2048, .f32⟩
  | .hbm, ⟨9, _⟩ => ⟨S1x2048, .f32⟩
  | .hbm, ⟨10, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x2048 : Shape := ⟨2, ![8192, 2048]⟩
abbrev S4x4x2048 : Shape := ⟨3, ![4, 4, 2048]⟩
abbrev S4x2x6x2048 : Shape := ⟨4, ![4, 2, 6, 2048]⟩
abbrev S2x4096x2048 : Shape := ⟨3, ![2, 4096, 2048]⟩
abbrev S1x2x6x2048 : Shape := ⟨4, ![1, 2, 6, 2048]⟩
abbrev S2x6x2048 : Shape := ⟨3, ![2, 6, 2048]⟩
abbrev S2x1x2048 : Shape := ⟨3, ![2, 1, 2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048 : Shape := ⟨1, ![2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x4x2048, .f32⟩
  | .hbm, ⟨3, _⟩ => ⟨S4x2x6x2048, .f32⟩
  | .hbm, ⟨4, _⟩ => ⟨S2x4096x2048, .f32⟩
  | .hbm, ⟨5, _⟩ => ⟨S2x4096x2048, .f32⟩
  | .hbm, ⟨6, _⟩ => ⟨S1x2x6x2048, .f32⟩
  | .hbm, ⟨7, _⟩ => ⟨S2x6x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x2048, .f32⟩
  | .hbm, ⟨23, _⟩ => ⟨S2x4096x2048, .f32⟩
  | .hbm, ⟨24, _⟩ => ⟨S1x1x2048, .f32⟩
  | .hbm, ⟨25, _⟩ => ⟨S2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel8.lean ====
abbrev S8192x2048 : Shape := ⟨2, ![8192, 2048]⟩
abbrev S4x4x2048 : Shape := ⟨3, ![4, 4, 2048]⟩
abbrev S4x2x6x2048 : Shape := ⟨4, ![4, 2, 6, 2048]⟩
abbrev S1x2x6x2048 : Shape := ⟨4, ![1, 2, 6, 2048]⟩
abbrev S2x6x2048 : Shape := ⟨3, ![2, 6, 2048]⟩
abbrev S12x1x2048 : Shape := ⟨3, ![12, 1, 2048]⟩
abbrev S1x1x2048 : Shape := ⟨3, ![1, 1, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x4x2048, .f32⟩
  | .hbm, ⟨3, _⟩ => ⟨S4x2x6x2048, .f32⟩
  | .hbm, ⟨4, _⟩ => ⟨S1x2x6x2048, .f32⟩
  | .hbm, ⟨5, _⟩ => ⟨S2x6x2048, .f32⟩
  | .hbm, ⟨6, _⟩ => ⟨S12x1x2048, .f32⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8192x2048 : Shape := ⟨2, ![8192, 2048]⟩
abbrev S4x4x2048 : Shape := ⟨3, ![4, 4, 2048]⟩
abbrev S4x2x6x2048 : Shape := ⟨4, ![4, 2, 6, 2048]⟩
abbrev S2x4096x2048 : Shape := ⟨3, ![2, 4096, 2048]⟩
abbrev S1x2x6x2048 : Shape := ⟨4, ![1, 2, 6, 2048]⟩
abbrev S2x6x2048 : Shape := ⟨3, ![2, 6, 2048]⟩
abbrev S2x1x2048 : Shape := ⟨3, ![2, 1, 2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048 : Shape := ⟨1, ![2048]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x4x2048, .f32⟩
  | .hbm, ⟨3, _⟩ => ⟨S4x2x6x2048, .f32⟩
  | .hbm, ⟨4, _⟩ => ⟨S2x4096x2048, .f32⟩
  | .hbm, ⟨5, _⟩ => ⟨S2x4096x2048, .f32⟩
  | .hbm, ⟨6, _⟩ => ⟨S1x2x6x2048, .f32⟩
  | .hbm, ⟨7, _⟩ => ⟨S2x6x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S1x2x6x2048, .f32⟩
  | .hbm, ⟨12, _⟩ => ⟨S2x6x2048, .f32⟩
  | .hbm, ⟨13, _⟩ => ⟨S2x1x2048, .f32⟩
  | .hbm, ⟨14, _⟩ => ⟨S2x2048, .f32⟩
  | .hbm, ⟨15, _⟩ => ⟨S2x1x2048, .f32⟩
  | .hbm, ⟨16, _⟩ => ⟨S1x2x6x2048, .f32⟩
  | .hbm, ⟨17, _⟩ => ⟨S2x6x2048, .f32⟩
  | .hbm, ⟨18, _⟩ => ⟨S2x1x2048, .f32⟩
  | .hbm, ⟨19, _⟩ => ⟨S2x2048, .f32⟩
  | .hbm, ⟨20, _⟩ => ⟨S2x1x2048, .f32⟩
  | .hbm, ⟨21, _⟩ => ⟨S2x4096x2048, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x2048, .f32⟩
  | .hbm, ⟨33, _⟩ => ⟨S2x4096x2048, .f32⟩
  | .hbm, ⟨34, _⟩ => ⟨S1x1x2048, .f32⟩
  | .hbm, ⟨35, _⟩ => ⟨S2048, .f32⟩
  | .hbm, ⟨36, _⟩ => ⟨S1x1x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S_, .f32⟩
  | .hbm, ⟨44, _⟩ => ⟨S2x4096, .f32⟩
  | .hbm, ⟨45, _⟩ => ⟨S2x4096x1, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S_, .f32⟩
  | .hbm, ⟨50, _⟩ => ⟨S2x4096x1, .f32⟩
  | .hbm, ⟨51, _⟩ => ⟨S2x4096x1, .f32⟩
  | .hbm, ⟨52, _⟩ => ⟨S2x4096x1, .f32⟩
  | .hbm, ⟨53, _⟩ => ⟨S2x4096x2048, .f32⟩
  | .hbm, ⟨54, _⟩ => ⟨S2x4096x2048, .f32⟩
  | .hbm, ⟨55, _⟩ => ⟨S1x1x2048, .f32⟩
  | .hbm, ⟨56, _⟩ => ⟨S2048, .f32⟩
  | .hbm, ⟨57, _⟩ => ⟨S1x1x2048, .f32⟩
  | .hbm, ⟨58, _⟩ => ⟨S2x4096x2048, .f32⟩
  | .hbm, ⟨59, _⟩ => ⟨S2x4096x2048, .f32⟩
  | .hbm, ⟨60, _⟩ => ⟨S_, .f32⟩
  | .hbm, ⟨61, _⟩ => ⟨S2x1x2048, .f32⟩
  | .hbm, ⟨62, _⟩ => ⟨S2x1x2048, .f32⟩
  | .hbm, ⟨63, _⟩ => ⟨S2x4096x2048, .f32⟩
  | .hbm, ⟨64, _⟩ => ⟨S2x4096x2048, .f32⟩
  | .hbm, ⟨65, _⟩ => ⟨S2x4096x2048, .f32⟩
  | .hbm, ⟨66, _⟩ => ⟨S2x4096x2048, .f32⟩
  | .hbm, ⟨67, _⟩ => ⟨S8192x2048, .f32⟩
  | .hbm, ⟨68, _⟩ => ⟨S2x4096x2048, .bf16⟩
  | .hbm, ⟨69, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩

abbrev nD : Nat := 1
abbrev τ : Topo := Topo.v7x

variable {F : FTy → Type} [FloatOps F]
-- ==== Kernel9.lean ====
abbrev S8192x2048 : Shape := ⟨2, ![8192, 2048]⟩
abbrev S4x4x2048 : Shape := ⟨3, ![4, 4, 2048]⟩
abbrev S4x2x6x2048 : Shape := ⟨4, ![4, 2, 6, 2048]⟩
abbrev S1x1x2048 : Shape := ⟨3, ![1, 1, 2048]⟩
abbrev S2048 : Shape := ⟨1, ![2048]⟩
abbrev S1x2x6x2048 : Shape := ⟨4, ![1, 2, 6, 2048]⟩
abbrev S2x6x2048 : Shape := ⟨3, ![2, 6, 2048]⟩
abbrev S12x1x2048 : Shape := ⟨3, ![12, 1, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S4x4x2048, .f32⟩
  | .hbm, ⟨2, _⟩ => ⟨S4x2x6x2048, .f32⟩
  | .hbm, ⟨3, _⟩ => ⟨S1x1x2048, .f32⟩
  | .hbm, ⟨4, _⟩ => ⟨S2048, .f32⟩
  | .hbm, ⟨5, _⟩ => ⟨S1x2x6x2048, .f32⟩
  | .hbm, ⟨6, _⟩ => ⟨S2x6x2048, .f32⟩
  | .hbm, ⟨7, _⟩ => ⟨S12x1x2048, .f32⟩
  | .hbm, ⟨8, _⟩ => ⟨S1x2048, .f32⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x2048 : Shape := ⟨2, ![8192, 2048]⟩
abbrev S4x4x2048 : Shape := ⟨3, ![4, 4, 2048]⟩
abbrev S4x2x6x2048 : Shape := ⟨4, ![4, 2, 6, 2048]⟩
abbrev S2x4096x2048 : Shape := ⟨3, ![2, 4096, 2048]⟩
abbrev S1x2x6x2048 : Shape := ⟨4, ![1, 2, 6, 2048]⟩
abbrev S2x6x2048 : Shape := ⟨3, ![2, 6, 2048]⟩
abbrev S2x1x2048 : Shape := ⟨3, ![2, 1, 2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048 : Shape := ⟨1, ![2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x4x2048, .f32⟩
  | .hbm, ⟨2, _⟩ => ⟨S4x2x6x2048, .f32⟩
  | .hbm, ⟨3, _⟩ => ⟨S2x4096x2048, .f32⟩
  | .hbm, ⟨4, _⟩ => ⟨S1x2x6x2048, .f32⟩
  | .hbm, ⟨5, _⟩ => ⟨S2x6x2048, .f32⟩
  | .hbm, ⟨6, _⟩ => ⟨S2x1x2048, .f32⟩
  | .hbm, ⟨7, _⟩ => ⟨S2x2048, .f32⟩
  | .hbm, ⟨8, _⟩ => ⟨S2x1x2048, .f32⟩
  | .hbm, ⟨9, _⟩ => ⟨S1x2x6x2048, .f32⟩
  | .hbm, ⟨10, _⟩ => ⟨S2x6x2048, .f32⟩
  | .hbm, ⟨11, _⟩ => ⟨S2x1x2048, .f32⟩
  | .hbm, ⟨12, _⟩ => ⟨S2x2048, .f32⟩
  | .hbm, ⟨13, _⟩ => ⟨S2x1x2048, .f32⟩
  | .hbm, ⟨14, _⟩ => ⟨S2x4096x2048, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S1x1x2048, .f32⟩
  | .hbm, ⟨28, _⟩ => ⟨S2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S2x4096x2048, .bf16⟩
  | .hbm, ⟨40, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Proof.PlainLeft.lean ====
module

public import proofs.«01_k».proof.Proof.PlainTrip
public import proofs.«01_k».proof.Proof.PlainFill

/-! What one grid point of the attention kernel leaves: its block of the result and the scratches. -/

@[expose] public section

set_option maxRecDepth 16384

noncomputable section

namespace Cert.Kernel.Fox
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 8000000

local notation "𝕄G" => MT nD τ sig Unit (Elt F) ℕ (UR sig nD τ) ℕ

/-- What a grid point whose diagonal block is block `j` leaves: its block of the result, the two filled scratches, and the other
    scratches with anything in them. -/
def left (arg3 : Memref sig .tc .vmem S512x128 .bf16) (arg4 : Memref sig .tc .vmem S4096x128 .bf16) (arg5 : Memref sig .tc .vmem S4096x128 .bf16) (arg6 : Memref sig .tc .vmem S1x1x1x4096 .f32) (arg7 : Memref sig .tc .vmem S512x128 .bf16) (arg8 : Memref sig .tc .vmem S144x4096 .bf16) (arg9 : Memref sig .tc .vmem S4096x128 .f32) (arg10 : Memref sig .tc .vmem S2x512x512 .f32) (arg11 : Memref sig .tc .vmem S1x512 .f32) (arg12 : Memref sig .tc .vmem S144x512 .f32) (c : Dev nD) (X3 : BufTy.Contents (Elt F) arg3.view.ty) (X4 : BufTy.Contents (Elt F) arg4.view.ty)
    (X5 : BufTy.Contents (Elt F) arg5.view.ty) (X6 : BufTy.Contents (Elt F) arg6.view.ty) (j : ℕ) : sProp 𝕄G :=
  iprop(∃ (g7 : BufTy.Contents (Elt F) arg7.view.ty) (g8 : BufTy.Contents (Elt F) arg8.view.ty) (g9 : BufTy.Contents (Elt F) arg9.view.ty)
      (g10 : BufTy.Contents (Elt F) arg10.view.ty) (g11 : BufTy.Contents (Elt F) arg11.view.ty) (g12 : BufTy.Contents (Elt F) arg12.view.ty),
    ⌜arg7.view.read (Elt F) g7 = out (arg4.view.read (Elt F) X4) (arg3.view.read (Elt F) X3) (fcOf (arg6.view.read (Elt F) X6)) (vtOf (arg5.view.read (Elt F) X5)) j
      ∧ arg8.view.read (Elt F) g8 = vtOf (arg5.view.read (Elt F) X5) ∧ arg9.view.read (Elt F) g9 = fcOf (arg6.view.read (Elt F) X6)⌝ ∗
        (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12))

theorem out_of_halves {K : Vec F S4096x128 .bf16} {Q : Vec F S512x128 .bf16} {FC : Vec F S4096x128 .f32} {VT : Vec F S144x4096 .bf16} {j : ℕ}
    {Z : Vec F S144x512 .f32} (h0 : halfA 0 Z = fin K Q FC VT j 0) (h1 : halfA 1 Z = fin K Q FC VT j 1) :
    k0_pay3 (topRows Z) (onesRow Z) = out K Q FC VT j := by
  rw [both_halves Z (fin K Q FC VT j) h0 h1]; rfl

end Cert.Kernel.Fox
-- ==== Proof.IdealSpec.lean ====
module

public import Idealize.ShloMosaic.Lib.Pointwise.Index
public import proofs.«01_k».proof.Proof.Gen.KernelIdeal.Skeleton
public import Idealize.ShloMosaic.Lib.WritesUnit

/-! What one grid point of the attention kernel computes, as functions of whole arrays: the running maximum and the running weighted sum of one half of the queries, one block of 512 keys at a time, and the block of the result they end in. -/

@[expose] public section

set_option maxRecDepth 16384

noncomputable section

namespace Cert.KernelIdeal.Fox
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Rows `512 * j ..` of an array of 4096 rows. -/
def rows {α : Type} (A : S4096x128.Idx → α) (j : ℕ) : S512x128.Idx → α :=
  fun x => A (ix2 (⟨(512 * j + (x 0).val) % 4096, Nat.mod_lt _ (by omega)⟩ : Fin 4096) (x 1 : Fin 128))

/-- Columns `512 * j ..` of the transposed values. -/
def cols {α : Type} (A : S144x4096.Idx → α) (j : ℕ) : S144x512.Idx → α :=
  fun x => A (ix2 (x 0 : Fin 144) (⟨(512 * j + (x 1).val) % 4096, Nat.mod_lt _ (by omega)⟩ : Fin 4096))

/-- Lanes `256 * h ..` of a row of 512. -/
def lane (h : Fin 2) (x : Fin 256) : Fin 512 := ⟨256 * h.val + x.val, by omega⟩

/-- One half of the running maximum. -/
def halfM {α : Type} (h : Fin 2) (A : S1x512.Idx → α) : S1x256.Idx → α := fun x => A (ix2 (x 0 : Fin 1) (lane h (x 1)))

/-- One half of the running sum. -/
def halfA {α : Type} (h : Fin 2) (A : S144x512.Idx → α) : S144x256.Idx → α := fun x => A (ix2 (x 0 : Fin 144) (lane h (x 1)))

/-- One half of the scores of a block. -/
def halfS {α : Type} (h : Fin 2) (A : S1x512x512.Idx → α) : S1x512x256.Idx → α :=
  fun x => A (ix3 (x 0 : Fin 1) (x 1 : Fin 512) (lane h (x 2)))

/-- The scores of the first 256 keys against the first 256 queries. -/
def cornerS {α : Type} (A : S1x512x512.Idx → α) : S1x256x256.Idx → α :=
  fun x => A (ix3 (x 0 : Fin 1) (lane 0 (x 1)) (lane 0 (x 2)))

/-- The new maximum after a block of keys that all precede the queries. -/
def tileM (fc : Vec F S512x128 .f32) (s : Vec F S1x512x256 .f32) (m : Vec F S1x256 .f32) : Vec F S1x256 .f32 :=
  k0_pay30 (k0_pay28 fc s m)

/-- The new sum after a block of keys that all precede the queries. -/
def tileA (vt : Vec F S144x512 .bf16) (fc : Vec F S512x128 .f32) (s : Vec F S1x512x256 .f32) (m : Vec F S1x256 .f32)
    (a : Vec F S144x256 .f32) : Vec F S144x256 .f32 :=
  k0_pay31 vt m (k0_pay28 fc s m) (k0_pay29 fc s m) a

/-- The final sum of the first half of the queries: the diagonal block, of which they see the first 256 keys. -/
def diagA0 (vt : Vec F S144x512 .bf16) (fc : Vec F S512x128 .f32) (s : Vec F S1x256x256 .f32) (m : Vec F S1x256 .f32)
    (a : Vec F S144x256 .f32) : Vec F S144x256 .f32 :=
  k0_pay62 vt (k0_pay59 fc s) m (k0_pay60 fc s m) a

/-- The final sum of the second half of the queries: the diagonal block. -/
def diagA1 (vt : Vec F S144x512 .bf16) (fc : Vec F S512x128 .f32) (s : Vec F S1x512x256 .f32) (m : Vec F S1x256 .f32)
    (a : Vec F S144x256 .f32) : Vec F S144x256 .f32 :=
  k0_pay2 vt m (k0_pay90 (k0_pay80 fc) s m) (k0_pay91 (k0_pay80 fc) s m) a

/-- Maximum and sum of half `h` of the queries after the first `j` blocks of keys, all of them before the queries. -/
def st (K : Vec F S4096x128 .bf16) (Q : Vec F S512x128 .bf16) (FC : Vec F S4096x128 .f32) (VT : Vec F S144x4096 .bf16)
    (h : Fin 2) : ℕ → Vec F S1x256 .f32 × Vec F S144x256 .f32
  | 0 => (halfM h k0_pay95, halfA h k0_pay96)
  | j + 1 => (tileM (rows FC j) (halfS h (k0_pay10 (rows K j) Q)) (st K Q FC VT h j).1,
      tileA (cols VT j) (rows FC j) (halfS h (k0_pay10 (rows K j) Q)) (st K Q FC VT h j).1 (st K Q FC VT h j).2)

/-- The final sum of half `h`, when the diagonal block is block `j`. -/
def fin (K : Vec F S4096x128 .bf16) (Q : Vec F S512x128 .bf16) (FC : Vec F S4096x128 .f32) (VT : Vec F S144x4096 .bf16)
    (j : ℕ) (h : Fin 2) : Vec F S144x256 .f32 :=
  if h = 0 then
    diagA0 (cols VT j) (rows FC j) (cornerS (k0_pay10 (rows K j) Q)) (st K Q FC VT 0 j).1 (st K Q FC VT 0 j).2
  else
    diagA1 (cols VT j) (rows FC j) (halfS 1 (k0_pay10 (rows K j) Q)) (st K Q FC VT 1 j).1 (st K Q FC VT 1 j).2

/-- Both halves of the final sum side by side. -/
def both {α : Type} (A : Fin 2 → S144x256.Idx → α) : S144x512.Idx → α :=
  fun x => if h : (x 1).val < 256 then A 0 (ix2 (x 0 : Fin 144) (⟨(x 1).val, h⟩ : Fin 256))
    else A 1 (ix2 (x 0 : Fin 144) (⟨(x 1).val - 256, by have := (x 1).isLt; simp only [Matrix.cons_val_one, Matrix.cons_val_zero] at this; omega⟩ : Fin 256))

/-- The rows of the sum that weigh the values. -/
def topRows {α : Type} (A : S144x512.Idx → α) : S128x512.Idx → α :=
  fun x => A (ix2 (⟨(x 0).val, by have := (x 0).isLt; simp only [Matrix.cons_val_zero] at this; omega⟩ : Fin 144) (x 1 : Fin 512))

/-- The row of the sum that weighs ones: the sum of the weights. -/
def onesRow {α : Type} (A : S144x512.Idx → α) : S1x512.Idx → α :=
  fun x => A (ix2 (⟨128, by omega⟩ : Fin 144) (x 1 : Fin 512))

/-- The block of the result at a grid point whose diagonal block is block `j`. -/
def out (K : Vec F S4096x128 .bf16) (Q : Vec F S512x128 .bf16) (FC : Vec F S4096x128 .f32) (VT : Vec F S144x4096 .bf16)
    (j : ℕ) : Vec F S512x128 .bf16 :=
  k0_pay3 (topRows (both (fin K Q FC VT j))) (onesRow (both (fin K Q FC VT j)))

/-- The values transposed, below them sixteen rows of ones. -/
def vtOf (V : Vec F S4096x128 .bf16) : Vec F S144x4096 .bf16 :=
  fun x => if h : (x 0).val < 128 then
      FloatOps.truncf .bf16 bitsLt_bf16_f32 (FloatOps.extf .f32 bitsLt_bf16_f32 (V (ix2 (x 1 : Fin 4096) (⟨(x 0).val, h⟩ : Fin 128))))
    else Scalar.ofBits .bf16 0x3F80#16

/-- The forget row turned into a column, repeated over 128 lanes, in base-two exponents. -/
def fcOf (R : Vec F S1x1x1x4096 .f32) : Vec F S4096x128 .f32 :=
  fun x => FloatOps.mulf (R (ix4 (0 : Fin 1) (0 : Fin 1) (0 : Fin 1) (x 0 : Fin 4096))) (Named.named κ "log2e" 0x3FB8AA3B#32)

theorem fin_zero (K : Vec F S4096x128 .bf16) (Q : Vec F S512x128 .bf16) (FC : Vec F S4096x128 .f32) (VT : Vec F S144x4096 .bf16)
    (j : ℕ) : fin K Q FC VT j 0 =
      diagA0 (cols VT j) (rows FC j) (cornerS (k0_pay10 (rows K j) Q)) (st K Q FC VT 0 j).1 (st K Q FC VT 0 j).2 := if_pos rfl

theorem fin_one (K : Vec F S4096x128 .bf16) (Q : Vec F S512x128 .bf16) (FC : Vec F S4096x128 .f32) (VT : Vec F S144x4096 .bf16)
    (j : ℕ) : fin K Q FC VT j 1 =
      diagA1 (cols VT j) (rows FC j) (halfS 1 (k0_pay10 (rows K j) Q)) (st K Q FC VT 1 j).1 (st K Q FC VT 1 j).2 := if_neg (by decide)

/-! ## The printed pieces are these functions -/

section
variable (vt : Vec F S144x512 .bf16) (fc : Vec F S512x128 .f32) (s : Vec F S1x512x256 .f32) (c : Vec F S1x256x256 .f32)
  (m : Vec F S1x256 .f32) (a : Vec F S144x256 .f32)

theorem m16 : k0_pay16 m (k0_pay13 fc s) (k0_pay14 fc s) = tileM fc s m := rfl
theorem a17 : k0_pay17 vt (k0_pay12 fc s) m (k0_pay13 fc s) (k0_pay14 fc s) a = tileA vt fc s m a := rfl
theorem m22 : k0_pay22 m (k0_pay19 (k0_pay11 fc) s) (k0_pay20 (k0_pay11 fc) s) = tileM fc s m := rfl
theorem a23 : k0_pay23 vt (k0_pay18 (k0_pay11 fc) s) m (k0_pay19 (k0_pay11 fc) s) (k0_pay20 (k0_pay11 fc) s) a = tileA vt fc s m a := rfl
theorem m99 : k0_pay99 m (k0_pay33 (k0_pay26 fc) s) = tileM fc s m := rfl
theorem a100 : k0_pay100 vt (k0_pay32 (k0_pay26 fc) s) m (k0_pay33 (k0_pay26 fc) s) a = tileA vt fc s m a := rfl
theorem m72 : k0_pay72 m (k0_pay69 fc s) (k0_pay70 fc s) = tileM fc s m := rfl
theorem a73 : k0_pay73 vt (k0_pay68 fc s) m (k0_pay69 fc s) (k0_pay70 fc s) a = tileA vt fc s m a := rfl
theorem m78 : k0_pay78 m (k0_pay75 (k0_pay67 fc) s) (k0_pay76 (k0_pay67 fc) s) = tileM fc s m := rfl
theorem a79 : k0_pay79 vt (k0_pay74 (k0_pay67 fc) s) m (k0_pay75 (k0_pay67 fc) s) (k0_pay76 (k0_pay67 fc) s) a = tileA vt fc s m a := rfl
theorem a88 : k0_pay88 (k0_pay85 (k0_pay80 fc) (k0_pay81 c) m a) (k0_pay86 vt) (k0_pay87 (k0_pay80 fc) (k0_pay81 c) m) = diagA0 vt fc c m a := rfl
theorem a106 : k0_pay106 vt (k0_pay63 (k0_pay58 fc) s) m (k0_pay64 (k0_pay58 fc) s) (k0_pay65 (k0_pay58 fc) s) a = diagA1 vt fc s m a := rfl
end
theorem s97 (k q : Vec F S512x128 .bf16) : k0_pay97 k q = k0_pay10 k q := rfl
theorem s66 (k q : Vec F S512x128 .bf16) : k0_pay66 k q = k0_pay10 k q := rfl
theorem s25 (k q : Vec F S512x128 .bf16) : k0_pay25 (k0_pay24 k q) = k0_pay10 k q := rfl

end Cert.KernelIdeal.Fox
-- ==== Proof.IdealGeom.lean ====
module

public import proofs.«01_k».proof.Proof.IdealSpec
public import Mathlib.Tactic.IntervalCases

/-! Where the attention kernel's loads and stores fall: closed forms of the computed offsets, and what a load of a half, a block or a slot reads after the stores before it. -/

@[expose] public section

set_option maxRecDepth 16384

noncomputable section

namespace Cert.KernelIdeal.Fox
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## Conditions, trip counts and offsets -/

theorem cond1_iff (i : grid0.Coords) : k0_cond1 i = 1#1 ↔ (i 2).val = 0 := by
  have h : (i 2).val < 8 := (i 2).isLt
  unfold k0_cond1
  generalize (i 2).val = n at h
  interval_cases n <;> decide

theorem cond2_iff (i : grid0.Coords) : k0_cond2 i = 1#1 ↔ (i 2).val % 2 = 0 := by
  have h : (i 2).val < 8 := (i 2).isLt
  unfold k0_cond2
  generalize (i 2).val = n at h
  interval_cases n <;> decide

theorem cond3_iff (i : grid0.Coords) : k0_cond3 i = 1#1 ↔ (i 2).val % 2 = 1 := by
  have h : (i 2).val < 8 := (i 2).isLt
  unfold k0_cond3
  generalize (i 2).val = n at h
  interval_cases n <;> decide

theorem trips1 : k0_t1_loop.trips = 8 := by decide

theorem trips2 (i : grid0.Coords) : (k0_t2_loop i).trips = (i 2).val / 2 := by
  have h : (i 2).val < 8 := (i 2).isLt
  unfold k0_t2_loop
  generalize (i 2).val = n at h
  interval_cases n <;> decide

theorem trips3 (i : grid0.Coords) : (k0_t3_loop i).trips = 0 := by
  have := (k0_t3_abs i).2.1
  omega

theorem lt3 (i : grid0.Coords) (k : Fin (k0_t2_loop i).trips) : k.val < 3 := by
  have h := lt_of_lt_of_eq k.isLt (trips2 i)
  have h2 : (i 2).val < 8 := (i 2).isLt
  omega

theorem off4a (i : grid0.Coords) (k : Fin (k0_t2_loop i).trips) : k0_off4 i k 1#32 = ![512 * (2 * k.val + 1), 0] := by
  have h := lt3 i k
  unfold k0_off4
  generalize k.val = n at h
  interval_cases n <;> rfl

theorem off4b (i : grid0.Coords) (k : Fin (k0_t2_loop i).trips) : k0_off4 i k 2#32 = ![512 * (2 * k.val + 1 + 1), 0] := by
  have h := lt3 i k
  unfold k0_off4
  generalize k.val = n at h
  interval_cases n <;> rfl

theorem off5 (i : grid0.Coords) (k : Fin (k0_t2_loop i).trips) : k0_off5 i k = ![512 * (2 * k.val), 0] := by
  have h := lt3 i k
  unfold k0_off5
  generalize k.val = n at h
  interval_cases n <;> rfl

theorem off6 (i : grid0.Coords) (k : Fin (k0_t2_loop i).trips) : k0_off6 i k = ![0, 512 * (2 * k.val)] := by
  have h := lt3 i k
  unfold k0_off6
  generalize k.val = n at h
  interval_cases n <;> rfl

theorem off7 (i : grid0.Coords) (k : Fin (k0_t2_loop i).trips) : k0_off7 i k = ![0, 512 * (2 * k.val + 1)] := by
  have h := lt3 i k
  unfold k0_off7
  generalize k.val = n at h
  interval_cases n <;> rfl

theorem off15 (i : grid0.Coords) (hi : (i 2).val % 2 = 1) : k0_off15 i = ![512 * ((i 2).val - 1), 0] := by
  have h : (i 2).val < 8 := (i 2).isLt
  unfold k0_off15
  generalize (i 2).val = n at h hi
  interval_cases n <;> first | rfl | omega

theorem off16 (i : grid0.Coords) (hi : (i 2).val % 2 = 1) : k0_off16 i = ![0, 512 * ((i 2).val - 1)] := by
  have h : (i 2).val < 8 := (i 2).isLt
  unfold k0_off16
  generalize (i 2).val = n at h hi
  interval_cases n <;> first | rfl | omega

/-! ## Loads -/

section
variable {sg : RefSig} {κ' : Kind} {sp : Space} {e : EltTy}

/-- A load after covering stores is a load of what they leave. -/
theorem readCov_def {s : Shape} (v : View sg κ' sp s e) (L : List (View.Piece (Elt F) s e)) (B : LoadRect s) :
    v.readCov L B = v.readAt (Elt F) B (v.writes (Elt F) v.junk L) := rfl

theorem ld_rows (v : View sg κ' sp S4096x128 e) (f : v.ty.Contents (Elt F)) {off : Fin 2 → ℕ}
    (inb : ∀ a, off a + S512x128.size a ≤ S4096x128.size a) (j : ℕ) (hj : j < 8) (h : off = ![512 * j, 0]) :
    v.readAt (Elt F) (Rect.unit (s := S4096x128) off S512x128.size inb).toLoadRect f = rows (v.read (Elt F) f) j := by
  subst h
  funext x
  have h0 : (x 0).val < 512 := (x 0).isLt
  exact congrArg (v.read (Elt F) f) (funext (Fin.forall_fin_two.mpr
    ⟨Fin.ext (by show 512 * j + 1 * (x 0).val = (512 * j + (x 0).val) % 4096; omega),
     Fin.ext (by show 0 + 1 * (x 1).val = (x 1).val; omega)⟩))

theorem ld_cols (v : View sg κ' sp S144x4096 e) (f : v.ty.Contents (Elt F)) {off : Fin 2 → ℕ}
    (inb : ∀ a, off a + S144x512.size a ≤ S144x4096.size a) (j : ℕ) (hj : j < 8) (h : off = ![0, 512 * j]) :
    v.readAt (Elt F) (Rect.unit (s := S144x4096) off S144x512.size inb).toLoadRect f = cols (v.read (Elt F) f) j := by
  subst h
  funext x
  have h1 : (x 1).val < 512 := (x 1).isLt
  exact congrArg (v.read (Elt F) f) (funext (Fin.forall_fin_two.mpr
    ⟨Fin.ext (by show 0 + 1 * (x 0).val = (x 0).val; omega),
     Fin.ext (by show 512 * j + 1 * (x 1).val = (512 * j + (x 1).val) % 4096; omega)⟩))

theorem ld_all (v : View sg κ' sp S512x128 e) (f : v.ty.Contents (Elt F))
    (inb : ∀ a, (![0, 0] : Fin 2 → ℕ) a + S512x128.size a ≤ S512x128.size a) :
    v.readAt (Elt F) (Rect.unit (s := S512x128) ![0, 0] S512x128.size inb).toLoadRect f = v.read (Elt F) f := by
  funext x
  exact congrArg (v.read (Elt F) f) (funext (Fin.forall_fin_two.mpr
    ⟨Fin.ext (by show 0 + 1 * (x 0).val = (x 0).val; omega),
     Fin.ext (by show 0 + 1 * (x 1).val = (x 1).val; omega)⟩))

theorem ldM0 (v : View sg κ' sp S1x512 e) (f : v.ty.Contents (Elt F))
    (inb : ∀ a, (![0, 0] : Fin 2 → ℕ) a + S1x256.size a ≤ S1x512.size a) :
    v.readAt (Elt F) (Rect.unit (s := S1x512) ![0, 0] S1x256.size inb).toLoadRect f = halfM 0 (v.read (Elt F) f) := by
  funext x
  exact congrArg (v.read (Elt F) f) (funext (Fin.forall_fin_two.mpr
    ⟨Fin.ext (by show 0 + 1 * (x 0).val = (x 0).val; omega),
     Fin.ext (by show 0 + 1 * (x 1).val = 256 * 0 + (x 1).val; omega)⟩))

theorem stM0 (v : View sg κ' sp S1x512 e) (f : v.ty.Contents (Elt F))
    (inb : ∀ a, (![0, 0] : Fin 2 → ℕ) a + S1x256.size a ≤ S1x512.size a)
    (w : S1x256.Idx → Elt F e) (L : List (View.Piece (Elt F) S1x512 e)) :
    halfM 0 (v.read (Elt F) (v.writes (Elt F) f ((⟨Rect.unit (s := S1x512) ![0, 0] S1x256.size inb, w⟩ : View.Piece (Elt F) S1x512 e) :: L))) = w := by
  funext x
  exact View.read_writes_cons_unit_of_mem v f inb w L _ x rfl (Fin.forall_fin_two.mpr
    ⟨by show (x 0).val = 0 + (x 0).val; omega, by show 256 * 0 + (x 1).val = 0 + (x 1).val; omega⟩)

theorem stM0_1 (v : View sg κ' sp S1x512 e) (f : v.ty.Contents (Elt F))
    (inb : ∀ a, (![0, 0] : Fin 2 → ℕ) a + S1x256.size a ≤ S1x512.size a)
    (w : S1x256.Idx → Elt F e) (L : List (View.Piece (Elt F) S1x512 e)) :
    halfM 1 (v.read (Elt F) (v.writes (Elt F) f ((⟨Rect.unit (s := S1x512) ![0, 0] S1x256.size inb, w⟩ : View.Piece (Elt F) S1x512 e) :: L)))
      = halfM 1 (v.read (Elt F) (v.writes (Elt F) f L)) := by
  funext x
  have h1 : (x 1).val < 256 := (x 1).isLt
  exact View.read_writes_cons_unit_of_not_mem v f inb w L _ rfl 1 (by
    show 256 * 1 + (x 1).val < 0 ∨ 0 + 256 ≤ 256 * 1 + (x 1).val; omega)

theorem ldM1 (v : View sg κ' sp S1x512 e) (f : v.ty.Contents (Elt F))
    (inb : ∀ a, (![0, 256] : Fin 2 → ℕ) a + S1x256.size a ≤ S1x512.size a) :
    v.readAt (Elt F) (Rect.unit (s := S1x512) ![0, 256] S1x256.size inb).toLoadRect f = halfM 1 (v.read (Elt F) f) := by
  funext x
  exact congrArg (v.read (Elt F) f) (funext (Fin.forall_fin_two.mpr
    ⟨Fin.ext (by show 0 + 1 * (x 0).val = (x 0).val; omega),
     Fin.ext (by show 256 + 1 * (x 1).val = 256 * 1 + (x 1).val; omega)⟩))

theorem stM1 (v : View sg κ' sp S1x512 e) (f : v.ty.Contents (Elt F))
    (inb : ∀ a, (![0, 256] : Fin 2 → ℕ) a + S1x256.size a ≤ S1x512.size a)
    (w : S1x256.Idx → Elt F e) (L : List (View.Piece (Elt F) S1x512 e)) :
    halfM 1 (v.read (Elt F) (v.writes (Elt F) f ((⟨Rect.unit (s := S1x512) ![0, 256] S1x256.size inb, w⟩ : View.Piece (Elt F) S1x512 e) :: L))) = w := by
  funext x
  exact View.read_writes_cons_unit_of_mem v f inb w L _ x rfl (Fin.forall_fin_two.mpr
    ⟨by show (x 0).val = 0 + (x 0).val; omega, by show 256 * 1 + (x 1).val = 256 + (x 1).val; omega⟩)

theorem stM1_0 (v : View sg κ' sp S1x512 e) (f : v.ty.Contents (Elt F))
    (inb : ∀ a, (![0, 256] : Fin 2 → ℕ) a + S1x256.size a ≤ S1x512.size a)
    (w : S1x256.Idx → Elt F e) (L : List (View.Piece (Elt F) S1x512 e)) :
    halfM 0 (v.read (Elt F) (v.writes (Elt F) f ((⟨Rect.unit (s := S1x512) ![0, 256] S1x256.size inb, w⟩ : View.Piece (Elt F) S1x512 e) :: L)))
      = halfM 0 (v.read (Elt F) (v.writes (Elt F) f L)) := by
  funext x
  have h1 : (x 1).val < 256 := (x 1).isLt
  exact View.read_writes_cons_unit_of_not_mem v f inb w L _ rfl 1 (by
    show 256 * 0 + (x 1).val < 256 ∨ 256 + 256 ≤ 256 * 0 + (x 1).val; omega)

theorem stM_all (v : View sg κ' sp S1x512 e) (f : v.ty.Contents (Elt F))
    (inb : ∀ a, (![0, 0] : Fin 2 → ℕ) a + S1x512.size a ≤ S1x512.size a)
    (w : S1x512.Idx → Elt F e) (L : List (View.Piece (Elt F) S1x512 e)) :
    v.read (Elt F) (v.writes (Elt F) f ((⟨Rect.unit (s := S1x512) ![0, 0] S1x512.size inb, w⟩ : View.Piece (Elt F) S1x512 e) :: L)) = w := by
  funext x
  exact View.read_writes_cons_unit_of_mem v f inb w L _ x rfl (Fin.forall_fin_two.mpr
    ⟨by show (x 0).val = 0 + (x 0).val; omega, by show (x 1).val = 0 + (x 1).val; omega⟩)

theorem ldA0 (v : View sg κ' sp S144x512 e) (f : v.ty.Contents (Elt F))
    (inb : ∀ a, (![0, 0] : Fin 2 → ℕ) a + S144x256.size a ≤ S144x512.size a) :
    v.readAt (Elt F) (Rect.unit (s := S144x512) ![0, 0] S144x256.size inb).toLoadRect f = halfA 0 (v.read (Elt F) f) := by
  funext x
  exact congrArg (v.read (Elt F) f) (funext (Fin.forall_fin_two.mpr
    ⟨Fin.ext (by show 0 + 1 * (x 0).val = (x 0).val; omega),
     Fin.ext (by show 0 + 1 * (x 1).val = 256 * 0 + (x 1).val; omega)⟩))

theorem stA0 (v : View sg κ' sp S144x512 e) (f : v.ty.Contents (Elt F))
    (inb : ∀ a, (![0, 0] : Fin 2 → ℕ) a + S144x256.size a ≤ S144x512.size a)
    (w : S144x256.Idx → Elt F e) (L : List (View.Piece (Elt F) S144x512 e)) :
    halfA 0 (v.read (Elt F) (v.writes (Elt F) f ((⟨Rect.unit (s := S144x512) ![0, 0] S144x256.size inb, w⟩ : View.Piece (Elt F) S144x512 e) :: L))) = w := by
  funext x
  exact View.read_writes_cons_unit_of_mem v f inb w L _ x rfl (Fin.forall_fin_two.mpr
    ⟨by show (x 0).val = 0 + (x 0).val; omega, by show 256 * 0 + (x 1).val = 0 + (x 1).val; omega⟩)

theorem stA0_1 (v : View sg κ' sp S144x512 e) (f : v.ty.Contents (Elt F))
    (inb : ∀ a, (![0, 0] : Fin 2 → ℕ) a + S144x256.size a ≤ S144x512.size a)
    (w : S144x256.Idx → Elt F e) (L : List (View.Piece (Elt F) S144x512 e)) :
    halfA 1 (v.read (Elt F) (v.writes (Elt F) f ((⟨Rect.unit (s := S144x512) ![0, 0] S144x256.size inb, w⟩ : View.Piece (Elt F) S144x512 e) :: L)))
      = halfA 1 (v.read (Elt F) (v.writes (Elt F) f L)) := by
  funext x
  have h1 : (x 1).val < 256 := (x 1).isLt
  exact View.read_writes_cons_unit_of_not_mem v f inb w L _ rfl 1 (by
    show 256 * 1 + (x 1).val < 0 ∨ 0 + 256 ≤ 256 * 1 + (x 1).val; omega)

theorem ldA1 (v : View sg κ' sp S144x512 e) (f : v.ty.Contents (Elt F))
    (inb : ∀ a, (![0, 256] : Fin 2 → ℕ) a + S144x256.size a ≤ S144x512.size a) :
    v.readAt (Elt F) (Rect.unit (s := S144x512) ![0, 256] S144x256.size inb).toLoadRect f = halfA 1 (v.read (Elt F) f) := by
  funext x
  exact congrArg (v.read (Elt F) f) (funext (Fin.forall_fin_two.mpr
    ⟨Fin.ext (by show 0 + 1 * (x 0).val = (x 0).val; omega),
     Fin.ext (by show 256 + 1 * (x 1).val = 256 * 1 + (x 1).val; omega)⟩))

theorem stA1 (v : View sg κ' sp S144x512 e) (f : v.ty.Contents (Elt F))
    (inb : ∀ a, (![0, 256] : Fin 2 → ℕ) a + S144x256.size a ≤ S144x512.size a)
    (w : S144x256.Idx → Elt F e) (L : List (View.Piece (Elt F) S144x512 e)) :
    halfA 1 (v.read (Elt F) (v.writes (Elt F) f ((⟨Rect.unit (s := S144x512) ![0, 256] S144x256.size inb, w⟩ : View.Piece (Elt F) S144x512 e) :: L))) = w := by
  funext x
  exact View.read_writes_cons_unit_of_mem v f inb w L _ x rfl (Fin.forall_fin_two.mpr
    ⟨by show (x 0).val = 0 + (x 0).val; omega, by show 256 * 1 + (x 1).val = 256 + (x 1).val; omega⟩)

theorem stA1_0 (v : View sg κ' sp S144x512 e) (f : v.ty.Contents (Elt F))
    (inb : ∀ a, (![0, 256] : Fin 2 → ℕ) a + S144x256.size a ≤ S144x512.size a)
    (w : S144x256.Idx → Elt F e) (L : List (View.Piece (Elt F) S144x512 e)) :
    halfA 0 (v.read (Elt F) (v.writes (Elt F) f ((⟨Rect.unit (s := S144x512) ![0, 256] S144x256.size inb, w⟩ : View.Piece (Elt F) S144x512 e) :: L)))
      = halfA 0 (v.read (Elt F) (v.writes (Elt F) f L)) := by
  funext x
  have h1 : (x 1).val < 256 := (x 1).isLt
  exact View.read_writes_cons_unit_of_not_mem v f inb w L _ rfl 1 (by
    show 256 * 0 + (x 1).val < 256 ∨ 256 + 256 ≤ 256 * 0 + (x 1).val; omega)

theorem stA_all (v : View sg κ' sp S144x512 e) (f : v.ty.Contents (Elt F))
    (inb : ∀ a, (![0, 0] : Fin 2 → ℕ) a + S144x512.size a ≤ S144x512.size a)
    (w : S144x512.Idx → Elt F e) (L : List (View.Piece (Elt F) S144x512 e)) :
    v.read (Elt F) (v.writes (Elt F) f ((⟨Rect.unit (s := S144x512) ![0, 0] S144x512.size inb, w⟩ : View.Piece (Elt F) S144x512 e) :: L)) = w := by
  funext x
  exact View.read_writes_cons_unit_of_mem v f inb w L _ x rfl (Fin.forall_fin_two.mpr
    ⟨by show (x 0).val = 0 + (x 0).val; omega, by show (x 1).val = 0 + (x 1).val; omega⟩)

/-- Slot `σ` of the two score buffers. -/
def slot {α : Type} (σ : Fin 2) (A : S2x512x512.Idx → α) : S1x512x512.Idx → α :=
  fun x => A (ix3 σ (x 1 : Fin 512) (x 2 : Fin 512))

theorem ldS00 (v : View sg κ' sp S2x512x512 e) (f : v.ty.Contents (Elt F))
    (inb : ∀ a, (![0, 0, 0] : Fin 3 → ℕ) a + S1x512x256.size a ≤ S2x512x512.size a) :
    v.readAt (Elt F) (Rect.unit (s := S2x512x512) ![0, 0, 0] S1x512x256.size inb).toLoadRect f = halfS 0 (slot 0 (v.read (Elt F) f)) := by
  funext x
  have h0 : (x 0).val < 1 := (x 0).isLt
  exact congrArg (v.read (Elt F) f) (funext (Fin.forall_fin_succ.mpr
    ⟨Fin.ext (by show 0 + 1 * (x 0).val = 0; omega), Fin.forall_fin_two.mpr
    ⟨Fin.ext (by show 0 + 1 * (x 1).val = (x 1).val; omega),
     Fin.ext (by show 0 + 1 * (x 2).val = 256 * 0 + (x 2).val; omega)⟩⟩))

theorem ldS01 (v : View sg κ' sp S2x512x512 e) (f : v.ty.Contents (Elt F))
    (inb : ∀ a, (![0, 0, 256] : Fin 3 → ℕ) a + S1x512x256.size a ≤ S2x512x512.size a) :
    v.readAt (Elt F) (Rect.unit (s := S2x512x512) ![0, 0, 256] S1x512x256.size inb).toLoadRect f = halfS 1 (slot 0 (v.read (Elt F) f)) := by
  funext x
  have h0 : (x 0).val < 1 := (x 0).isLt
  exact congrArg (v.read (Elt F) f) (funext (Fin.forall_fin_succ.mpr
    ⟨Fin.ext (by show 0 + 1 * (x 0).val = 0; omega), Fin.forall_fin_two.mpr
    ⟨Fin.ext (by show 0 + 1 * (x 1).val = (x 1).val; omega),
     Fin.ext (by show 256 + 1 * (x 2).val = 256 * 1 + (x 2).val; omega)⟩⟩))

theorem ldC0 (v : View sg κ' sp S2x512x512 e) (f : v.ty.Contents (Elt F))
    (inb : ∀ a, (![0, 0, 0] : Fin 3 → ℕ) a + S1x256x256.size a ≤ S2x512x512.size a) :
    v.readAt (Elt F) (Rect.unit (s := S2x512x512) ![0, 0, 0] S1x256x256.size inb).toLoadRect f = cornerS (slot 0 (v.read (Elt F) f)) := by
  funext x
  have h0 : (x 0).val < 1 := (x 0).isLt
  exact congrArg (v.read (Elt F) f) (funext (Fin.forall_fin_succ.mpr
    ⟨Fin.ext (by show 0 + 1 * (x 0).val = 0; omega), Fin.forall_fin_two.mpr
    ⟨Fin.ext (by show 0 + 1 * (x 1).val = 256 * 0 + (x 1).val; omega),
     Fin.ext (by show 0 + 1 * (x 2).val = 256 * 0 + (x 2).val; omega)⟩⟩))

theorem stS0 (v : View sg κ' sp S2x512x512 e) (f : v.ty.Contents (Elt F))
    (inb : ∀ a, (![0, 0, 0] : Fin 3 → ℕ) a + S1x512x512.size a ≤ S2x512x512.size a)
    (w : S1x512x512.Idx → Elt F e) (L : List (View.Piece (Elt F) S2x512x512 e)) :
    slot 0 (v.read (Elt F) (v.writes (Elt F) f ((⟨Rect.unit (s := S2x512x512) ![0, 0, 0] S1x512x512.size inb, w⟩ : View.Piece (Elt F) S2x512x512 e) :: L))) = w := by
  funext x
  have h0 : (x 0).val < 1 := (x 0).isLt
  exact View.read_writes_cons_unit_of_mem v f inb w L _ x rfl (Fin.forall_fin_succ.mpr
    ⟨by show 0 = 0 + (x 0).val; omega, Fin.forall_fin_two.mpr
    ⟨by show (x 1).val = 0 + (x 1).val; omega, by show (x 2).val = 0 + (x 2).val; omega⟩⟩)

theorem stS0_1 (v : View sg κ' sp S2x512x512 e) (f : v.ty.Contents (Elt F))
    (inb : ∀ a, (![0, 0, 0] : Fin 3 → ℕ) a + S1x512x512.size a ≤ S2x512x512.size a)
    (w : S1x512x512.Idx → Elt F e) (L : List (View.Piece (Elt F) S2x512x512 e)) :
    slot 1 (v.read (Elt F) (v.writes (Elt F) f ((⟨Rect.unit (s := S2x512x512) ![0, 0, 0] S1x512x512.size inb, w⟩ : View.Piece (Elt F) S2x512x512 e) :: L)))
      = slot 1 (v.read (Elt F) (v.writes (Elt F) f L)) := by
  funext x
  exact View.read_writes_cons_unit_of_not_mem v f inb w L _ rfl 0 (by
    show 1 < 0 ∨ 0 + 1 ≤ 1; omega)

theorem ldS10 (v : View sg κ' sp S2x512x512 e) (f : v.ty.Contents (Elt F))
    (inb : ∀ a, (![1, 0, 0] : Fin 3 → ℕ) a + S1x512x256.size a ≤ S2x512x512.size a) :
    v.readAt (Elt F) (Rect.unit (s := S2x512x512) ![1, 0, 0] S1x512x256.size inb).toLoadRect f = halfS 0 (slot 1 (v.read (Elt F) f)) := by
  funext x
  have h0 : (x 0).val < 1 := (x 0).isLt
  exact congrArg (v.read (Elt F) f) (funext (Fin.forall_fin_succ.mpr
    ⟨Fin.ext (by show 1 + 1 * (x 0).val = 1; omega), Fin.forall_fin_two.mpr
    ⟨Fin.ext (by show 0 + 1 * (x 1).val = (x 1).val; omega),
     Fin.ext (by show 0 + 1 * (x 2).val = 256 * 0 + (x 2).val; omega)⟩⟩))

theorem ldS11 (v : View sg κ' sp S2x512x512 e) (f : v.ty.Contents (Elt F))
    (inb : ∀ a, (![1, 0, 256] : Fin 3 → ℕ) a + S1x512x256.size a ≤ S2x512x512.size a) :
    v.readAt (Elt F) (Rect.unit (s := S2x512x512) ![1, 0, 256] S1x512x256.size inb).toLoadRect f = halfS 1 (slot 1 (v.read (Elt F) f)) := by
  funext x
  have h0 : (x 0).val < 1 := (x 0).isLt
  exact congrArg (v.read (Elt F) f) (funext (Fin.forall_fin_succ.mpr
    ⟨Fin.ext (by show 1 + 1 * (x 0).val = 1; omega), Fin.forall_fin_two.mpr
    ⟨Fin.ext (by show 0 + 1 * (x 1).val = (x 1).val; omega),
     Fin.ext (by show 256 + 1 * (x 2).val = 256 * 1 + (x 2).val; omega)⟩⟩))

theorem ldC1 (v : View sg κ' sp S2x512x512 e) (f : v.ty.Contents (Elt F))
    (inb : ∀ a, (![1, 0, 0] : Fin 3 → ℕ) a + S1x256x256.size a ≤ S2x512x512.size a) :
    v.readAt (Elt F) (Rect.unit (s := S2x512x512) ![1, 0, 0] S1x256x256.size inb).toLoadRect f = cornerS (slot 1 (v.read (Elt F) f)) := by
  funext x
  have h0 : (x 0).val < 1 := (x 0).isLt
  exact congrArg (v.read (Elt F) f) (funext (Fin.forall_fin_succ.mpr
    ⟨Fin.ext (by show 1 + 1 * (x 0).val = 1; omega), Fin.forall_fin_two.mpr
    ⟨Fin.ext (by show 0 + 1 * (x 1).val = 256 * 0 + (x 1).val; omega),
     Fin.ext (by show 0 + 1 * (x 2).val = 256 * 0 + (x 2).val; omega)⟩⟩))

theorem stS1 (v : View sg κ' sp S2x512x512 e) (f : v.ty.Contents (Elt F))
    (inb : ∀ a, (![1, 0, 0] : Fin 3 → ℕ) a + S1x512x512.size a ≤ S2x512x512.size a)
    (w : S1x512x512.Idx → Elt F e) (L : List (View.Piece (Elt F) S2x512x512 e)) :
    slot 1 (v.read (Elt F) (v.writes (Elt F) f ((⟨Rect.unit (s := S2x512x512) ![1, 0, 0] S1x512x512.size inb, w⟩ : View.Piece (Elt F) S2x512x512 e) :: L))) = w := by
  funext x
  have h0 : (x 0).val < 1 := (x 0).isLt
  exact View.read_writes_cons_unit_of_mem v f inb w L _ x rfl (Fin.forall_fin_succ.mpr
    ⟨by show 1 = 1 + (x 0).val; omega, Fin.forall_fin_two.mpr
    ⟨by show (x 1).val = 0 + (x 1).val; omega, by show (x 2).val = 0 + (x 2).val; omega⟩⟩)

theorem stS1_0 (v : View sg κ' sp S2x512x512 e) (f : v.ty.Contents (Elt F))
    (inb : ∀ a, (![1, 0, 0] : Fin 3 → ℕ) a + S1x512x512.size a ≤ S2x512x512.size a)
    (w : S1x512x512.Idx → Elt F e) (L : List (View.Piece (Elt F) S2x512x512 e)) :
    slot 0 (v.read (Elt F) (v.writes (Elt F) f ((⟨Rect.unit (s := S2x512x512) ![1, 0, 0] S1x512x512.size inb, w⟩ : View.Piece (Elt F) S2x512x512 e) :: L)))
      = slot 0 (v.read (Elt F) (v.writes (Elt F) f L)) := by
  funext x
  exact View.read_writes_cons_unit_of_not_mem v f inb w L _ rfl 0 (by
    show 0 < 1 ∨ 1 + 1 ≤ 0; omega)

theorem ldTop (v : View sg κ' sp S144x512 e) (f : v.ty.Contents (Elt F))
    (inb : ∀ a, (![0, 0] : Fin 2 → ℕ) a + S128x512.size a ≤ S144x512.size a) :
    v.readAt (Elt F) (Rect.unit (s := S144x512) ![0, 0] S128x512.size inb).toLoadRect f = topRows (v.read (Elt F) f) := by
  funext x
  exact congrArg (v.read (Elt F) f) (funext (Fin.forall_fin_two.mpr
    ⟨Fin.ext (by show 0 + 1 * (x 0).val = (x 0).val; omega),
     Fin.ext (by show 0 + 1 * (x 1).val = (x 1).val; omega)⟩))

theorem ldOnes (v : View sg κ' sp S144x512 e) (f : v.ty.Contents (Elt F))
    (inb : ∀ a, (![128, 0] : Fin 2 → ℕ) a + S1x512.size a ≤ S144x512.size a) :
    v.readAt (Elt F) (Rect.unit (s := S144x512) ![128, 0] S1x512.size inb).toLoadRect f = onesRow (v.read (Elt F) f) := by
  funext x
  have h0 : (x 0).val < 1 := (x 0).isLt
  exact congrArg (v.read (Elt F) f) (funext (Fin.forall_fin_two.mpr
    ⟨Fin.ext (by show 128 + 1 * (x 0).val = 128; omega),
     Fin.ext (by show 0 + 1 * (x 1).val = (x 1).val; omega)⟩))

theorem stOut (v : View sg κ' sp S512x128 e) (f : v.ty.Contents (Elt F))
    (inb : ∀ a, (![0, 0] : Fin 2 → ℕ) a + S512x128.size a ≤ S512x128.size a)
    (w : S512x128.Idx → Elt F e) (L : List (View.Piece (Elt F) S512x128 e)) :
    v.read (Elt F) (v.writes (Elt F) f ((⟨Rect.unit (s := S512x128) ![0, 0] S512x128.size inb, w⟩ : View.Piece (Elt F) S512x128 e) :: L)) = w := by
  funext x
  exact View.read_writes_cons_unit_of_mem v f inb w L _ x rfl (Fin.forall_fin_two.mpr
    ⟨by show (x 0).val = 0 + (x 0).val; omega, by show (x 1).val = 0 + (x 1).val; omega⟩)

/-- A sum is its two halves side by side. -/
theorem both_halves {α : Type} (A : S144x512.Idx → α) (B : Fin 2 → S144x256.Idx → α) (h0 : halfA 0 A = B 0) (h1 : halfA 1 A = B 1) :
    A = both B := by
  funext x
  unfold both
  split
  · rename_i h
    rw [← h0]
    exact congrArg A (funext (Fin.forall_fin_two.mpr ⟨rfl, Fin.ext (by show (x 1).val = 256 * 0 + (x 1).val; omega)⟩))
  · rename_i h
    rw [← h1]
    exact congrArg A (funext (Fin.forall_fin_two.mpr ⟨rfl, Fin.ext (by show (x 1).val = 256 * 1 + ((x 1).val - 256); omega)⟩))
end

end Cert.KernelIdeal.Fox
-- ==== Proof.IdealTrip.lean ====
module

public import proofs.«01_k».proof.Proof.IdealGeom
public import Idealize.ShloMosaic.Lib.Exec
public import Idealize.ShloMosaic.Lib.Tactic
public import Idealize.ShloMosaic.Lib.Pipeline.Kit

/-! One trip of the loop over pairs of key blocks: it takes the running maximum and sum of both halves from `2 k` blocks to `2 k + 2`. -/

@[expose] public section

set_option maxRecDepth 16384

noncomputable section

namespace Cert.KernelIdeal.Fox
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 4000000

local notation "𝕄G" => MT nD τ sig Unit (Elt F) ℕ (UR sig nD τ) ℕ

/-- What the scratch buffers hold after `j` blocks of keys: the scores of block `j` in slot 0, the running maximum and
    the running sum. -/
structure After (K : Vec F S4096x128 .bf16) (Q : Vec F S512x128 .bf16) (FC : Vec F S4096x128 .f32) (VT : Vec F S144x4096 .bf16) (j : ℕ) (S : Vec F S2x512x512 .f32) (M : Vec F S1x512 .f32) (A : Vec F S144x512 .f32) : Prop where
  slot0 : slot 0 S = k0_pay10 (rows K j) Q
  m0 : halfM 0 M = (st K Q FC VT 0 j).1
  m1 : halfM 1 M = (st K Q FC VT 1 j).1
  a0 : halfA 0 A = (st K Q FC VT 0 j).2
  a1 : halfA 1 A = (st K Q FC VT 1 j).2

/-- Between trips of the loop over pairs of key blocks: the inputs and the two filled scratches as they are, the others
    as after `2 k` blocks. -/
def loop2 (arg3 : Memref sig .tc .vmem S512x128 .bf16) (arg4 : Memref sig .tc .vmem S4096x128 .bf16) (arg8 : Memref sig .tc .vmem S144x4096 .bf16) (arg9 : Memref sig .tc .vmem S4096x128 .f32) (arg10 : Memref sig .tc .vmem S2x512x512 .f32) (arg11 : Memref sig .tc .vmem S1x512 .f32) (arg12 : Memref sig .tc .vmem S144x512 .f32)
    (c : Dev nD) (X3 : BufTy.Contents (Elt F) arg3.view.ty)
    (X4 : BufTy.Contents (Elt F) arg4.view.ty) (X8 : BufTy.Contents (Elt F) arg8.view.ty) (X9 : BufTy.Contents (Elt F) arg9.view.ty) (k : ℕ) : sProp 𝕄G :=
  iprop(∃ (g10 : BufTy.Contents (Elt F) arg10.view.ty) (g11 : BufTy.Contents (Elt F) arg11.view.ty) (g12 : BufTy.Contents (Elt F) arg12.view.ty),
    ⌜After (arg4.view.read (Elt F) X4) (arg3.view.read (Elt F) X3) (arg9.view.read (Elt F) X9) (arg8.view.read (Elt F) X8) (2 * k)
        (arg10.view.read (Elt F) g10) (arg11.view.read (Elt F) g11) (arg12.view.read (Elt F) g12)⌝ ∗
        (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12))

theorem trip (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole)
  (arg5 : Memref sig .tc .vmem S4096x128 .bf16) (harg5 : arg5.IsWhole) (arg6 : Memref sig .tc .vmem S1x1x1x4096 .f32) (harg6 : arg6.IsWhole)
  (arg7 : Memref sig .tc .vmem S512x128 .bf16) (harg7 : arg7.IsWhole) (arg8 : Memref sig .tc .vmem S144x4096 .bf16) (harg8 : arg8.IsWhole)
  (arg9 : Memref sig .tc .vmem S4096x128 .f32) (harg9 : arg9.IsWhole) (arg10 : Memref sig .tc .vmem S2x512x512 .f32) (harg10 : arg10.IsWhole)
  (arg11 : Memref sig .tc .vmem S1x512 .f32) (harg11 : arg11.IsWhole) (arg12 : Memref sig .tc .vmem S144x512 .f32) (harg12 : arg12.IsWhole)
    (arg2 : BitVec 32) (v19 : BitVec 32) (v30 : BitVec 1) (v31 : BitVec 32) (X3 : BufTy.Contents (Elt F) arg3.view.ty)
    (X4 : BufTy.Contents (Elt F) arg4.view.ty) (X8 : BufTy.Contents (Elt F) arg8.view.ty) (X9 : BufTy.Contents (Elt F) arg9.view.ty)
    (k : Fin (k0_t2_loop i).trips) (E : Set ℕ)
    (f10 : BufTy.Contents (Elt F) arg10.view.ty) (f11 : BufTy.Contents (Elt F) arg11.view.ty) (f12 : BufTy.Contents (Elt F) arg12.view.ty)
    (h : After (arg4.view.read (Elt F) X4) (arg3.view.read (Elt F) X3) (arg9.view.read (Elt F) X9) (arg8.view.read (Elt F) X8) (2 * k.val)
      (arg10.view.read (Elt F) f10) (arg11.view.read (Elt F) f11) (arg12.view.read (Elt F) f12)) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄G)
    ⊢ wp frame (wpE (defs₀ (F := F)) 𝒱 (c : Thread nD τ) bd) E
      (k0_t2_body (F := F) i arg3 harg3 arg4 harg4 arg5 harg5 arg6 harg6 arg7 harg7 arg8 harg8 arg9 harg9 arg10 harg10 arg11 harg11 arg12 harg12 arg2 v19 v30 v31 k PUnit.unit)
      (fun _ => loop2 arg3 arg4 arg8 arg9 arg10 arg11 arg12 c X3 X4 X8 X9 (k.val + 1)) := by
  unfold k0_t2_body
  simp only [k0_part5_eq_skeleton]
  iintro ⟨H3, H4, H8, H9, H10, H11, H12⟩
  sl_exec
  sl_step
  unfold loop2
  iexists _, _, _
  isplitr
  swap
  · iframe H3 H4 H8 H9 H10 H11 H12
  · ipureintro
    have h3 := lt3 i k
    obtain ⟨hs, hm0, hm1, ha0, ha1⟩ := h
    sl_unfold_run_names
    have r0 := fun {e} {sp} {κ'} {sg} (v : View sg κ' sp S4096x128 e) f inb => ld_rows (F := F) v f inb (2 * k.val) (by omega) (off5 i k)
    have r1 := fun {e} {sp} {κ'} {sg} (v : View sg κ' sp S4096x128 e) f inb => ld_rows (F := F) v f inb (2 * k.val + 1) (by omega) (off4a i k)
    have r2 := fun {e} {sp} {κ'} {sg} (v : View sg κ' sp S4096x128 e) f inb => ld_rows (F := F) v f inb (2 * k.val + 1 + 1) (by omega) (off4b i k)
    have c0 := fun {e} {sp} {κ'} {sg} (v : View sg κ' sp S144x4096 e) f inb => ld_cols (F := F) v f inb (2 * k.val) (by omega) (off6 i k)
    have c1 := fun {e} {sp} {κ'} {sg} (v : View sg κ' sp S144x4096 e) f inb => ld_cols (F := F) v f inb (2 * k.val + 1) (by omega) (off7 i k)
    simp only [readCov_def (F := F), ld_all (F := F), ldM0 (F := F), ldM1 (F := F), ldA0 (F := F), ldA1 (F := F), ldS00 (F := F), ldS01 (F := F), ldS10 (F := F), ldS11 (F := F), stM0 (F := F), stM1 (F := F), stM0_1 (F := F), stM1_0 (F := F), stA0 (F := F), stA1 (F := F), stA0_1 (F := F), stA1_0 (F := F), stS0 (F := F), stS1 (F := F), stS0_1 (F := F), stS1_0 (F := F), r0, r1, r2, c0, c1, View.writes_nil, hs, hm0, hm1, ha0, ha1, s25, m16, a17, m22, a23, m99, a100]
    have e2 : 2 * (k.val + 1) = 2 * k.val + 1 + 1 := by omega
    rw [e2]
    constructor
    · rw [stS0 (F := F)]
    · rw [stM1_0 (F := F), stM0 (F := F)]; rfl
    · rw [stM1 (F := F)]; rfl
    · rw [stA1_0 (F := F), stA0 (F := F)]; rfl
    · rw [stA1 (F := F)]; rfl

/-- The same from one invariant to the next. -/
theorem trip_step (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole)
  (arg5 : Memref sig .tc .vmem S4096x128 .bf16) (harg5 : arg5.IsWhole) (arg6 : Memref sig .tc .vmem S1x1x1x4096 .f32) (harg6 : arg6.IsWhole)
  (arg7 : Memref sig .tc .vmem S512x128 .bf16) (harg7 : arg7.IsWhole) (arg8 : Memref sig .tc .vmem S144x4096 .bf16) (harg8 : arg8.IsWhole)
  (arg9 : Memref sig .tc .vmem S4096x128 .f32) (harg9 : arg9.IsWhole) (arg10 : Memref sig .tc .vmem S2x512x512 .f32) (harg10 : arg10.IsWhole)
  (arg11 : Memref sig .tc .vmem S1x512 .f32) (harg11 : arg11.IsWhole) (arg12 : Memref sig .tc .vmem S144x512 .f32) (harg12 : arg12.IsWhole)
    (arg2 : BitVec 32) (v19 : BitVec 32) (v30 : BitVec 1) (v31 : BitVec 32) (X3 : BufTy.Contents (Elt F) arg3.view.ty)
    (X4 : BufTy.Contents (Elt F) arg4.view.ty) (X8 : BufTy.Contents (Elt F) arg8.view.ty) (X9 : BufTy.Contents (Elt F) arg9.view.ty)
    (k : Fin (k0_t2_loop i).trips) (E : Set ℕ) :
    loop2 arg3 arg4 arg8 arg9 arg10 arg11 arg12 c X3 X4 X8 X9 k.val
    ⊢ wp frame (wpE (defs₀ (F := F)) 𝒱 (c : Thread nD τ) bd) E
      (k0_t2_body (F := F) i arg3 harg3 arg4 harg4 arg5 harg5 arg6 harg6 arg7 harg7 arg8 harg8 arg9 harg9 arg10 harg10 arg11 harg11 arg12 harg12 arg2 v19 v30 v31 k PUnit.unit)
      (fun _ => loop2 arg3 arg4 arg8 arg9 arg10 arg11 arg12 c X3 X4 X8 X9 (k.val + 1)) := by
  refine exists_elim fun f10 => exists_elim fun f11 => exists_elim fun f12 => sep_and.trans (pure_elim_left fun h => ?_)
  exact trip 𝒱 c bd i arg3 harg3 arg4 harg4 arg5 harg5 arg6 harg6 arg7 harg7 arg8 harg8 arg9 harg9 arg10 harg10 arg11 harg11 arg12 harg12 arg2 v19 v30 v31 X3 X4 X8 X9 k E f10 f11 f12 h

end Cert.KernelIdeal.Fox
-- ==== Proof.IdealFill.lean ====
module

public import proofs.«01_k».proof.Proof.IdealGeom
public import Idealize.ShloMosaic.Lib.Exec
public import Idealize.ShloMosaic.Lib.Tactic
public import Idealize.ShloMosaic.Lib.Pipeline.Kit
public import Idealize.ShloMosaic.Lib.PointwiseCore

/-! One trip of the loop that fills the two scratches a head keeps: 512 keys of the transposed values and of the forget column. -/

@[expose] public section

set_option maxRecDepth 16384

noncomputable section

namespace Cert.KernelIdeal.Fox
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 4000000

local notation "𝕄G" => MT nD τ sig Unit (Elt F) ℕ (UR sig nD τ) ℕ

theorem tr_apply (v : Vec F S128x128 .bf16) (a b : Fin 128) :
    k0_pay4 v (ix2 a b) = FloatOps.truncf .bf16 bitsLt_bf16_f32 (FloatOps.extf .f32 bitsLt_bf16_f32 (v (ix2 b a))) := by
  pointwise [k0_pay4]

theorem fr_apply (v : Vec F S1x1x1x128 .f32) (a b : Fin 128) :
    k0_pay5 v (ix2 a b) = FloatOps.mulf (v (ix4 (0 : Fin 1) (0 : Fin 1) (0 : Fin 1) a)) (Named.named κ "log2e" 0x3FB8AA3B#32) := by
  pointwise [k0_pay5]

/-- One more tile of 128 columns above the ones. -/
theorem tile8 {sg : RefSig} {κ' : Kind} {sp : Space} {e : EltTy} (v : View sg κ' sp S144x4096 e) (f : v.ty.Contents (Elt F))
    {off : Fin 2 → ℕ} (inb : ∀ a, off a + S128x128.size a ≤ S144x4096.size a) (w : S128x128.Idx → Elt F e)
    (L : List (View.Piece (Elt F) S144x4096 e)) (T : S144x4096.Idx → Elt F e) (n : ℕ) (h : off = ![0, n])
    (hL : ∀ x : S144x4096.Idx, (x 0).val < 128 → (x 1).val < n → v.read (Elt F) (v.writes (Elt F) f L) x = T x)
    (hw : ∀ x : S144x4096.Idx, ∀ y : S128x128.Idx, (x 0).val = (y 0).val → (x 1).val = n + (y 1).val → w y = T x)
    (x : S144x4096.Idx) (h0 : (x 0).val < 128) (h1 : (x 1).val < n + 128) :
    v.read (Elt F) (v.writes (Elt F) f ((⟨Rect.unit (s := S144x4096) off S128x128.size inb, w⟩ : View.Piece (Elt F) S144x4096 e) :: L)) x = T x := by
  by_cases hx : (x 1).val < n
  · exact (View.read_writes_cons_unit_of_not_mem v f inb w L x h 1 (.inl hx)).trans (hL x h0 hx)
  · have e1 : (x 1).val = n + ((x 1).val - n) := by omega
    exact (View.read_writes_cons_unit_of_mem v f inb w L x (ix2 (⟨(x 0).val, h0⟩ : Fin 128) (⟨(x 1).val - n, by omega⟩ : Fin 128)) h
      (Fin.forall_fin_two.mpr ⟨by show (x 0).val = 0 + (x 0).val; omega, e1⟩)).trans (hw x _ rfl e1)

/-- One more tile of 128 rows. -/
theorem tile9 {sg : RefSig} {κ' : Kind} {sp : Space} {e : EltTy} (v : View sg κ' sp S4096x128 e) (f : v.ty.Contents (Elt F))
    {off : Fin 2 → ℕ} (inb : ∀ a, off a + S128x128.size a ≤ S4096x128.size a) (w : S128x128.Idx → Elt F e)
    (L : List (View.Piece (Elt F) S4096x128 e)) (T : S4096x128.Idx → Elt F e) (n : ℕ) (h : off = ![n, 0])
    (hL : ∀ x : S4096x128.Idx, (x 0).val < n → v.read (Elt F) (v.writes (Elt F) f L) x = T x)
    (hw : ∀ x : S4096x128.Idx, ∀ y : S128x128.Idx, (x 0).val = n + (y 0).val → (x 1).val = (y 1).val → w y = T x)
    (x : S4096x128.Idx) (h1 : (x 0).val < n + 128) :
    v.read (Elt F) (v.writes (Elt F) f ((⟨Rect.unit (s := S4096x128) off S128x128.size inb, w⟩ : View.Piece (Elt F) S4096x128 e) :: L)) x = T x := by
  by_cases hx : (x 0).val < n
  · exact (View.read_writes_cons_unit_of_not_mem v f inb w L x h 0 (.inl hx)).trans (hL x hx)
  · have e1 : (x 0).val = n + ((x 0).val - n) := by omega
    have h2 : (x 1).val < 128 := (x 1).isLt
    exact (View.read_writes_cons_unit_of_mem v f inb w L x (ix2 (⟨(x 0).val - n, by omega⟩ : Fin 128) (⟨(x 1).val, h2⟩ : Fin 128)) h
      (Fin.forall_fin_two.mpr ⟨e1, by show (x 1).val = 0 + (x 1).val; omega⟩)).trans (hw x _ e1 rfl)

/-- A tile of the transposed values. -/
theorem tr_tile {sg : RefSig} {κ' : Kind} {sp : Space} (v : View sg κ' sp S4096x128 .bf16) (f : v.ty.Contents (Elt F))
    {off : Fin 2 → ℕ} (inb : ∀ a, off a + S128x128.size a ≤ S4096x128.size a) (n : ℕ) (h : off = ![n, 0])
    (x : S144x4096.Idx) (y : S128x128.Idx) (h0 : (x 0).val = (y 0).val) (h1 : (x 1).val = n + (y 1).val) :
    k0_pay4 (v.readAt (Elt F) (Rect.unit (s := S4096x128) off S128x128.size inb).toLoadRect f) y = vtOf (v.read (Elt F) f) x := by
  subst h
  have hy : (y 0).val < 128 := (y 0).isLt
  have ey : y = ix2 (y 0 : Fin 128) (y 1 : Fin 128) := funext (Fin.forall_fin_two.mpr ⟨rfl, rfl⟩)
  refine (congrArg _ ey).trans ((tr_apply _ _ _).trans ?_)
  unfold vtOf
  rw [dif_pos (by omega)]
  refine congrArg _ (congrArg _ (congrArg (v.read (Elt F) f) (funext (Fin.forall_fin_two.mpr ⟨Fin.ext ?_, Fin.ext ?_⟩))))
  · show n + 1 * (y 1).val = (x 1).val; omega
  · show 0 + 1 * (y 0).val = (x 0).val; omega

/-- A tile of the forget column. -/
theorem fr_tile {sg : RefSig} {κ' : Kind} {sp : Space} (v : View sg κ' sp S1x1x1x4096 .f32) (f : v.ty.Contents (Elt F))
    {off : Fin 4 → ℕ} (inb : ∀ a, off a + S1x1x1x128.size a ≤ S1x1x1x4096.size a) (n : ℕ) (h : off = ![0, 0, 0, n])
    (x : S4096x128.Idx) (y : S128x128.Idx) (h0 : (x 0).val = n + (y 0).val) (h1 : (x 1).val = (y 1).val) :
    k0_pay5 (v.readAt (Elt F) (Rect.unit (s := S1x1x1x4096) off S1x1x1x128.size inb).toLoadRect f) y = fcOf (v.read (Elt F) f) x := by
  subst h
  have ey : y = ix2 (y 0 : Fin 128) (y 1 : Fin 128) := funext (Fin.forall_fin_two.mpr ⟨rfl, rfl⟩)
  refine (congrArg _ ey).trans ((fr_apply _ _ _).trans ?_)
  unfold fcOf
  refine congrArg (fun z => FloatOps.mulf z _) (congrArg (v.read (Elt F) f) (funext (Fin.forall_fin_succ.mpr ⟨Fin.ext ?_, Fin.forall_fin_succ.mpr ⟨Fin.ext ?_, Fin.forall_fin_two.mpr ⟨Fin.ext ?_, Fin.ext ?_⟩⟩⟩)))
  · rfl
  · rfl
  · rfl
  · show n + 1 * (y 0).val = (x 0).val; omega

/-- The two kept scratches are filled for the first `512 k` keys. -/
structure Filled (V : Vec F S4096x128 .bf16) (R : Vec F S1x1x1x4096 .f32) (k : ℕ) (A : Vec F S144x4096 .bf16) (B : Vec F S4096x128 .f32) : Prop where
  vt : ∀ x : S144x4096.Idx, (x 0).val < 128 → (x 1).val < 512 * k → A x = vtOf V x
  fc : ∀ x : S4096x128.Idx, (x 0).val < 512 * k → B x = fcOf R x

/-- Between trips of the filling loop. -/
def loop1 (arg5 : Memref sig .tc .vmem S4096x128 .bf16) (arg6 : Memref sig .tc .vmem S1x1x1x4096 .f32) (arg8 : Memref sig .tc .vmem S144x4096 .bf16) (arg9 : Memref sig .tc .vmem S4096x128 .f32) (c : Dev nD)
    (X5 : BufTy.Contents (Elt F) arg5.view.ty) (X6 : BufTy.Contents (Elt F) arg6.view.ty) (k : ℕ) : sProp 𝕄G :=
  iprop(∃ (g8 : BufTy.Contents (Elt F) arg8.view.ty) (g9 : BufTy.Contents (Elt F) arg9.view.ty),
    ⌜Filled (arg5.view.read (Elt F) X5) (arg6.view.read (Elt F) X6) k (arg8.view.read (Elt F) g8) (arg9.view.read (Elt F) g9)⌝ ∗
        (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} g8) ∗ (arg9.view.loc (c : Thread nD τ) ↦[arg9.view.set]{fullShare} g9))

theorem fill (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole)
  (arg5 : Memref sig .tc .vmem S4096x128 .bf16) (harg5 : arg5.IsWhole) (arg6 : Memref sig .tc .vmem S1x1x1x4096 .f32) (harg6 : arg6.IsWhole)
  (arg7 : Memref sig .tc .vmem S512x128 .bf16) (harg7 : arg7.IsWhole) (arg8 : Memref sig .tc .vmem S144x4096 .bf16) (harg8 : arg8.IsWhole)
  (arg9 : Memref sig .tc .vmem S4096x128 .f32) (harg9 : arg9.IsWhole) (arg10 : Memref sig .tc .vmem S2x512x512 .f32) (harg10 : arg10.IsWhole)
  (arg11 : Memref sig .tc .vmem S1x512 .f32) (harg11 : arg11.IsWhole) (arg12 : Memref sig .tc .vmem S144x512 .f32) (harg12 : arg12.IsWhole)
    (hc : k0_cond1 i = 1#1) (X5 : BufTy.Contents (Elt F) arg5.view.ty) (X6 : BufTy.Contents (Elt F) arg6.view.ty)
    (k : Fin k0_t1_loop.trips) (E : Set ℕ)
    (g8 : BufTy.Contents (Elt F) arg8.view.ty) (g9 : BufTy.Contents (Elt F) arg9.view.ty)
    (h : Filled (arg5.view.read (Elt F) X5) (arg6.view.read (Elt F) X6) k.val (arg8.view.read (Elt F) g8) (arg9.view.read (Elt F) g9)) :
    (iprop((arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} g8) ∗ (arg9.view.loc (c : Thread nD τ) ↦[arg9.view.set]{fullShare} g9)) : sProp 𝕄G)
    ⊢ wp frame (wpE (defs₀ (F := F)) 𝒱 (c : Thread nD τ) bd) E
      (k0_t1_body (F := F) i arg3 harg3 arg4 harg4 arg5 harg5 arg6 harg6 arg7 harg7 arg8 harg8 arg9 harg9 arg10 harg10 arg11 harg11 arg12 harg12 hc k PUnit.unit)
      (fun _ => loop1 arg5 arg6 arg8 arg9 c X5 X6 (k.val + 1)) := by
  unfold k0_t1_body
  simp only [k0_part2_eq_skeleton]
  iintro ⟨H5, H6, H8, H9⟩
  sl_exec
  sl_step
  unfold loop1
  iexists _, _
  isplitr
  swap
  · iframe H5 H6 H8 H9
  · ipureintro
    sl_unfold_run_names
    have e512 : 512 * (k.val + 1) = 512 * k.val + 128 + 128 + 128 + 128 := by omega
    constructor
    · rw [e512]
      refine tile8 (F := F) _ _ _ _ _ _ (512 * k.val + 128 + 128 + 128) ((k0_off2_eq k 3).trans (by simp)) (tile8 (F := F) _ _ _ _ _ _ (512 * k.val + 128 + 128) ((k0_off2_eq k 2).trans (by simp)) (tile8 (F := F) _ _ _ _ _ _ (512 * k.val + 128) ((k0_off2_eq k 1).trans (by simp)) (tile8 (F := F) _ _ _ _ _ _ (512 * k.val) ((k0_off2_eq k 0).trans (by simp)) h.vt ?_) ?_) ?_) ?_
      · exact tr_tile (F := F) _ _ _ _ ((k0_off1_eq k 0).trans (by simp))
      · exact tr_tile (F := F) _ _ _ _ ((k0_off1_eq k 1).trans (by simp))
      · exact tr_tile (F := F) _ _ _ _ ((k0_off1_eq k 2).trans (by simp))
      · exact tr_tile (F := F) _ _ _ _ ((k0_off1_eq k 3).trans (by simp))
    · rw [e512]
      refine tile9 (F := F) _ _ _ _ _ _ (512 * k.val + 128 + 128 + 128) ((k0_off1_eq k 3).trans (by simp)) (tile9 (F := F) _ _ _ _ _ _ (512 * k.val + 128 + 128) ((k0_off1_eq k 2).trans (by simp)) (tile9 (F := F) _ _ _ _ _ _ (512 * k.val + 128) ((k0_off1_eq k 1).trans (by simp)) (tile9 (F := F) _ _ _ _ _ _ (512 * k.val) ((k0_off1_eq k 0).trans (by simp)) h.fc ?_) ?_) ?_) ?_
      · exact fr_tile (F := F) _ _ _ _ ((k0_off3_eq k 0).trans (by simp))
      · exact fr_tile (F := F) _ _ _ _ ((k0_off3_eq k 1).trans (by simp))
      · exact fr_tile (F := F) _ _ _ _ ((k0_off3_eq k 2).trans (by simp))
      · exact fr_tile (F := F) _ _ _ _ ((k0_off3_eq k 3).trans (by simp))

/-- The same from one invariant to the next. -/
theorem fill_step (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole)
  (arg5 : Memref sig .tc .vmem S4096x128 .bf16) (harg5 : arg5.IsWhole) (arg6 : Memref sig .tc .vmem S1x1x1x4096 .f32) (harg6 : arg6.IsWhole)
  (arg7 : Memref sig .tc .vmem S512x128 .bf16) (harg7 : arg7.IsWhole) (arg8 : Memref sig .tc .vmem S144x4096 .bf16) (harg8 : arg8.IsWhole)
  (arg9 : Memref sig .tc .vmem S4096x128 .f32) (harg9 : arg9.IsWhole) (arg10 : Memref sig .tc .vmem S2x512x512 .f32) (harg10 : arg10.IsWhole)
  (arg11 : Memref sig .tc .vmem S1x512 .f32) (harg11 : arg11.IsWhole) (arg12 : Memref sig .tc .vmem S144x512 .f32) (harg12 : arg12.IsWhole)
    (hc : k0_cond1 i = 1#1) (X5 : BufTy.Contents (Elt F) arg5.view.ty) (X6 : BufTy.Contents (Elt F) arg6.view.ty)
    (k : Fin k0_t1_loop.trips) (E : Set ℕ) :
    loop1 arg5 arg6 arg8 arg9 c X5 X6 k.val
    ⊢ wp frame (wpE (defs₀ (F := F)) 𝒱 (c : Thread nD τ) bd) E
      (k0_t1_body (F := F) i arg3 harg3 arg4 harg4 arg5 harg5 arg6 harg6 arg7 harg7 arg8 harg8 arg9 harg9 arg10 harg10 arg11 harg11 arg12 harg12 hc k PUnit.unit)
      (fun _ => loop1 arg5 arg6 arg8 arg9 c X5 X6 (k.val + 1)) := by
  refine exists_elim fun g8 => exists_elim fun g9 => sep_and.trans (pure_elim_left fun hF => ?_)
  exact fill 𝒱 c bd i arg3 harg3 arg4 harg4 arg5 harg5 arg6 harg6 arg7 harg7 arg8 harg8 arg9 harg9 arg10 harg10 arg11 harg11 arg12 harg12 hc X5 X6 k E g8 g9 hF

/-- After the loop, with the ones stored below the values: both scratches are filled. -/
theorem filled_all {V : Vec F S4096x128 .bf16} {R : Vec F S1x1x1x4096 .f32} {A : Vec F S144x4096 .bf16} {B : Vec F S4096x128 .f32}
    (h : Filled V R 8 A B) : B = fcOf R := funext fun x => h.fc x (by have : (x 0).val < 4096 := (x 0).isLt; omega)

theorem ones_apply (x : S16x4096.Idx) : k0_pay94 (F := F) x = Scalar.ofBits .bf16 0x3F80#16 := rfl

theorem filled_ones {sg : RefSig} {κ' : Kind} {sp : Space} (v : View sg κ' sp S144x4096 .bf16) (f : v.ty.Contents (Elt F))
    (inb : ∀ a, (![128, 0] : Fin 2 → ℕ) a + S16x4096.size a ≤ S144x4096.size a)
    {V : Vec F S4096x128 .bf16} {R : Vec F S1x1x1x4096 .f32} {B : Vec F S4096x128 .f32}
    (h : Filled V R 8 (v.read (Elt F) f) B) :
    v.read (Elt F) (v.writes (Elt F) f [(⟨Rect.unit (s := S144x4096) ![128, 0] S16x4096.size inb, k0_pay94⟩ : View.Piece (Elt F) S144x4096 .bf16)]) = vtOf V := by
  funext x
  have hx1 : (x 1).val < 4096 := (x 1).isLt
  have hx0 : (x 0).val < 144 := (x 0).isLt
  by_cases h0 : (x 0).val < 128
  · exact (View.read_writes_cons_unit_of_not_mem v f inb _ [] x rfl 0 (.inl h0)).trans (h.vt x h0 (by omega))
  · refine (View.read_writes_cons_unit_of_mem v f inb _ [] x (ix2 (⟨(x 0).val - 128, by omega⟩ : Fin 16) (⟨(x 1).val, hx1⟩ : Fin 4096)) rfl
      (Fin.forall_fin_two.mpr ⟨?_, ?_⟩)).trans ?_
    · show (x 0).val = 128 + ((x 0).val - 128); omega
    · show (x 1).val = 0 + (x 1).val; omega
    · unfold vtOf
      rw [dif_neg h0]; rfl

end Cert.KernelIdeal.Fox
-- ==== Proof.IdealLeft.lean ====
module

public import proofs.«01_k».proof.Proof.IdealTrip
public import proofs.«01_k».proof.Proof.IdealFill

/-! What one grid point of the attention kernel leaves: its block of the result and the scratches. -/

@[expose] public section

set_option maxRecDepth 16384

noncomputable section

namespace Cert.KernelIdeal.Fox
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 8000000

local notation "𝕄G" => MT nD τ sig Unit (Elt F) ℕ (UR sig nD τ) ℕ

/-- What a grid point whose diagonal block is block `j` leaves: its block of the result, the two filled scratches, and the other
    scratches with anything in them. -/
def left (arg3 : Memref sig .tc .vmem S512x128 .bf16) (arg4 : Memref sig .tc .vmem S4096x128 .bf16) (arg5 : Memref sig .tc .vmem S4096x128 .bf16) (arg6 : Memref sig .tc .vmem S1x1x1x4096 .f32) (arg7 : Memref sig .tc .vmem S512x128 .bf16) (arg8 : Memref sig .tc .vmem S144x4096 .bf16) (arg9 : Memref sig .tc .vmem S4096x128 .f32) (arg10 : Memref sig .tc .vmem S2x512x512 .f32) (arg11 : Memref sig .tc .vmem S1x512 .f32) (arg12 : Memref sig .tc .vmem S144x512 .f32) (c : Dev nD) (X3 : BufTy.Contents (Elt F) arg3.view.ty) (X4 : BufTy.Contents (Elt F) arg4.view.ty)
    (X5 : BufTy.Contents (Elt F) arg5.view.ty) (X6 : BufTy.Contents (Elt F) arg6.view.ty) (j : ℕ) : sProp 𝕄G :=
  iprop(∃ (g7 : BufTy.Contents (Elt F) arg7.view.ty) (g8 : BufTy.Contents (Elt F) arg8.view.ty) (g9 : BufTy.Contents (Elt F) arg9.view.ty)
      (g10 : BufTy.Contents (Elt F) arg10.view.ty) (g11 : BufTy.Contents (Elt F) arg11.view.ty) (g12 : BufTy.Contents (Elt F) arg12.view.ty),
    ⌜arg7.view.read (Elt F) g7 = out (arg4.view.read (Elt F) X4) (arg3.view.read (Elt F) X3) (fcOf (arg6.view.read (Elt F) X6)) (vtOf (arg5.view.read (Elt F) X5)) j
      ∧ arg8.view.read (Elt F) g8 = vtOf (arg5.view.read (Elt F) X5) ∧ arg9.view.read (Elt F) g9 = fcOf (arg6.view.read (Elt F) X6)⌝ ∗
        (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12))

theorem out_of_halves {K : Vec F S4096x128 .bf16} {Q : Vec F S512x128 .bf16} {FC : Vec F S4096x128 .f32} {VT : Vec F S144x4096 .bf16} {j : ℕ}
    {Z : Vec F S144x512 .f32} (h0 : halfA 0 Z = fin K Q FC VT j 0) (h1 : halfA 1 Z = fin K Q FC VT j 1) :
    k0_pay3 (topRows Z) (onesRow Z) = out K Q FC VT j := by
  rw [both_halves Z (fin K Q FC VT j) h0 h1]; rfl

end Cert.KernelIdeal.Fox
-- ==== Proof.IdealFirst.lean ====
module

public import proofs.«01_k».proof.Proof.IdealLeft

/-! The first block of queries of a head: the loop that fills the two kept scratches, then the diagonal block alone. -/

@[expose] public section

set_option maxRecDepth 16384

noncomputable section

namespace Cert.KernelIdeal.Fox
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 8000000

local notation "𝕄G" => MT nD τ sig Unit (Elt F) ℕ (UR sig nD τ) ℕ

theorem point_first (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole)
  (arg5 : Memref sig .tc .vmem S4096x128 .bf16) (harg5 : arg5.IsWhole) (arg6 : Memref sig .tc .vmem S1x1x1x4096 .f32) (harg6 : arg6.IsWhole)
  (arg7 : Memref sig .tc .vmem S512x128 .bf16) (harg7 : arg7.IsWhole) (arg8 : Memref sig .tc .vmem S144x4096 .bf16) (harg8 : arg8.IsWhole)
  (arg9 : Memref sig .tc .vmem S4096x128 .f32) (harg9 : arg9.IsWhole) (arg10 : Memref sig .tc .vmem S2x512x512 .f32) (harg10 : arg10.IsWhole)
  (arg11 : Memref sig .tc .vmem S1x512 .f32) (harg11 : arg11.IsWhole) (arg12 : Memref sig .tc .vmem S144x512 .f32) (harg12 : arg12.IsWhole)
    (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (E : Set ℕ) (h0 : (i 2).val = 0) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄G)
    ⊢ wp frame (wpE (defs₀ (F := F)) 𝒱 (c : Thread nD τ) bd) E (cc0_fox_attention (F := F) i arg3 harg3 arg4 harg4 arg5 harg5 arg6 harg6 arg7 harg7 arg8 harg8 arg9 harg9 arg10 harg10 arg11 harg11 arg12 harg12)
      (fun _ => left arg3 arg4 arg5 arg6 arg7 arg8 arg9 arg10 arg11 arg12 c X3 X4 X5 X6 (i 2).val) := by
  have hi8 : (i 2).val < 8 := (i 2).isLt
  have c1 : k0_cond1 i = 1#1 := (cond1_iff i).mpr (by omega)
  have c2 : k0_cond2 i = 1#1 := (cond2_iff i).mpr (by omega)
  have c3 : ¬ k0_cond3 i = 1#1 := fun h => by have := (cond3_iff i).mp h; omega
  have t3 := trips3 i
  have t2 : (k0_t2_loop i).trips = 0 := (trips2 i).trans (by omega)
  rw [cc0_fox_attention_eq_skeleton]; unfold cc0_fox_attention_skel
  simp only [k0_part20_eq_skeleton, k0_part21_eq_skeleton, k0_part5_eq_skeleton]
  unfold k0_part20_skel k0_part21_skel
  iintro ⟨H3, H4, H5, H6, H7, H8, H9, H10, H11, H12⟩
  sl_exec
  rw [Prog.bind_assoc]
  sl_for (fun k _ => loop1 arg5 arg6 arg8 arg9 c X5 X6 k) $$ [H5 H6 H8 H9]
  · intro k acc
    exact fill_step 𝒱 c bd i arg3 harg3 arg4 harg4 arg5 harg5 arg6 harg6 arg7 harg7 arg8 harg8 arg9 harg9 arg10 harg10 arg11 harg11 arg12 harg12 c1 X5 X6 k E
  · unfold loop1
    iexists _, _
    isplitr
    swap
    · iframe H5 H6 H8 H9
    · ipureintro
      exact ⟨fun x _ h => absurd h (by omega), fun x h => absurd h (by omega)⟩
  iintro %acc HI
  unfold loop1
  icases HI with ⟨%g8, %g9, %hF, H5, H6, H8, H9⟩
  sl_exec
  rw [Prog.bind_assoc]
  sl_for0 t2
  sl_unfold_run_names
  rw [Prog.bind_assoc]
  sl_for0 t3
  sl_exec
  sl_step
  unfold left
  iexists _, _, _, _, _, _
  isplitr
  swap
  · iframe H3 H4 H5 H6 H7 H8 H9 H10 H11 H12
  · ipureintro
    sl_unfold_run_names
    have r12 := fun {e} {sp} {κ'} {sg} (v : View sg κ' sp S4096x128 e) f inb => ld_rows (F := F) v f inb ((i 2).val) (by omega) (k0_off12_eq i)
    have c13 := fun {e} {sp} {κ'} {sg} (v : View sg κ' sp S144x4096 e) f inb => ld_cols (F := F) v f inb ((i 2).val) (by omega) (k0_off13_eq i)
    have r0 := fun {e} {sp} {κ'} {sg} (v : View sg κ' sp S4096x128 e) f inb => ld_rows (F := F) v f inb (0) (by omega) (rfl)
    replace hF := (congrArg (fun n => Filled (arg5.view.read (Elt F) X5) (arg6.view.read (Elt F) X6) n (arg8.view.read (Elt F) g8) (arg9.view.read (Elt F) g9)) trips1).mp hF
    have e9 := filled_all hF
    have e8 := fun inb => filled_ones (F := F) arg8.view g8 inb hF
    refine ⟨Eq.trans ?_ (congrArg (out _ _ _ _) h0.symm), e8 _, e9⟩
    simp only [h0] at r12 c13
    rw [stOut (F := F)]
    simp only [readCov_def (F := F), ldTop (F := F), ldOnes (F := F)]
    refine out_of_halves ?_ ?_
    · rw [fin_zero]
      simp only [readCov_def (F := F), ld_all (F := F), ldM0 (F := F), ldM1 (F := F), ldA0 (F := F), ldA1 (F := F), ldS00 (F := F), ldS01 (F := F), ldS10 (F := F), ldS11 (F := F), ldC0 (F := F), ldC1 (F := F), ldTop (F := F), ldOnes (F := F), stM0 (F := F), stM1 (F := F), stM0_1 (F := F), stM1_0 (F := F), stM_all (F := F), stA0 (F := F), stA1 (F := F), stA0_1 (F := F), stA1_0 (F := F), stA_all (F := F), stS0 (F := F), stS1 (F := F), stS0_1 (F := F), stS1_0 (F := F), stOut (F := F), View.writes_nil, r12, c13, r0, e8, e9, s97, a106, st]
      try rfl
    · rw [fin_one]
      simp only [readCov_def (F := F), ld_all (F := F), ldM0 (F := F), ldM1 (F := F), ldA0 (F := F), ldA1 (F := F), ldS00 (F := F), ldS01 (F := F), ldS10 (F := F), ldS11 (F := F), ldC0 (F := F), ldC1 (F := F), ldTop (F := F), ldOnes (F := F), stM0 (F := F), stM1 (F := F), stM0_1 (F := F), stM1_0 (F := F), stM_all (F := F), stA0 (F := F), stA1 (F := F), stA0_1 (F := F), stA1_0 (F := F), stA_all (F := F), stS0 (F := F), stS1 (F := F), stS0_1 (F := F), stS1_0 (F := F), stOut (F := F), View.writes_nil, r12, c13, r0, e8, e9, s97, a106, st]
      try rfl

end Cert.KernelIdeal.Fox
-- ==== Proof.IdealEven.lean ====
module

public import proofs.«01_k».proof.Proof.IdealLeft

/-! A later block of queries with an even number of key blocks before it: pairs of key blocks, then the diagonal block. -/

@[expose] public section

set_option maxRecDepth 16384

noncomputable section

namespace Cert.KernelIdeal.Fox
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 8000000

local notation "𝕄G" => MT nD τ sig Unit (Elt F) ℕ (UR sig nD τ) ℕ

theorem point_even (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole)
  (arg5 : Memref sig .tc .vmem S4096x128 .bf16) (harg5 : arg5.IsWhole) (arg6 : Memref sig .tc .vmem S1x1x1x4096 .f32) (harg6 : arg6.IsWhole)
  (arg7 : Memref sig .tc .vmem S512x128 .bf16) (harg7 : arg7.IsWhole) (arg8 : Memref sig .tc .vmem S144x4096 .bf16) (harg8 : arg8.IsWhole)
  (arg9 : Memref sig .tc .vmem S4096x128 .f32) (harg9 : arg9.IsWhole) (arg10 : Memref sig .tc .vmem S2x512x512 .f32) (harg10 : arg10.IsWhole)
  (arg11 : Memref sig .tc .vmem S1x512 .f32) (harg11 : arg11.IsWhole) (arg12 : Memref sig .tc .vmem S144x512 .f32) (harg12 : arg12.IsWhole)
    (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (E : Set ℕ) (hne : (i 2).val ≠ 0) (hpar : (i 2).val % 2 = 0) (e8 : arg8.view.read (Elt F) f8 = vtOf (arg5.view.read (Elt F) X5)) (e9 : arg9.view.read (Elt F) f9 = fcOf (arg6.view.read (Elt F) X6)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄G)
    ⊢ wp frame (wpE (defs₀ (F := F)) 𝒱 (c : Thread nD τ) bd) E (cc0_fox_attention (F := F) i arg3 harg3 arg4 harg4 arg5 harg5 arg6 harg6 arg7 harg7 arg8 harg8 arg9 harg9 arg10 harg10 arg11 harg11 arg12 harg12)
      (fun _ => left arg3 arg4 arg5 arg6 arg7 arg8 arg9 arg10 arg11 arg12 c X3 X4 X5 X6 (i 2).val) := by
  have hi8 : (i 2).val < 8 := (i 2).isLt
  have c1 : ¬ k0_cond1 i = 1#1 := fun h => by have := (cond1_iff i).mp h; omega
  have c2 : k0_cond2 i = 1#1 := (cond2_iff i).mpr (by omega)
  have c3 : ¬ k0_cond3 i = 1#1 := fun h => by have := (cond3_iff i).mp h; omega
  have t3 := trips3 i
  rw [cc0_fox_attention_eq_skeleton]; unfold cc0_fox_attention_skel
  simp only [k0_part20_eq_skeleton, k0_part21_eq_skeleton, k0_part5_eq_skeleton]
  unfold k0_part20_skel k0_part21_skel
  iintro ⟨H3, H4, H5, H6, H7, H8, H9, H10, H11, H12⟩
  sl_exec
  rw [Prog.bind_assoc]
  sl_for (fun k _ => loop2 arg3 arg4 arg8 arg9 arg10 arg11 arg12 c X3 X4 f8 f9 k) $$ [H3 H4 H8 H9 H10 H11 H12]
  · intro k acc
    exact trip_step 𝒱 c bd i arg3 harg3 arg4 harg4 arg5 harg5 arg6 harg6 arg7 harg7 arg8 harg8 arg9 harg9 arg10 harg10 arg11 harg11 arg12 harg12 _ _ _ _ X3 X4 f8 f9 k E
  · unfold loop2
    iexists _, _, _
    isplitr
    swap
    · iframe H3 H4 H8 H9 H10 H11 H12
    · ipureintro
      sl_unfold_run_names
      have r0 := fun {e} {sp} {κ'} {sg} (v : View sg κ' sp S4096x128 e) f inb => ld_rows (F := F) v f inb (0) (by omega) (rfl)
      constructor <;> simp only [readCov_def (F := F), ld_all (F := F), ldM0 (F := F), ldM1 (F := F), ldA0 (F := F), ldA1 (F := F), ldS00 (F := F), ldS01 (F := F), ldS10 (F := F), ldS11 (F := F), ldC0 (F := F), ldC1 (F := F), ldTop (F := F), ldOnes (F := F), stM0 (F := F), stM1 (F := F), stM0_1 (F := F), stM1_0 (F := F), stM_all (F := F), stA0 (F := F), stA1 (F := F), stA0_1 (F := F), stA1_0 (F := F), stA_all (F := F), stS0 (F := F), stS1 (F := F), stS0_1 (F := F), stS1_0 (F := F), stOut (F := F), View.writes_nil, r0, s97, Nat.mul_zero, st]
  iintro %acc HI
  unfold loop2
  icases HI with ⟨%g10, %g11, %g12, %hA, H3, H4, H8, H9, H10, H11, H12⟩
  sl_unfold_run_names
  rw [Prog.bind_assoc]
  sl_for0 t3
  sl_exec
  sl_step
  unfold left
  iexists _, _, _, _, _, _
  isplitr
  swap
  · iframe H3 H4 H5 H6 H7 H8 H9 H10 H11 H12
  · ipureintro
    sl_unfold_run_names
    have r12 := fun {e} {sp} {κ'} {sg} (v : View sg κ' sp S4096x128 e) f inb => ld_rows (F := F) v f inb ((i 2).val) (by omega) (k0_off12_eq i)
    have c13 := fun {e} {sp} {κ'} {sg} (v : View sg κ' sp S144x4096 e) f inb => ld_cols (F := F) v f inb ((i 2).val) (by omega) (k0_off13_eq i)
    have r0 := fun {e} {sp} {κ'} {sg} (v : View sg κ' sp S4096x128 e) f inb => ld_rows (F := F) v f inb (0) (by omega) (rfl)
    refine ⟨?_, e8, e9⟩
    have ht : 2 * (k0_t2_loop i).trips = (i 2).val := by rw [trips2]; omega
    rw [ht, e8, e9] at hA
    obtain ⟨hs, hm0, hm1, ha0, ha1⟩ := hA
    rw [stOut (F := F)]
    simp only [readCov_def (F := F), ldTop (F := F), ldOnes (F := F)]
    refine out_of_halves ?_ ?_
    · rw [fin_zero]
      simp only [readCov_def (F := F), ld_all (F := F), ldM0 (F := F), ldM1 (F := F), ldA0 (F := F), ldA1 (F := F), ldS00 (F := F), ldS01 (F := F), ldS10 (F := F), ldS11 (F := F), ldC0 (F := F), ldC1 (F := F), ldTop (F := F), ldOnes (F := F), stM0 (F := F), stM1 (F := F), stM0_1 (F := F), stM1_0 (F := F), stM_all (F := F), stA0 (F := F), stA1 (F := F), stA0_1 (F := F), stA1_0 (F := F), stA_all (F := F), stS0 (F := F), stS1 (F := F), stS0_1 (F := F), stS1_0 (F := F), stOut (F := F), View.writes_nil, r12, c13, e8, e9, hs, hm0, hm1, ha0, ha1, a106]
      try rfl
    · rw [fin_one]
      simp only [readCov_def (F := F), ld_all (F := F), ldM0 (F := F), ldM1 (F := F), ldA0 (F := F), ldA1 (F := F), ldS00 (F := F), ldS01 (F := F), ldS10 (F := F), ldS11 (F := F), ldC0 (F := F), ldC1 (F := F), ldTop (F := F), ldOnes (F := F), stM0 (F := F), stM1 (F := F), stM0_1 (F := F), stM1_0 (F := F), stM_all (F := F), stA0 (F := F), stA1 (F := F), stA0_1 (F := F), stA1_0 (F := F), stA_all (F := F), stS0 (F := F), stS1 (F := F), stS0_1 (F := F), stS1_0 (F := F), stOut (F := F), View.writes_nil, r12, c13, e8, e9, hs, hm0, hm1, ha0, ha1, a106]
      try rfl

end Cert.KernelIdeal.Fox
-- ==== Proof.IdealOdd.lean ====
module

public import proofs.«01_k».proof.Proof.IdealLeft

/-! A block of queries with an odd number of key blocks before it: pairs of key blocks, one more, then the diagonal block. -/

@[expose] public section

set_option maxRecDepth 16384

noncomputable section

namespace Cert.KernelIdeal.Fox
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 8000000

local notation "𝕄G" => MT nD τ sig Unit (Elt F) ℕ (UR sig nD τ) ℕ

theorem point_odd (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole)
  (arg5 : Memref sig .tc .vmem S4096x128 .bf16) (harg5 : arg5.IsWhole) (arg6 : Memref sig .tc .vmem S1x1x1x4096 .f32) (harg6 : arg6.IsWhole)
  (arg7 : Memref sig .tc .vmem S512x128 .bf16) (harg7 : arg7.IsWhole) (arg8 : Memref sig .tc .vmem S144x4096 .bf16) (harg8 : arg8.IsWhole)
  (arg9 : Memref sig .tc .vmem S4096x128 .f32) (harg9 : arg9.IsWhole) (arg10 : Memref sig .tc .vmem S2x512x512 .f32) (harg10 : arg10.IsWhole)
  (arg11 : Memref sig .tc .vmem S1x512 .f32) (harg11 : arg11.IsWhole) (arg12 : Memref sig .tc .vmem S144x512 .f32) (harg12 : arg12.IsWhole)
    (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (E : Set ℕ) (hne : (i 2).val ≠ 0) (hpar : (i 2).val % 2 = 1) (e8 : arg8.view.read (Elt F) f8 = vtOf (arg5.view.read (Elt F) X5)) (e9 : arg9.view.read (Elt F) f9 = fcOf (arg6.view.read (Elt F) X6)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄G)
    ⊢ wp frame (wpE (defs₀ (F := F)) 𝒱 (c : Thread nD τ) bd) E (cc0_fox_attention (F := F) i arg3 harg3 arg4 harg4 arg5 harg5 arg6 harg6 arg7 harg7 arg8 harg8 arg9 harg9 arg10 harg10 arg11 harg11 arg12 harg12)
      (fun _ => left arg3 arg4 arg5 arg6 arg7 arg8 arg9 arg10 arg11 arg12 c X3 X4 X5 X6 (i 2).val) := by
  have hi8 : (i 2).val < 8 := (i 2).isLt
  have c1 : ¬ k0_cond1 i = 1#1 := fun h => by have := (cond1_iff i).mp h; omega
  have c2 : ¬ k0_cond2 i = 1#1 := fun h => by have := (cond2_iff i).mp h; omega
  have c3 : k0_cond3 i = 1#1 := (cond3_iff i).mpr (by omega)
  have t3 := trips3 i
  rw [cc0_fox_attention_eq_skeleton]; unfold cc0_fox_attention_skel
  simp only [k0_part20_eq_skeleton, k0_part21_eq_skeleton, k0_part5_eq_skeleton]
  unfold k0_part20_skel k0_part21_skel
  iintro ⟨H3, H4, H5, H6, H7, H8, H9, H10, H11, H12⟩
  sl_exec
  rw [Prog.bind_assoc]
  sl_for (fun k _ => loop2 arg3 arg4 arg8 arg9 arg10 arg11 arg12 c X3 X4 f8 f9 k) $$ [H3 H4 H8 H9 H10 H11 H12]
  · intro k acc
    exact trip_step 𝒱 c bd i arg3 harg3 arg4 harg4 arg5 harg5 arg6 harg6 arg7 harg7 arg8 harg8 arg9 harg9 arg10 harg10 arg11 harg11 arg12 harg12 _ _ _ _ X3 X4 f8 f9 k E
  · unfold loop2
    iexists _, _, _
    isplitr
    swap
    · iframe H3 H4 H8 H9 H10 H11 H12
    · ipureintro
      sl_unfold_run_names
      have r0 := fun {e} {sp} {κ'} {sg} (v : View sg κ' sp S4096x128 e) f inb => ld_rows (F := F) v f inb (0) (by omega) (rfl)
      constructor <;> simp only [readCov_def (F := F), ld_all (F := F), ldM0 (F := F), ldM1 (F := F), ldA0 (F := F), ldA1 (F := F), ldS00 (F := F), ldS01 (F := F), ldS10 (F := F), ldS11 (F := F), ldC0 (F := F), ldC1 (F := F), ldTop (F := F), ldOnes (F := F), stM0 (F := F), stM1 (F := F), stM0_1 (F := F), stM1_0 (F := F), stM_all (F := F), stA0 (F := F), stA1 (F := F), stA0_1 (F := F), stA1_0 (F := F), stA_all (F := F), stS0 (F := F), stS1 (F := F), stS0_1 (F := F), stS1_0 (F := F), stOut (F := F), View.writes_nil, r0, s97, Nat.mul_zero, st]
  iintro %acc HI
  unfold loop2
  icases HI with ⟨%g10, %g11, %g12, %hA, H3, H4, H8, H9, H10, H11, H12⟩
  sl_unfold_run_names
  rw [Prog.bind_assoc]
  sl_for0 t3
  sl_exec
  sl_step
  unfold left
  iexists _, _, _, _, _, _
  isplitr
  swap
  · iframe H3 H4 H5 H6 H7 H8 H9 H10 H11 H12
  · ipureintro
    sl_unfold_run_names
    have r14 := fun {e} {sp} {κ'} {sg} (v : View sg κ' sp S4096x128 e) f inb => ld_rows (F := F) v f inb ((i 2).val) (by omega) (k0_off14_eq i)
    have c17 := fun {e} {sp} {κ'} {sg} (v : View sg κ' sp S144x4096 e) f inb => ld_cols (F := F) v f inb ((i 2).val) (by omega) (k0_off17_eq i)
    have r15 := fun {e} {sp} {κ'} {sg} (v : View sg κ' sp S4096x128 e) f inb => ld_rows (F := F) v f inb ((i 2).val - 1) (by omega) (off15 i hpar)
    have c16 := fun {e} {sp} {κ'} {sg} (v : View sg κ' sp S144x4096 e) f inb => ld_cols (F := F) v f inb ((i 2).val - 1) (by omega) (off16 i hpar)
    refine ⟨?_, e8, e9⟩
    have ht : 2 * (k0_t2_loop i).trips = (i 2).val - 1 := by rw [trips2]; omega
    rw [ht, e8, e9] at hA
    obtain ⟨hs, hm0, hm1, ha0, ha1⟩ := hA
    have hst : ∀ K Q FC VT h, st (F := F) K Q FC VT h (i 2).val = st K Q FC VT h ((i 2).val - 1 + 1) := fun K Q FC VT h => by rw [Nat.sub_add_cancel (by omega)]
    rw [stOut (F := F)]
    simp only [readCov_def (F := F), ldTop (F := F), ldOnes (F := F)]
    refine out_of_halves ?_ ?_
    · rw [fin_zero]
      simp only [readCov_def (F := F), ld_all (F := F), ldM0 (F := F), ldM1 (F := F), ldA0 (F := F), ldA1 (F := F), ldS00 (F := F), ldS01 (F := F), ldS10 (F := F), ldS11 (F := F), ldC0 (F := F), ldC1 (F := F), ldTop (F := F), ldOnes (F := F), stM0 (F := F), stM1 (F := F), stM0_1 (F := F), stM1_0 (F := F), stM_all (F := F), stA0 (F := F), stA1 (F := F), stA0_1 (F := F), stA1_0 (F := F), stA_all (F := F), stS0 (F := F), stS1 (F := F), stS0_1 (F := F), stS1_0 (F := F), stOut (F := F), View.writes_nil, r14, c17, r15, c16, e8, e9, hs, hm0, hm1, ha0, ha1, s66, a88, m72, a73, m78, a79, hst]
      try rfl
    · rw [fin_one]
      simp only [readCov_def (F := F), ld_all (F := F), ldM0 (F := F), ldM1 (F := F), ldA0 (F := F), ldA1 (F := F), ldS00 (F := F), ldS01 (F := F), ldS10 (F := F), ldS11 (F := F), ldC0 (F := F), ldC1 (F := F), ldTop (F := F), ldOnes (F := F), stM0 (F := F), stM1 (F := F), stM0_1 (F := F), stM1_0 (F := F), stM_all (F := F), stA0 (F := F), stA1 (F := F), stA0_1 (F := F), stA1_0 (F := F), stA_all (F := F), stS0 (F := F), stS1 (F := F), stS0_1 (F := F), stS1_0 (F := F), stOut (F := F), View.writes_nil, r14, c17, r15, c16, e8, e9, hs, hm0, hm1, ha0, ha1, s66, a88, m72, a73, m78, a79, hst]
      try rfl

end Cert.KernelIdeal.Fox
-- ==== Proof.IdealPoint.lean ====
module

public import proofs.«01_k».proof.Proof.IdealFirst
public import proofs.«01_k».proof.Proof.IdealEven
public import proofs.«01_k».proof.Proof.IdealOdd

/-! One grid point, whatever its block of queries: what it finds in its buffers and what it leaves. -/

@[expose] public section

set_option maxRecDepth 16384

noncomputable section

namespace Cert.KernelIdeal.Fox
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 4000000

local notation "𝕄G" => MT nD τ sig Unit (Elt F) ℕ (UR sig nD τ) ℕ

/-- A grid point whose diagonal block is block `j`: from its blocks of queries, keys, values and forget sums, and, past the first
    block of queries, the filled scratches, to its block of the result with the scratches filled. -/
theorem point (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole)
  (arg5 : Memref sig .tc .vmem S4096x128 .bf16) (harg5 : arg5.IsWhole) (arg6 : Memref sig .tc .vmem S1x1x1x4096 .f32) (harg6 : arg6.IsWhole)
  (arg7 : Memref sig .tc .vmem S512x128 .bf16) (harg7 : arg7.IsWhole) (arg8 : Memref sig .tc .vmem S144x4096 .bf16) (harg8 : arg8.IsWhole)
  (arg9 : Memref sig .tc .vmem S4096x128 .f32) (harg9 : arg9.IsWhole) (arg10 : Memref sig .tc .vmem S2x512x512 .f32) (harg10 : arg10.IsWhole)
  (arg11 : Memref sig .tc .vmem S1x512 .f32) (harg11 : arg11.IsWhole) (arg12 : Memref sig .tc .vmem S144x512 .f32) (harg12 : arg12.IsWhole)
    (Q : Vec F S512x128 .bf16) (K : Vec F S4096x128 .bf16) (V : Vec F S4096x128 .bf16) (R : Vec F S1x1x1x4096 .f32) (E : Set ℕ) :
    (iprop(owns (c : Thread nD τ) arg3 fullShare Q ∗ owns (c : Thread nD τ) arg4 fullShare K ∗ owns (c : Thread nD τ) arg5 fullShare V ∗ owns (c : Thread nD τ) arg6 fullShare R ∗ (∃ Y : Vec F S512x128 .bf16, owns (c : Thread nD τ) arg7 fullShare Y)
      ∗ (∃ Y : Vec F S144x4096 .bf16, ⌜(i 2).val ≠ 0 → Y = vtOf V⌝ ∗ owns (c : Thread nD τ) arg8 fullShare Y) ∗ (∃ Y : Vec F S4096x128 .f32, ⌜(i 2).val ≠ 0 → Y = fcOf R⌝ ∗ owns (c : Thread nD τ) arg9 fullShare Y)
      ∗ (∃ Y : Vec F S2x512x512 .f32, owns (c : Thread nD τ) arg10 fullShare Y) ∗ (∃ Y : Vec F S1x512 .f32, owns (c : Thread nD τ) arg11 fullShare Y) ∗ (∃ Y : Vec F S144x512 .f32, owns (c : Thread nD τ) arg12 fullShare Y)) : sProp 𝕄G)
    ⊢ wp frame (wpE (defs₀ (F := F)) 𝒱 (c : Thread nD τ) bd) E (cc0_fox_attention (F := F) i arg3 harg3 arg4 harg4 arg5 harg5 arg6 harg6 arg7 harg7 arg8 harg8 arg9 harg9 arg10 harg10 arg11 harg11 arg12 harg12)
      (fun _ => iprop(owns (c : Thread nD τ) arg3 fullShare Q ∗ owns (c : Thread nD τ) arg4 fullShare K ∗ owns (c : Thread nD τ) arg5 fullShare V ∗ owns (c : Thread nD τ) arg6 fullShare R ∗ owns (c : Thread nD τ) arg7 fullShare (out K Q (fcOf R) (vtOf V) (i 2).val)
      ∗ owns (c : Thread nD τ) arg8 fullShare (vtOf V) ∗ owns (c : Thread nD τ) arg9 fullShare (fcOf R)
      ∗ (∃ Y : Vec F S2x512x512 .f32, owns (c : Thread nD τ) arg10 fullShare Y) ∗ (∃ Y : Vec F S1x512 .f32, owns (c : Thread nD τ) arg11 fullShare Y) ∗ (∃ Y : Vec F S144x512 .f32, owns (c : Thread nD τ) arg12 fullShare Y))) := by
  unfold owns
  iintro ⟨⟨%X3, %h3, H3⟩, ⟨%X4, %h4, H4⟩, ⟨%X5, %h5, H5⟩, ⟨%X6, %h6, H6⟩, ⟨%Y7, %f7, %h7, H7⟩, ⟨%Y8, %hY8, %f8, %h8, H8⟩, ⟨%Y9, %hY9, %f9, %h9, H9⟩, ⟨%Y10, %f10, %h10, H10⟩, ⟨%Y11, %f11, %h11, H11⟩, ⟨%Y12, %f12, %h12, H12⟩⟩
  have hp : (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄G)
      ⊢ wp frame (wpE (defs₀ (F := F)) 𝒱 (c : Thread nD τ) bd) E (cc0_fox_attention (F := F) i arg3 harg3 arg4 harg4 arg5 harg5 arg6 harg6 arg7 harg7 arg8 harg8 arg9 harg9 arg10 harg10 arg11 harg11 arg12 harg12)
        (fun _ => left arg3 arg4 arg5 arg6 arg7 arg8 arg9 arg10 arg11 arg12 c X3 X4 X5 X6 (i 2).val) := by
    by_cases h0 : (i 2).val = 0
    · exact point_first 𝒱 c bd i arg3 harg3 arg4 harg4 arg5 harg5 arg6 harg6 arg7 harg7 arg8 harg8 arg9 harg9 arg10 harg10 arg11 harg11 arg12 harg12 X3 X4 X5 X6 f7 f8 f9 f10 f11 f12 E h0
    · have e8 : arg8.view.read (Elt F) f8 = vtOf (arg5.view.read (Elt F) X5) := by rw [h8, h5]; exact hY8 h0
      have e9 : arg9.view.read (Elt F) f9 = fcOf (arg6.view.read (Elt F) X6) := by rw [h9, h6]; exact hY9 h0
      rcases Nat.mod_two_eq_zero_or_one (i 2).val with hpar | hpar
      · exact point_even 𝒱 c bd i arg3 harg3 arg4 harg4 arg5 harg5 arg6 harg6 arg7 harg7 arg8 harg8 arg9 harg9 arg10 harg10 arg11 harg11 arg12 harg12 X3 X4 X5 X6 f7 f8 f9 f10 f11 f12 E h0 hpar e8 e9
      · exact point_odd 𝒱 c bd i arg3 harg3 arg4 harg4 arg5 harg5 arg6 harg6 arg7 harg7 arg8 harg8 arg9 harg9 arg10 harg10 arg11 harg11 arg12 harg12 X3 X4 X5 X6 f7 f8 f9 f10 f11 f12 E h0 hpar e8 e9
  have hpost : (left arg3 arg4 arg5 arg6 arg7 arg8 arg9 arg10 arg11 arg12 c X3 X4 X5 X6 (i 2).val : sProp 𝕄G) ⊢ (iprop(owns (c : Thread nD τ) arg3 fullShare Q ∗ owns (c : Thread nD τ) arg4 fullShare K ∗ owns (c : Thread nD τ) arg5 fullShare V ∗ owns (c : Thread nD τ) arg6 fullShare R ∗ owns (c : Thread nD τ) arg7 fullShare (out K Q (fcOf R) (vtOf V) (i 2).val)
      ∗ owns (c : Thread nD τ) arg8 fullShare (vtOf V) ∗ owns (c : Thread nD τ) arg9 fullShare (fcOf R)
      ∗ (∃ Y : Vec F S2x512x512 .f32, owns (c : Thread nD τ) arg10 fullShare Y) ∗ (∃ Y : Vec F S1x512 .f32, owns (c : Thread nD τ) arg11 fullShare Y) ∗ (∃ Y : Vec F S144x512 .f32, owns (c : Thread nD τ) arg12 fullShare Y)) : sProp 𝕄G) := by
    unfold left owns
    iintro ⟨%g7, %g8, %g9, %g10, %g11, %g12, %hg, H3, H4, H5, H6, H7, H8, H9, H10, H11, H12⟩
    obtain ⟨hg7, hg8, hg9⟩ := hg
    rw [h3, h4, h5, h6] at hg7
    rw [h5] at hg8
    rw [h6] at hg9
    isplitl [H3]; · iexists X3; isplitr; · ipureintro; exact h3
                    · iexact H3
    isplitl [H4]; · iexists X4; isplitr; · ipureintro; exact h4
                    · iexact H4
    isplitl [H5]; · iexists X5; isplitr; · ipureintro; exact h5
                    · iexact H5
    isplitl [H6]; · iexists X6; isplitr; · ipureintro; exact h6
                    · iexact H6
    isplitl [H7]; · iexists g7; isplitr; · ipureintro; exact hg7
                    · iexact H7
    isplitl [H8]; · iexists g8; isplitr; · ipureintro; exact hg8
                    · iexact H8
    isplitl [H9]; · iexists g9; isplitr; · ipureintro; exact hg9
                    · iexact H9
    isplitl [H10]; · iexists _, g10; isplitr; · ipureintro; rfl
                     · iexact H10
    isplitl [H11]; · iexists _, g11; isplitr; · ipureintro; rfl
                     · iexact H11
    iexists _, g12; isplitr
    · ipureintro; rfl
    · iexact H12
  unfold owns at hpost
  iapply (hp.trans (wp_mono _ _ _ fun _ => hpost)) $$ [H3 H4 H5 H6 H7 H8 H9 H10 H11 H12]
  iframe H3 H4 H5 H6 H7 H8 H9 H10 H11 H12

end Cert.KernelIdeal.Fox
-- ==== Proof.IdealRun.lean ====
module

public import proofs.«01_k».proof.Proof.IdealPoint
public import proofs.«01_k».proof.Proof.Gen.KernelIdeal.Frame

/-! The run of the whole grid: what each point finds carried from the one before, and what the launch leaves. -/

@[expose] public section

set_option maxRecDepth 16384

noncomputable section

namespace Cert.KernelIdeal.Fox
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 4000000

local notation "𝕄G" => MT nD τ sig Unit (Elt F) ℕ (UR sig nD τ) ℕ

open Idealize.ShloMosaic.Pipeline (Dat BodyObligation)

variable (m : (ℓ : Loc nD τ sig) → Buf (Elt F) ℓ) (ρ : Dev nD → PrngReg)

/-- The block of queries, of keys, of values and of forget sums at point `t`. -/
def qAt (c : Dev nD) (t : Fin cfg0.N) : Vec F S512x128 .bf16 := iblk m c 0 t
@[inherit_doc qAt] def kAt (c : Dev nD) (t : Fin cfg0.N) : Vec F S4096x128 .bf16 := iblk m c 1 t
@[inherit_doc qAt] def vAt (c : Dev nD) (t : Fin cfg0.N) : Vec F S4096x128 .bf16 := iblk m c 2 t
@[inherit_doc qAt] def fAt (c : Dev nD) (t : Fin cfg0.N) : Vec F S1x1x1x4096 .f32 := iblk m c 3 t

/-- The block of the result point `t` leaves. -/
def outAt (c : Dev nD) (t : Fin cfg0.N) : Vec F S512x128 .bf16 :=
  out (kAt m c t) (qAt m c t) (fcOf (fAt m c t)) (vtOf (vAt m c t)) (grid0.coords t 2).val

/-- Between the points: within a head, the scratches hold its transposed values and its forget sums; the rest hold anything. -/
def Phi (c : Dev nD) (n : ℕ) : sProp 𝕄G :=
  iprop((∃ Y : Vec F S144x4096 .bf16, ⌜∀ t : Fin cfg0.N, t.val = n → n % 8 ≠ 0 → Y = vtOf (vAt m c t)⌝ ∗ owns (c : Thread nD τ) (Memref.whole cc0_scratch0) fullShare Y)
    ∗ (∃ Y : Vec F S4096x128 .f32, ⌜∀ t : Fin cfg0.N, t.val = n → n % 8 ≠ 0 → Y = fcOf (fAt m c t)⌝ ∗ owns (c : Thread nD τ) (Memref.whole cc0_scratch1) fullShare Y)
    ∗ (∃ Y : Vec F S2x512x512 .f32, owns (c : Thread nD τ) (Memref.whole cc0_scratch2) fullShare Y)
    ∗ (∃ Y : Vec F S1x512 .f32, owns (c : Thread nD τ) (Memref.whole cc0_scratch3) fullShare Y)
    ∗ (∃ Y : Vec F S144x512 .f32, owns (c : Thread nD τ) (Memref.whole cc0_scratch4) fullShare Y)
    ∗ ∃ r, prngReg c r)

/-- The proof data of the launch: each input's block left in place, the result's block computed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => outAt m c t
    | ⟨_ + 5, h⟩ => absurd h (Nat.not_lt.2 (Nat.le_add_left _ _))
  Φ t := Phi m c t.val
  q w := Pipeline.shareOf spec0 w
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d

/-- The last coordinate of a point. -/
theorem coord2 : ∀ t : Fin cfg0.N, (grid0.coords t 2).val = t.val % 8 :=
  (by decide +kernel : ∀ t : Fin grid0.N, (grid0.coords t 2).val = t.val % 8)

/-- Within a head the block of values does not move. -/
theorem vAt_succ (c : Dev nD) (t t' : Fin cfg0.N) (h : t'.val = t.val + 1) (h8 : t'.val % 8 ≠ 0) : vAt m c t = vAt m c t' := by
  have hf : (cfg0.win 2).fetch t' = false := by rw [← Bool.not_eq_true]; exact fun h' => h8 ((fetch0_2 t').mp h')
  have ht : (⟨t'.val - 1, Nat.lt_of_le_of_lt (Nat.sub_le _ _) t'.isLt⟩ : Fin cfg0.N) = t := Fin.ext (by simp only; omega)
  have e := (dats m 0 c).before_unfetched_in 2 rfl t' hf (fun _ => rfl) (iblk m c 2 t')
  rw [before_2, ht] at e
  exact (e.trans rfl).symm
/-- Nor the block of forget sums. -/
theorem fAt_succ (c : Dev nD) (t t' : Fin cfg0.N) (h : t'.val = t.val + 1) (h8 : t'.val % 8 ≠ 0) : fAt m c t = fAt m c t' := by
  have hf : (cfg0.win 3).fetch t' = false := by rw [← Bool.not_eq_true]; exact fun h' => h8 ((fetch0_3 t').mp h')
  have ht : (⟨t'.val - 1, Nat.lt_of_le_of_lt (Nat.sub_le _ _) t'.isLt⟩ : Fin cfg0.N) = t := Fin.ext (by simp only; omega)
  have e := (dats m 0 c).before_unfetched_in 3 rfl t' hf (fun _ => rfl) (iblk m c 3 t')
  rw [before_3, ht] at e
  exact (e.trans rfl).symm

/-- The body at point `t`, with anything (`O`) passed through. -/
theorem sound (𝒱 : Variants) (c : Dev nD) (t : Fin cfg0.N) (O : sProp 𝕄G) :
    (iprop(Phi m c t.val ∗ O ∗ (∃ d : Vec F S512x128 .bf16, owns (c : Thread nD τ) (st0_0 t) fullShare ((dats m 0 c).before 0 t d)) ∗ (∃ d : Vec F S4096x128 .bf16, owns (c : Thread nD τ) (st0_1 t) fullShare ((dats m 0 c).before 1 t d))
      ∗ (∃ d : Vec F S4096x128 .bf16, owns (c : Thread nD τ) (st0_2 t) fullShare ((dats m 0 c).before 2 t d)) ∗ (∃ d : Vec F S1x1x1x4096 .f32, owns (c : Thread nD τ) (st0_3 t) fullShare ((dats m 0 c).before 3 t d))
      ∗ (∃ d : Vec F S512x128 .bf16, owns (c : Thread nD τ) (st0_4 t) fullShare ((dats m 0 c).before 4 t d))) : sProp 𝕄G)
    ⊢ wp frame (wpE (defs₀ (F := F)) 𝒱 (c : Thread nD τ) none) Set.univ (bodyAt0 t) (fun _ => iprop(Phi m c (t.val + 1) ∗ O ∗ owns (c : Thread nD τ) (st0_0 t) fullShare (iblk m c 0 t)
      ∗ owns (c : Thread nD τ) (st0_1 t) fullShare (iblk m c 1 t) ∗ owns (c : Thread nD τ) (st0_2 t) fullShare (iblk m c 2 t)
      ∗ owns (c : Thread nD τ) (st0_3 t) fullShare (iblk m c 3 t) ∗ owns (c : Thread nD τ) (st0_4 t) fullShare (outAt m c t))) := by
  simp only [before_0, before_1, before_2, before_3]
  unfold Phi
  iintro ⟨⟨⟨%Y8, %h8, H8⟩, ⟨%Y9, %h9, H9⟩, H10, H11, H12, HR⟩, HO, ⟨%d0, H3⟩, ⟨%d1, H4⟩, ⟨%d2, H5⟩, ⟨%d3, H6⟩, ⟨%d4, H7⟩⟩
  iapply (wp_wand_r _ _ _)
  isplitl [H3 H4 H5 H6 H7 H8 H9 H10 H11 H12]
  · iapply (point 𝒱 c none (grid0.coords t) _ _ _ _ _ _ _ _ _ _ _ _ _ _ _ _ _ _ _ _ (qAt m c t) (kAt m c t) (vAt m c t) (fAt m c t) Set.univ) $$ [H3 H4 H5 H6 H7 H8 H9 H10 H11 H12]
    isplitl [H3]; · iexact H3
    isplitl [H4]; · iexact H4
    isplitl [H5]; · iexact H5
    isplitl [H6]; · iexact H6
    isplitl [H7]; · iexists _; iexact H7
    isplitl [H8]
    · iexists Y8; isplitr
      · ipureintro; intro hne; rw [coord2] at hne; exact h8 t rfl hne
      · iexact H8
    isplitl [H9]
    · iexists Y9; isplitr
      · ipureintro; intro hne; rw [coord2] at hne; exact h9 t rfl hne
      · iexact H9
    isplitl [H10]; · iexact H10
    isplitl [H11]; · iexact H11
    iexact H12
  · iintro %a ⟨H3, H4, H5, H6, H7, H8, H9, H10, H11, H12⟩
    isplitl [H8 H9 H10 H11 H12 HR]
    · isplitl [H8]
      · iexists (vtOf (vAt m c t)); isplitr
        · ipureintro; intro t' ht' h8'; rw [vAt_succ m c t t' ht' (by rw [ht']; exact h8')]
        · iexact H8
      isplitl [H9]
      · iexists (fcOf (fAt m c t)); isplitr
        · ipureintro; intro t' ht' h8'; rw [fAt_succ m c t t' ht' (by rw [ht']; exact h8')]
        · iexact H9
      isplitl [H10]; · iexact H10
      isplitl [H11]; · iexact H11
      isplitl [H12]; · iexact H12
      iexact HR
    isplitl [HO]; · iexact HO
    isplitl [H3]; · iexact H3
    isplitl [H4]; · iexact H4
    isplitl [H5]; · iexact H5
    isplitl [H6]; · iexact H6
    iexact H7

theorem body_row (t : Fin cfg0.N) : defs₀ (F := F) .tc cfg0.body (cfg0.bodyArgs t (cfg0.slots t)) = bodyAt0 t := by
  unfold defs₀; rw [Defs.onTc_tc]

/-- The launch's obligation at every point. -/
theorem body_obligation (c : Dev nD) : BodyObligation (dats m 0 c) (defs₀ (F := F)) Variants.none () Set.univ := fun t => by
  rw [bigSep_W0, bigSep_W0, body_row]
  exact triple_restated (sound m Variants.none c t ((dats m 0 c).owesAt () t.castSucc)) rfl .rfl fun _ => .rfl

theorem phi_in (c : Dev nD) : (Pipeline.ΦA spec0 c : sProp 𝕄G) ⊢ (dats m 0 c).Φ 0 := by
  show (Pipeline.ΦA spec0 c : sProp 𝕄G) ⊢ Phi m c 0
  unfold Pipeline.ΦA Phi
  rw [scopedRest0_eq]
  simp only [owns_whole]
  iintro ⟨⟨⟨%f8, H8⟩, ⟨%f9, H9⟩, H10, H11, H12⟩, HR⟩
  isplitl [H8]
  · iexists f8; isplitr
    · ipureintro; intro t _ h; exact absurd rfl h
    · iexact H8
  isplitl [H9]
  · iexists f9; isplitr
    · ipureintro; intro t _ h; exact absurd rfl h
    · iexact H9
  isplitl [H10]; · iexact H10
  isplitl [H11]; · iexact H11
  isplitl [H12]; · iexact H12
  iexact HR

theorem phi_out (c : Dev nD) : (dats m 0 c).Φ (Fin.last cfg0.N) ⊢ (Pipeline.ΦA spec0 c : sProp 𝕄G) := by
  show Phi m c cfg0.N ⊢ (Pipeline.ΦA spec0 c : sProp 𝕄G)
  unfold Pipeline.ΦA Phi
  rw [scopedRest0_eq]
  simp only [owns_whole]
  iintro ⟨⟨%f8, %_h8, H8⟩, ⟨%f9, %_h9, H9⟩, H10, H11, H12, HR⟩
  isplitr [HR]
  · isplitl [H8]; · iexists f8; iexact H8
    isplitl [H9]; · iexists f9; iexact H9
    isplitl [H10]; · iexact H10
    isplitl [H11]; · iexact H11
    iexact H12
  · iexact HR

/-- The run: the result's array is built of the points' blocks, everything else is as launched, and every semaphore ends at zero. -/
theorem run : θ_run defs (onTc (τ := τ) (main (F := F))) (s₀ m ρ) (fun r => Pipeline.FramePost cfgs (dats m) 0 (V m) r ∧ r.2.sem = fun _ => 0) :=
  Pipeline.θ_run_frame_track_shared cfgs (dats m) 0 launch₀0 defs₀ Variants.none m ρ main (fun c => (body_obligation m c).loose)
    (fun _ _ _ => rfl) (fun _ _ => rfl) (V m) (hmain m Variants.none) (fun _ _ => rfl) (phi_in m) (phi_out m) (Q' := _) (fun _ h => h)

/-- The arguments end as launched. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 2).trans (((dats m 0 c).arrAt_in 2 rfl _).trans (V_main_arg0 m c)),
    ((h c).2 main_arg1 (Pipeline.mem_restRefs_of main_arg1 (by decide) (by decide))).trans (V_main_arg1 m c)⟩

/-- The result ends as the array built of the points' blocks. -/
theorem result_eq (r : PUnit × MemSt nD τ sig (Elt F)) (h : Pipeline.FramePost cfgs (dats m) 0 (V m) r) (c : Dev nD) :
    r.2.mem ((c.tc : Thread nD τ).loc main_v2) = (dats m 0 c).arrAt 4 cfg0.N := (h c).1 4

end Cert.KernelIdeal.Fox
-- ==== Proof.Attn.lean ====
module

public import Idealize.ShloMosaic.Lib.Pointwise
public import Idealize.ShloMosaic.PureOps.Ideal.Laws

/-! Causal attention over the real numbers: what one element of the result is, how the running sum of the online
softmax holds it, and how the softmax that subtracts a row's maximum reaches the same value. -/

@[expose] public section

noncomputable section

namespace Cert.Attn

open Idealize.ShloMosaic

/-- The weight of key `n` before normalisation: the scaled score less the key's forget sum, exponentiated. -/
def weight (q : Fin 128 → ℝ) (k : ℕ → Fin 128 → ℝ) (f : ℕ → ℝ) (n : ℕ) : ℝ :=
  Real.exp ((∑ d, q d * k n d) * (√128)⁻¹ - f n)

/-- The weighted mean of the values of the keys `0 … p`. -/
def mean (w v : ℕ → ℝ) (p : ℕ) : ℝ :=
  (∑ n ∈ Finset.range (p + 1), v n * w n) / ∑ n ∈ Finset.range (p + 1), w n

/-- A running maximum `m` and a running sum `a`: `a` is `w` divided by `2 ^ m`. -/
def Holds (m a : EReal) (w : ℝ) : Prop :=
  (m = ⊥ ∧ a = 0 ∧ w = 0) ∨ ∃ r : ℝ, m = (r : EReal) ∧ a = ((w * Real.rpow 2 (-r) : ℝ) : EReal)

/-- A score in base two whose weight is `e`: a masked score is `⊥` and weighs nothing. -/
def Score2 (y : EReal) (e : ℝ) : Prop := (y = ⊥ ∧ e = 0) ∨ ∃ t : ℝ, y = (t : EReal) ∧ e = Real.rpow 2 t

/-- A score in base `e`, the same way. -/
def ScoreE (y : EReal) (e : ℝ) : Prop := (y = ⊥ ∧ e = 0) ∨ ∃ t : ℝ, y = (t : EReal) ∧ e = Real.exp t

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem rpow_sub (a b : ℝ) : Real.rpow 2 (a - b) = Real.rpow 2 a * Real.rpow 2 (-b) := by
  rw [sub_eq_add_neg]; exact Real.rpow_add (by norm_num) _ _

theorem Score2.exp2 {y : EReal} {e : ℝ} (h : Score2 y e) (r : ℝ) :
    Ideal.exp2 (y - (r : EReal)) = ((e * Real.rpow 2 (-r) : ℝ) : EReal) := by
  rcases h with ⟨rfl, rfl⟩ | ⟨t, rfl, rfl⟩
  · simp
  · rw [← EReal.coe_sub, Ideal.exp2_coe, rpow_sub]

theorem ScoreE.exp {y : EReal} {e : ℝ} (h : ScoreE y e) (r : ℝ) :
    Ideal.exp (y - (r : EReal)) = ((e * Real.exp (-r) : ℝ) : EReal) := by
  rcases h with ⟨rfl, rfl⟩ | ⟨t, rfl, rfl⟩
  · simp
  · rw [← EReal.coe_sub, Ideal.exp_coe, sub_eq_add_neg, Real.exp_add]

/-- A block of keys added to the running sum, rescaled to the new maximum `r`. -/
theorem Holds.step {n : ℕ} {m a : EReal} {w : ℝ} (h : Holds m a w) (r : ℝ) {y ν : Fin n → EReal} {e v : Fin n → ℝ}
    (hy : ∀ k, Score2 (y k) (e k)) (hv : ∀ k, ν k = (v k : EReal)) :
    Holds (r : EReal) (Ideal.exp2 (m - (r : EReal)) * a + ∑ k, ν k * Ideal.exp2 (y k - (r : EReal))) (w + ∑ k, v k * e k) := by
  refine Or.inr ⟨r, rfl, ?_⟩
  have h1 : (∑ k, ν k * Ideal.exp2 (y k - (r : EReal))) = (((∑ k, v k * e k) * Real.rpow 2 (-r) : ℝ) : EReal) := by
    rw [Finset.sum_mul, ← sum_coe]
    refine Finset.sum_congr rfl fun k _ => ?_
    rw [(hy k).exp2, hv, ← EReal.coe_mul, mul_assoc]
  rw [h1]
  rcases h with ⟨rfl, rfl, rfl⟩ | ⟨t, rfl, rfl⟩
  · simp
  · rw [← EReal.coe_sub, Ideal.exp2_coe, ← EReal.coe_mul, ← EReal.coe_add]
    congr 1
    have : Real.rpow 2 (t - r) * Real.rpow 2 (-t) = Real.rpow 2 (-r) := by
      have := Real.rpow_add (show (0:ℝ) < 2 by norm_num) (t - r) (-t)
      rw [show t - r + -t = -r by ring] at this
      exact this.symm
    rw [add_mul, ← this]; ring

theorem Holds.bot : Holds ⊥ 0 0 := Or.inl ⟨rfl, rfl, rfl⟩

theorem Holds.lt_top {m a : EReal} {w : ℝ} (h : Holds m a w) : m < ⊤ := by
  rcases h with ⟨rfl, _, _⟩ | ⟨t, rfl, _⟩
  · exact bot_lt_top
  · exact EReal.coe_lt_top t

/-- Two sums held against one real maximum: their quotient is the quotient of what they hold. -/
theorem Holds.div {r : ℝ} {a b : EReal} {w z : ℝ} (ha : Holds (r : EReal) a w) (hb : Holds (r : EReal) b z) (hz : 0 < z) :
    Ideal.div a b = ((w / z : ℝ) : EReal) := by
  rcases ha with ⟨h, _, _⟩ | ⟨s, hs, rfl⟩
  · exact absurd h (EReal.coe_ne_bot r)
  rcases hb with ⟨h, _, _⟩ | ⟨t, ht, rfl⟩
  · exact absurd h (EReal.coe_ne_bot r)
  obtain rfl : r = s := by exact_mod_cast hs
  obtain rfl : r = t := by exact_mod_cast ht
  have hp : (0 : ℝ) < Real.rpow 2 (-r) := Real.rpow_pos_of_pos (by norm_num) _
  rw [Ideal.div_coe (mul_pos hz hp).ne', ← EReal.coe_mul]
  congr 1
  field_simp

theorem Score2.lt_top {y : EReal} {e : ℝ} (h : Score2 y e) : y < ⊤ := by
  rcases h with ⟨rfl, _⟩ | ⟨t, rfl, _⟩
  · exact bot_lt_top
  · exact EReal.coe_lt_top t

theorem Score2.bot_lt {y : EReal} {e : ℝ} (h : Score2 y e) (he : e ≠ 0) : ⊥ < y := by
  rcases h with ⟨rfl, h⟩ | ⟨t, rfl, _⟩
  · exact absurd h he
  · exact EReal.bot_lt_coe t

theorem ScoreE.lt_top {y : EReal} {e : ℝ} (h : ScoreE y e) : y < ⊤ := by
  rcases h with ⟨rfl, _⟩ | ⟨t, rfl, _⟩
  · exact bot_lt_top
  · exact EReal.coe_lt_top t

theorem ScoreE.bot_lt {y : EReal} {e : ℝ} (h : ScoreE y e) (he : e ≠ 0) : ⊥ < y := by
  rcases h with ⟨rfl, h⟩ | ⟨t, rfl, _⟩
  · exact absurd h he
  · exact EReal.bot_lt_coe t

theorem ScoreE.nonneg {y : EReal} {e : ℝ} (h : ScoreE y e) : 0 ≤ e := by
  rcases h with ⟨_, rfl⟩ | ⟨t, _, rfl⟩
  · exact le_rfl
  · exact (Real.exp_pos t).le

/-- An extended real strictly between the infinities is a real. -/
theorem real_of {x : EReal} (h1 : ⊥ < x) (h2 : x < ⊤) : ∃ r : ℝ, x = (r : EReal) :=
  ⟨x.toReal, (EReal.coe_toReal h2.ne h1.ne').symm⟩

/-- The softmax that subtracts a real `r` from its scores, applied to values, is the weighted mean. -/
theorem softmax {n : ℕ} (r : ℝ) {s ν : Fin n → EReal} {e v : Fin n → ℝ} (hs : ∀ k, ScoreE (s k) (e k))
    (hv : ∀ k, ν k = (v k : EReal)) (hpos : 0 < ∑ k, e k) :
    (∑ k, ν k * Ideal.div (Ideal.exp (s k - (r : EReal))) (∑ k, Ideal.exp (s k - (r : EReal)))) =
      (((∑ k, v k * e k) / ∑ k, e k : ℝ) : EReal) := by
  have hr := Real.exp_pos (-r)
  have h1 : (∑ k, Ideal.exp (s k - (r : EReal))) = (((∑ k, e k) * Real.exp (-r) : ℝ) : EReal) := by
    rw [Finset.sum_mul, ← sum_coe]
    exact Finset.sum_congr rfl fun k _ => (hs k).exp r
  rw [h1, Finset.sum_div, ← sum_coe]
  refine Finset.sum_congr rfl fun k _ => ?_
  rw [Ideal.div_coe (mul_pos hpos hr).ne', (hs k).exp, hv, ← EReal.coe_mul, ← EReal.coe_mul]
  congr 1
  field_simp

/-- A sum over a block of `n` keys from key `c` extends the sum of the keys before it. -/
theorem sum_block (g : ℕ → ℝ) (c n : ℕ) :
    (∑ i ∈ Finset.range c, g i) + ∑ k : Fin n, g (c + k.val) = ∑ i ∈ Finset.range (c + n), g i := by
  rw [Finset.sum_range_add, Finset.sum_range (fun i => g (c + i))]

/-- A sum over a block of which the keys after `X` are masked. -/
theorem sum_mask (g : ℕ → ℝ) {X n : ℕ} (h : X < n) :
    (∑ k : Fin n, if k.val ≤ X then g k.val else 0) = ∑ i ∈ Finset.range (X + 1), g i := by
  rw [← Finset.sum_range (fun i => if i ≤ X then g i else 0)]
  symm
  rw [← Finset.sum_subset (Finset.range_subset_range.2 (show X + 1 ≤ n by omega))
    (f := fun i => if i ≤ X then g i else 0) (fun i _ hi => if_neg (by simpa using hi))]
  exact Finset.sum_congr rfl fun i hi => (if_pos (by have := Finset.mem_range.1 hi; omega)).symm

/-- The diagonal block: the sum of the keys before it, extended by its keys up to the query. -/
theorem sum_diag (g : ℕ → ℝ) (c : ℕ) {X n : ℕ} (h : X < n) :
    (∑ i ∈ Finset.range c, g i) + (∑ k : Fin n, if k.val ≤ X then g (c + k.val) else 0) =
      ∑ i ∈ Finset.range (c + X + 1), g i := by
  rw [sum_mask (fun i => g (c + i)) h, add_assoc]
  exact (Finset.sum_range_add g c (X + 1)).symm

theorem weight_pos (q : Fin 128 → ℝ) (k : ℕ → Fin 128 → ℝ) (f : ℕ → ℝ) (n : ℕ) : 0 < weight q k f n := Real.exp_pos _

theorem sum_weight_pos (q : Fin 128 → ℝ) (k : ℕ → Fin 128 → ℝ) (f : ℕ → ℝ) (p : ℕ) :
    0 < ∑ n ∈ Finset.range (p + 1), weight q k f n :=
  Finset.sum_pos (fun n _ => weight_pos q k f n) ⟨0, by simp⟩

/-- The score in base two: both its factor and its forget sum carry `1 / log 2`. -/
theorem weight_rpow (q : Fin 128 → ℝ) (k : ℕ → Fin 128 → ℝ) (f : ℕ → ℝ) (n : ℕ) :
    Real.rpow 2 ((∑ d, k n d * q d) * ((√128)⁻¹ * (Real.log 2)⁻¹) - f n * (Real.log 2)⁻¹) = weight q k f n := by
  have h2 : Real.log 2 ≠ 0 := (Real.log_pos (by norm_num)).ne'
  unfold weight
  rw [show Real.rpow 2 = fun y => (2:ℝ) ^ y from rfl]
  show (2:ℝ) ^ _ = _
  rw [Real.rpow_def_of_pos (by norm_num), Finset.sum_congr rfl fun d _ => mul_comm (k n d) (q d)]
  congr 1
  field_simp

/-- The mean does not see a factor common to the weights of the unmasked keys. -/
theorem mean_scaled (w v : ℕ → ℝ) {p n : ℕ} (h : p < n) {c : ℝ} (hc : c ≠ 0) :
    (∑ k : Fin n, v k.val * (if k.val ≤ p then c * w k.val else 0)) / (∑ k : Fin n, if k.val ≤ p then c * w k.val else 0) =
      mean w v p := by
  rw [sum_mask (fun i => c * w i) h]
  have : (∑ k : Fin n, v k.val * (if k.val ≤ p then c * w k.val else 0)) = ∑ i ∈ Finset.range (p + 1), v i * (c * w i) := by
    rw [← sum_mask (fun i => v i * (c * w i)) h]
    exact Finset.sum_congr rfl fun k _ => by split <;> simp
  rw [this, ← Finset.mul_sum, Finset.sum_congr rfl fun i _ => show v i * (c * w i) = c * (v i * w i) by ring, ← Finset.mul_sum]
  exact mul_div_mul_left _ _ hc

end Cert.Attn

end
-- ==== Proof.Cell.lean ====
module

public import Idealize.ShloMosaic.Lib.Pointwise
public import Idealize.ShloMosaic.PureOps.IdealRules
public import proofs.«01_k».proof.Proof.IdealSpec
public import proofs.«01_k».proof.Proof.Attn

/-! The pieces of a grid point, read at one element over the extended reals. -/

@[expose] public section

set_option maxRecDepth 16384

noncomputable section

namespace Cert.KernelIdeal.Fox
open Cert.KernelIdeal.Gen

open Idealize.ShloMosaic Idealize.ShloMosaic.TcCoe

/-- The factor of a score: `1 / √128`, in base-two exponents. -/
def scale : EReal := (((√128)⁻¹ * (Real.log 2)⁻¹ : ℝ) : EReal)

theorem named_scale : (Named.named κ "scale_log2e" 0x3E0293EE#32 : Ideal .f32) = scale :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

theorem named_neg_inf : (Named.named κ "neg_inf" 0xF149F2CA#32 : Ideal .f32) = (⊥ : EReal) :=
  IdealRules.named_const.ideal_named_scalar _ _ _ _ rfl

variable (vt : Vec Ideal S144x512 .bf16) (fc : Vec Ideal S512x128 .f32) (s : Vec Ideal S1x512x256 .f32)
  (c : Vec Ideal S1x256x256 .f32) (m : Vec Ideal S1x256 .f32) (a : Vec Ideal S144x256 .f32)

theorem pay10_apply (k q : Vec Ideal S512x128 .bf16) (z : Fin 1) (i j : Fin 512) :
    k0_pay10 k q (ix3 z i j) = ∑ d : Fin 128, k (ix2 i d) * q (ix2 j d) := by
  pointwise [k0_pay10]

/-- The repeated forget column at a lane of 256. -/
theorem twice (g : Fin 128 → EReal) (x : Fin 256) :
    (if h : x.val < 128 then g ⟨x.val, h⟩ else g ⟨x.val - 128, by omega⟩) = g ⟨x.val % 128, Nat.mod_lt _ (by omega)⟩ := by
  split
  · next h => exact congrArg g (Fin.ext (Nat.mod_eq_of_lt h).symm)
  · next h => exact congrArg g (Fin.ext (by show x.val - 128 = x.val % 128; omega))

/-- A score kept where the key does not come after the query. -/
theorem kept (k x c : ℕ) (hk : k < 4096) (hx : x < 4096) (hc : c < 4096) (A B : EReal) :
    Scalar.select (IntOp.cmpi CmpIPredicate.sle (BitVec.ofNat 32 k) (IntOp.addi (BitVec.ofNat 32 x) (BitVec.ofNat 32 c))) A B =
      if k ≤ x + c then A else B := by
  have e : IntOp.addi (BitVec.ofNat 32 x) (BitVec.ofNat 32 c) = BitVec.ofNat 32 (x + c) := (BitVec.ofNat_add x c).symm
  have h : (BitVec.ofNat 32 k).sle (BitVec.ofNat 32 (x + c)) = decide (k ≤ x + c) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      exact decide_eq_decide.2 Int.ofNat_le
    · simp only [BitVec.toNat_ofNat]; omega
    · simp only [BitVec.toNat_ofNat]; omega
  rw [e]
  show Scalar.select (BitVec.ofBool _) A B = _
  rw [h]
  by_cases hh : k ≤ x + c
  · simp [hh, Scalar.select]
  · simp [hh, Scalar.select]

theorem pay27_apply (k : Fin 512) (x : Fin 256) :
    k0_pay27 fc s (ix2 k x) = s (ix3 0 k x) * scale - fc (ix2 k ⟨x.val % 128, Nat.mod_lt _ (by omega)⟩) := by
  pointwise [k0_pay27, k0_pay26]
  rw [named_scale, twice (fun l => fc (ix2 k l)) x]

theorem pay59_apply (k : Fin 256) (x : Fin 256) :
    k0_pay59 fc c (ix2 k x) = if k.val ≤ x.val then
      c (ix3 0 k x) * scale - fc (ix2 ⟨k.val, by omega⟩ ⟨x.val % 128, Nat.mod_lt _ (by omega)⟩) else ⊥ := by
  pointwise [k0_pay59, k0_pay58]
  rw [named_scale, named_neg_inf, twice (fun l => fc (ix2 ⟨k.val, by omega⟩ l)) x]
  exact kept k.val x.val 0 (by omega) (by omega) (by omega) _ _

theorem pay89_apply (k : Fin 512) (x : Fin 256) :
    k0_pay89 (k0_pay80 fc) s (ix2 k x) = if k.val ≤ x.val + 256 then
      s (ix3 0 k x) * scale - fc (ix2 k ⟨x.val % 128, Nat.mod_lt _ (by omega)⟩) else ⊥ := by
  pointwise [k0_pay89, k0_pay80]
  rw [named_scale, named_neg_inf, twice (fun l => fc (ix2 k l)) x]
  exact kept k.val x.val 256 (by omega) (by omega) (by omega) _ _

theorem tileA_apply (i : Fin 144) (x : Fin 256) :
    tileA vt fc s m a (ix2 i x) = Ideal.exp2 (m (ix2 0 x) - tileM fc s m (ix2 0 x)) * a (ix2 i x) +
      ∑ k : Fin 512, vt (ix2 i k) * Ideal.exp2 (k0_pay27 fc s (ix2 k x) - tileM fc s m (ix2 0 x)) := by
  unfold tileA tileM
  pointwise [k0_pay31, k0_pay29, k0_pay30]
  rfl

theorem diagA0_apply (i : Fin 144) (x : Fin 256) :
    diagA0 vt fc c m a (ix2 i x) = Ideal.exp2 (m (ix2 0 x) - k0_pay60 fc c m (ix2 0 x)) * a (ix2 i x) +
      ∑ k : Fin 256, vt (ix2 i ⟨k.val, by omega⟩) * Ideal.exp2 (k0_pay59 fc c (ix2 k x) - k0_pay60 fc c m (ix2 0 x)) := by
  unfold diagA0
  generalize k0_pay60 fc c m = m'
  generalize k0_pay59 fc c = p
  pointwise [k0_pay62]
  rfl

theorem diagA1_apply (i : Fin 144) (x : Fin 256) :
    diagA1 vt fc s m a (ix2 i x) = Ideal.exp2 (m (ix2 0 x) - k0_pay90 (k0_pay80 fc) s m (ix2 0 x)) * a (ix2 i x) +
      ∑ k : Fin 512, vt (ix2 i k) * Ideal.exp2 (k0_pay89 (k0_pay80 fc) s (ix2 k x) - k0_pay90 (k0_pay80 fc) s m (ix2 0 x)) := by
  unfold diagA1
  pointwise [k0_pay2, k0_pay91]
  rfl

theorem neg_infinity : Ideal.ofBits .f32 0xFF800000#32 = (⊥ : EReal) := by simp [Ideal.ofBits, Ideal.ieee]

/-- A maximum over a family is below the top when its start and all its terms are. -/
theorem fold_lt_top {n : ℕ} (f : Fin n → EReal) (h : ∀ r, f r < ⊤) :
    Finset.univ.fold max (⊥ : EReal) f < ⊤ := (Finset.fold_max_lt _).2 ⟨bot_lt_top, fun r _ => h r⟩

/-- It is above the bottom when one of its terms is. -/
theorem bot_lt_fold {n : ℕ} (f : Fin n → EReal) (r : Fin n) (h : ⊥ < f r) :
    ⊥ < Finset.univ.fold max (⊥ : EReal) f :=
  h.trans_le ((Finset.le_fold_max _).2 (Or.inr ⟨r, Finset.mem_univ r, le_rfl⟩))

theorem tileM_real (x : Fin 256) (hm : m (ix2 0 x) < ⊤) (hy : ∀ k, k0_pay27 fc s (ix2 k x) < ⊤)
    (h0 : ⊥ < k0_pay27 fc s (ix2 0 x)) : ∃ r : ℝ, tileM fc s m (ix2 0 x) = (r : EReal) := by
  unfold tileM
  pointwise [k0_pay30]
  unfold k0_pay28
  revert hy h0
  generalize k0_pay27 fc s = Y
  intro hy h0
  pointwise
  rw [neg_infinity]
  refine Attn.real_of ?_ (max_lt hm (fold_lt_top _ fun r => ?_))
  · refine lt_max_of_lt_right (bot_lt_fold _ 0 ?_)
    exact lt_max_of_lt_left (lt_max_of_lt_left (lt_max_of_lt_left (lt_max_of_lt_left (lt_max_of_lt_left (lt_max_of_lt_left (lt_max_of_lt_left h0))))))
  · exact max_lt (max_lt (max_lt (max_lt (max_lt (max_lt (max_lt (hy _) (hy _)) (hy _)) (hy _)) (hy _)) (hy _)) (hy _)) (hy _)

theorem diagM0_real (x : Fin 256) (hm : m (ix2 0 x) < ⊤) (hy : ∀ k, k0_pay59 fc c (ix2 k x) < ⊤)
    (h0 : ⊥ < k0_pay59 fc c (ix2 0 x)) : ∃ r : ℝ, k0_pay60 fc c m (ix2 0 x) = (r : EReal) := by
  unfold k0_pay60
  revert hy h0
  generalize k0_pay59 fc c = Y
  intro hy h0
  pointwise
  rw [neg_infinity]
  refine Attn.real_of ?_ (max_lt hm (fold_lt_top _ fun r => ?_))
  · refine lt_max_of_lt_right (bot_lt_fold _ 0 ?_)
    exact lt_max_of_lt_left (lt_max_of_lt_left (lt_max_of_lt_left (lt_max_of_lt_left (lt_max_of_lt_left (lt_max_of_lt_left (lt_max_of_lt_left h0))))))
  · exact max_lt (max_lt (max_lt (max_lt (max_lt (max_lt (max_lt (hy _) (hy _)) (hy _)) (hy _)) (hy _)) (hy _)) (hy _)) (hy _)

theorem diagM1_real (x : Fin 256) (hm : m (ix2 0 x) < ⊤) (hy : ∀ k, k0_pay89 (k0_pay80 fc) s (ix2 k x) < ⊤)
    (h0 : ⊥ < k0_pay89 (k0_pay80 fc) s (ix2 0 x)) : ∃ r : ℝ, k0_pay90 (k0_pay80 fc) s m (ix2 0 x) = (r : EReal) := by
  unfold k0_pay90
  revert hy h0
  generalize k0_pay89 (k0_pay80 fc) s = Y
  intro hy h0
  pointwise
  rw [neg_infinity]
  refine Attn.real_of ?_ (max_lt hm (fold_lt_top _ fun r => ?_))
  · refine lt_max_of_lt_right (bot_lt_fold _ 0 ?_)
    exact lt_max_of_lt_left (lt_max_of_lt_left (lt_max_of_lt_left (lt_max_of_lt_left (lt_max_of_lt_left (lt_max_of_lt_left (lt_max_of_lt_left h0))))))
  · exact max_lt (max_lt (max_lt (max_lt (max_lt (max_lt (max_lt (hy _) (hy _)) (hy _)) (hy _)) (hy _)) (hy _)) (hy _)) (hy _)

theorem out_apply (K : Vec Ideal S4096x128 .bf16) (Q : Vec Ideal S512x128 .bf16) (FC : Vec Ideal S4096x128 .f32) (VT : Vec Ideal S144x4096 .bf16)
    (j : ℕ) (x : Fin 512) (d : Fin 128) :
    out K Q FC VT j (ix2 x d) = Ideal.div (both (fin K Q FC VT j) (ix2 ⟨d.val, by omega⟩ x)) (both (fin K Q FC VT j) (ix2 ⟨128, by omega⟩ x)) := by
  unfold out
  pointwise [k0_pay3]
  rfl

theorem start_m (h : Fin 2) (x : Fin 256) : halfM h (k0_pay95 (F := Ideal)) (ix2 0 x) = (⊥ : EReal) := by
  unfold halfM
  pointwise [k0_pay95]
  exact named_neg_inf

theorem start_a (h : Fin 2) (i : Fin 144) (x : Fin 256) : halfA h (k0_pay96 (F := Ideal)) (ix2 i x) = (0 : EReal) := by
  unfold halfA
  pointwise [k0_pay96]

end Cert.KernelIdeal.Fox
-- ==== Proof.KernelValue.lean ====
module

public import proofs.«01_k».proof.Proof.Cell

/-! The block of the result at a grid point, over real queries, keys, values and forget sums: causal attention. -/

@[expose] public section

set_option maxRecDepth 16384

noncomputable section

namespace Cert.KernelIdeal.Fox
open Cert.KernelIdeal.Gen Cert.Attn

open Idealize.ShloMosaic Idealize.ShloMosaic.TcCoe

/-- The arrays of a grid point hold the reals of these functions. -/
structure Reals (K : Vec Ideal S4096x128 .bf16) (Q : Vec Ideal S512x128 .bf16) (V : Vec Ideal S4096x128 .bf16)
    (R : Vec Ideal S1x1x1x4096 .f32) (k : ℕ → Fin 128 → ℝ) (q : Fin 512 → Fin 128 → ℝ) (v : ℕ → Fin 128 → ℝ) (f : ℕ → ℝ) :
    Prop where
  key : ∀ i d, K (ix2 i d) = ((k i.val d : ℝ) : EReal)
  qry : ∀ i d, Q (ix2 i d) = ((q i d : ℝ) : EReal)
  val : ∀ i d, V (ix2 i d) = ((v i.val d : ℝ) : EReal)
  frg : ∀ i, R (ix4 0 0 0 i) = ((f i.val : ℝ) : EReal)

variable {K : Vec Ideal S4096x128 .bf16} {Q : Vec Ideal S512x128 .bf16} {V : Vec Ideal S4096x128 .bf16}
  {R : Vec Ideal S1x1x1x4096 .f32} {k : ℕ → Fin 128 → ℝ} {q : Fin 512 → Fin 128 → ℝ} {v : ℕ → Fin 128 → ℝ} {f : ℕ → ℝ}

/-- Row `i` of the transposed values over their rows of ones, as reals. -/
def vone (v : ℕ → Fin 128 → ℝ) (i : Fin 144) (n : ℕ) : ℝ := if h : i.val < 128 then v n ⟨i.val, h⟩ else 1

theorem Reals.vt (H : Reals K Q V R k q v f) (i : Fin 144) (n : Fin 4096) : vtOf V (ix2 i n) = ((vone v i n.val : ℝ) : EReal) := by
  show (if h : i.val < 128 then V (ix2 n ⟨i.val, h⟩) else Ideal.ofBits .bf16 0x3F80#16) = _
  unfold vone
  split
  · exact H.val _ _
  · rw [Ideal.ofBits_one_bf16, EReal.coe_one]

theorem Reals.cols (H : Reals K Q V R k q v f) {j : ℕ} (hj : j < 8) (i : Fin 144) (n : Fin 512) :
    cols (vtOf V) j (ix2 i n) = ((vone v i (512 * j + n.val) : ℝ) : EReal) := by
  refine (H.vt i _).trans ?_
  show ((vone v i ((512 * j + n.val) % 4096) : ℝ) : EReal) = _
  rw [Nat.mod_eq_of_lt (by omega)]

theorem Reals.rows_fc (H : Reals K Q V R k q v f) {j : ℕ} (hj : j < 8) (n : Fin 512) (l : Fin 128) :
    rows (fcOf R) j (ix2 n l) = ((f (512 * j + n.val) * (Real.log 2)⁻¹ : ℝ) : EReal) := by
  refine (congrArg₂ (fun a b : EReal => a * b) (H.frg ⟨(512 * j + n.val) % 4096, Nat.mod_lt _ (by omega)⟩) named_log2e).trans ?_
  show (_ : EReal) * _ = _
  rw [← EReal.coe_mul]
  show ((f ((512 * j + n.val) % 4096) * _ : ℝ) : EReal) = _
  rw [Nat.mod_eq_of_lt (by omega)]

theorem Reals.dot (H : Reals K Q V R k q v f) {j : ℕ} (hj : j < 8) (z : Fin 1) (n x : Fin 512) :
    k0_pay10 (rows K j) Q (ix3 z n x) = ((∑ d, k (512 * j + n.val) d * q x d : ℝ) : EReal) := by
  rw [pay10_apply, ← sum_coe]
  refine Finset.sum_congr rfl fun d _ => ?_
  rw [EReal.coe_mul, H.qry]
  refine congrArg (· * _) ((H.key _ d).trans ?_)
  show ((k ((512 * j + n.val) % 4096) d : ℝ) : EReal) = _
  rw [Nat.mod_eq_of_lt (by omega)]

/-- The score of key `n` for a query, in base two, over the reals. -/
theorem score {j n : ℕ} (qx : Fin 128 → ℝ) {s g : EReal}
    (hs : s = ((∑ d, k (512 * j + n) d * qx d : ℝ) : EReal)) (hg : g = ((f (512 * j + n) * (Real.log 2)⁻¹ : ℝ) : EReal)) :
    Score2 (s * scale - g) (weight qx k f (512 * j + n)) := by
  refine Or.inr ⟨_, ?_, (weight_rpow qx k f (512 * j + n)).symm⟩
  rw [hs, hg, scale, ← EReal.coe_mul, ← EReal.coe_sub]

theorem score_masked {y : EReal} {w : ℝ} {p : Prop} [Decidable p] (h : Score2 y w) :
    Score2 (if p then y else ⊥) (if p then w else 0) := by
  split
  · exact h
  · exact Or.inl ⟨rfl, rfl⟩

theorem Reals.tile (H : Reals K Q V R k q v f) {j : ℕ} (hj : j < 8) (h : Fin 2) (n : Fin 512) (x : Fin 256) :
    Score2 (k0_pay27 (rows (fcOf R) j) (halfS h (k0_pay10 (rows K j) Q)) (ix2 n x)) (weight (q (lane h x)) k f (512 * j + n.val)) := by
  rw [pay27_apply]
  exact score (q (lane h x)) (H.dot hj _ n (lane h x)) (H.rows_fc hj _ _)

theorem Reals.diag0 (H : Reals K Q V R k q v f) {j : ℕ} (hj : j < 8) (n x : Fin 256) :
    Score2 (k0_pay59 (rows (fcOf R) j) (cornerS (k0_pay10 (rows K j) Q)) (ix2 n x))
      (if n.val ≤ x.val then weight (q (lane 0 x)) k f (512 * j + n.val) else 0) := by
  rw [pay59_apply]
  refine score_masked (score (q (lane 0 x)) ((H.dot hj _ (lane 0 n) (lane 0 x)).trans ?_) (H.rows_fc hj _ _))
  rw [show (lane 0 n).val = n.val from by show 256 * 0 + n.val = _; omega]

theorem Reals.diag1 (H : Reals K Q V R k q v f) {j : ℕ} (hj : j < 8) (n : Fin 512) (x : Fin 256) :
    Score2 (k0_pay89 (k0_pay80 (rows (fcOf R) j)) (halfS 1 (k0_pay10 (rows K j) Q)) (ix2 n x))
      (if n.val ≤ x.val + 256 then weight (q (lane 1 x)) k f (512 * j + n.val) else 0) := by
  rw [pay89_apply]
  exact score_masked (score (q (lane 1 x)) (H.dot hj _ n (lane 1 x)) (H.rows_fc hj _ _))

/-- After the blocks before the diagonal, the running state holds the sum over their keys. -/
theorem Reals.st (H : Reals K Q V R k q v f) (h : Fin 2) (x : Fin 256) : ∀ j : ℕ, j < 8 → ∀ i : Fin 144,
    Holds ((st K Q (fcOf R) (vtOf V) h j).1 (ix2 0 x)) ((st K Q (fcOf R) (vtOf V) h j).2 (ix2 i x))
      (∑ n ∈ Finset.range (512 * j), vone v i n * weight (q (lane h x)) k f n) := by
  intro j
  induction j with
  | zero =>
    intro _ i
    have hm : (Fox.st K Q (fcOf R) (vtOf V) h 0).1 (ix2 0 x) = ⊥ := start_m h x
    have ha : (Fox.st K Q (fcOf R) (vtOf V) h 0).2 (ix2 i x) = 0 := start_a h i x
    rw [hm, ha]
    exact Holds.bot
  | succ j ih =>
    intro hj i
    have IH := ih (by omega)
    obtain ⟨r, hr⟩ := tileM_real (rows (fcOf R) j) (halfS h (k0_pay10 (rows K j) Q)) (Fox.st K Q (fcOf R) (vtOf V) h j).1 x
      (IH 0).lt_top (fun n => (H.tile (by omega) h n x).lt_top)
      ((H.tile (by omega) h 0 x).bot_lt (weight_pos _ _ _ _).ne')
    have hm : (Fox.st K Q (fcOf R) (vtOf V) h (j + 1)).1 (ix2 0 x) = (r : EReal) := hr
    have ha : (Fox.st K Q (fcOf R) (vtOf V) h (j + 1)).2 (ix2 i x) = _ := tileA_apply (Fox.cols (vtOf V) j) (rows (fcOf R) j)
      (halfS h (k0_pay10 (rows K j) Q)) (Fox.st K Q (fcOf R) (vtOf V) h j).1 (Fox.st K Q (fcOf R) (vtOf V) h j).2 i x
    rw [hm, ha, hr]
    have hs := (IH i).step r (fun n => H.tile (by omega : j < 8) h n x) (fun n => H.cols (by omega : j < 8) i n)
    have e := sum_block (fun n => vone v i n * weight (q (lane h x)) k f n) (512 * j) 512
    rw [show 512 * j + 512 = 512 * (j + 1) by ring] at e
    have e' : (∑ n ∈ Finset.range (512 * j), vone v i n * weight (q (lane h x)) k f n) +
        ∑ n : Fin 512, vone v i (512 * j + n.val) * weight (q (lane h x)) k f (512 * j + n.val) =
          ∑ n ∈ Finset.range (512 * (j + 1)), vone v i n * weight (q (lane h x)) k f n := e
    rw [e'] at hs
    exact hs

/-- The final sum of the first half holds the sum over the keys up to the query. -/
theorem Reals.fin0 (H : Reals K Q V R k q v f) {j : ℕ} (hj : j < 8) (x : Fin 256) : ∃ r : ℝ, ∀ i : Fin 144,
    Holds (r : EReal) (fin K Q (fcOf R) (vtOf V) j 0 (ix2 i x))
      (∑ n ∈ Finset.range (512 * j + x.val + 1), vone v i n * weight (q (lane 0 x)) k f n) := by
  obtain ⟨r, hr⟩ := diagM0_real (rows (fcOf R) j) (cornerS (k0_pay10 (rows K j) Q)) (Fox.st K Q (fcOf R) (vtOf V) 0 j).1 x
    (H.st 0 x j hj 0).lt_top (fun n => (H.diag0 hj n x).lt_top)
    ((H.diag0 hj 0 x).bot_lt (by rw [if_pos (show (0 : Fin _).val ≤ _ from Nat.zero_le _)]; exact (weight_pos _ _ _ _).ne'))
  refine ⟨r, fun i => ?_⟩
  rw [fin_zero, diagA0_apply, hr]
  have hs := (H.st 0 x j hj i).step r (fun n => H.diag0 hj n x) (fun n : Fin 256 => H.cols hj i ⟨n.val, by omega⟩)
  rw [← sum_diag (fun n => vone v i n * weight (q (lane 0 x)) k f n) (512 * j) (show x.val < 256 from x.isLt)]
  convert hs using 3
  simp only [mul_ite, mul_zero]

/-- The final sum of the second half likewise. -/
theorem Reals.fin1 (H : Reals K Q V R k q v f) {j : ℕ} (hj : j < 8) (x : Fin 256) : ∃ r : ℝ, ∀ i : Fin 144,
    Holds (r : EReal) (fin K Q (fcOf R) (vtOf V) j 1 (ix2 i x))
      (∑ n ∈ Finset.range (512 * j + (x.val + 256) + 1), vone v i n * weight (q (lane 1 x)) k f n) := by
  obtain ⟨r, hr⟩ := diagM1_real (rows (fcOf R) j) (halfS 1 (k0_pay10 (rows K j) Q)) (Fox.st K Q (fcOf R) (vtOf V) 1 j).1 x
    (H.st 1 x j hj 0).lt_top (fun n => (H.diag1 hj n x).lt_top)
    ((H.diag1 hj 0 x).bot_lt (by rw [if_pos (show (0 : Fin _).val ≤ _ from Nat.zero_le _)]; exact (weight_pos _ _ _ _).ne'))
  refine ⟨r, fun i => ?_⟩
  rw [fin_one, diagA1_apply, hr]
  have hs := (H.st 1 x j hj i).step r (fun n => H.diag1 hj n x) (fun n : Fin 512 => H.cols hj i n)
  rw [← sum_diag (fun n => vone v i n * weight (q (lane 1 x)) k f n) (512 * j) (show x.val + 256 < 512 by omega)]
  convert hs using 3
  simp only [mul_ite, mul_zero]

theorem vone_val (d : Fin 128) (n : ℕ) : vone v ⟨d.val, by omega⟩ n = v n d := dif_pos d.isLt
theorem vone_one (n : ℕ) : vone v ⟨128, by omega⟩ n = 1 := dif_neg (by decide)

theorem quotient {p : ℕ} {qx : Fin 128 → ℝ} {A : Fin 144 → EReal} {r : ℝ} (d : Fin 128)
    (h : ∀ i : Fin 144, Holds (r : EReal) (A i) (∑ n ∈ Finset.range (p + 1), vone v i n * weight qx k f n)) :
    Ideal.div (A ⟨d.val, by omega⟩) (A ⟨128, by omega⟩) = ((mean (weight qx k f) (fun n => v n d) p : ℝ) : EReal) := by
  have e : (∑ n ∈ Finset.range (p + 1), vone v ⟨128, by omega⟩ n * weight qx k f n) = ∑ n ∈ Finset.range (p + 1), weight qx k f n :=
    Finset.sum_congr rfl fun n _ => by rw [vone_one, one_mul]
  have h1 := h ⟨128, by omega⟩
  rw [e] at h1
  refine ((h ⟨d.val, by omega⟩).div h1 (sum_weight_pos qx k f p)).trans ?_
  unfold mean
  rw [Finset.sum_congr rfl fun n _ => by rw [vone_val d n]]

/-- The block of the result: causal attention of its queries. -/
theorem Reals.out (H : Reals K Q V R k q v f) {j : ℕ} (hj : j < 8) (x : Fin 512) (d : Fin 128) :
    out K Q (fcOf R) (vtOf V) j (ix2 x d) = ((mean (weight (q x) k f) (fun n => v n d) (512 * j + x.val) : ℝ) : EReal) := by
  rw [out_apply]
  by_cases hx : x.val < 256
  · obtain ⟨r, hr⟩ := H.fin0 hj ⟨x.val, hx⟩
    have hb : ∀ i : Fin 144, both (fin K Q (fcOf R) (vtOf V) j) (ix2 i x) = fin K Q (fcOf R) (vtOf V) j 0 (ix2 i ⟨x.val, hx⟩) :=
      fun i => dif_pos hx
    rw [hb, hb]
    have hl : lane 0 ⟨x.val, hx⟩ = x := Fin.ext (by show 256 * 0 + x.val = x.val; omega)
    rw [hl] at hr
    exact quotient d hr
  · obtain ⟨r, hr⟩ := H.fin1 hj ⟨x.val - 256, by omega⟩
    have hb : ∀ i : Fin 144, both (fin K Q (fcOf R) (vtOf V) j) (ix2 i x) = fin K Q (fcOf R) (vtOf V) j 1 (ix2 i ⟨x.val - 256, by omega⟩) :=
      fun i => dif_neg hx
    rw [hb, hb]
    have hl : lane 1 ⟨x.val - 256, by omega⟩ = x := Fin.ext (by show 256 * 1 + (x.val - 256) = x.val; omega)
    rw [hl, show x.val - 256 + 256 = x.val by omega] at hr
    exact quotient d hr

end Cert.KernelIdeal.Fox
-- ==== Proof.Blocks.lean ====
module

public import proofs.«01_k».proof.Proof.KernelValue
public import proofs.«01_k».proof.Proof.IdealRun
public import Idealize.ShloMosaic.Lib.Pointwise

/-! What each window's block holds at a grid point, element by element, of the arguments. -/

@[expose] public section

set_option maxRecDepth 16384

noncomputable section

namespace Cert.KernelIdeal.Fox
open Cert.KernelIdeal.Gen

open Idealize.ShloMosaic Idealize.ShloMosaic.TcCoe Idealize.SL.Sem

/-- Point `t` of the grid is batch `t / 128`, head `t / 8 % 16` and query tile `t % 8`; each window's block index there. -/
theorem index0 : ∀ t : Fin cfg0.N, win0_0.index t (0 : Fin 2) = t.val / 128 * 8 + t.val % 8 ∧ win0_0.index t (1 : Fin 2) = 96 + t.val / 8 % 16 :=
  (by decide +kernel : ∀ t : Fin grid0.N, _)
@[inherit_doc index0] theorem index1 : ∀ t : Fin cfg0.N, win0_1.index t (0 : Fin 2) = t.val / 128 ∧ win0_1.index t (1 : Fin 2) = 112 + t.val / 8 % 16 :=
  (by decide +kernel : ∀ t : Fin grid0.N, _)
@[inherit_doc index0] theorem index2 : ∀ t : Fin cfg0.N, win0_2.index t (0 : Fin 2) = t.val / 128 ∧ win0_2.index t (1 : Fin 2) = 128 + t.val / 8 % 16 :=
  (by decide +kernel : ∀ t : Fin grid0.N, _)
@[inherit_doc index0] theorem index3 : ∀ t : Fin cfg0.N, win0_3.index t (0 : Fin 4) = t.val / 128 ∧ win0_3.index t (1 : Fin 4) = t.val / 8 % 16
    ∧ win0_3.index t (2 : Fin 4) = 0 ∧ win0_3.index t (3 : Fin 4) = 0 :=
  (by decide +kernel : ∀ t : Fin grid0.N, _)
@[inherit_doc index0] theorem index4 : ∀ t : Fin cfg0.N, win0_4.index t (0 : Fin 2) = t.val / 128 * 8 + t.val % 8 ∧ win0_4.index t (1 : Fin 2) = t.val / 8 % 16 :=
  (by decide +kernel : ∀ t : Fin grid0.N, _)

theorem point_lt (t : Fin cfg0.N) : t.val < 256 := t.isLt

variable (m : (ℓ : Loc nD τ sig) → Buf (Elt Ideal) ℓ)

/-- The forget sums the kernel is launched on: 16 rows of the second argument, with an axis of one row put in. -/
theorem sums (c : Dev nD) : V m c main_v1 = shapeCast S2x16x1x4096 (extractStridedSlice S2x16x4096 ![0, 64, 0] (m ((c.tc : Thread nD τ).loc main_arg1)) slices_S2x128x4096_S2x16x4096_0_64_0)
    shapeCasts_S2x16x4096_S2x16x1x4096 := by
  show StableHlo.after hostOps0 _ _ = _
  unfold hostOps0
  after_results
  rfl

theorem qAt_apply (c : Dev nD) (t : Fin cfg0.N) (i : Fin 512) (d : Fin 128) (j : S8192x22528.Idx)
    (h0 : (j 0).val = (t.val / 128 * 8 + t.val % 8) * 512 + i.val) (h1 : (j 1).val = (96 + t.val / 8 % 16) * 128 + d.val) :
    qAt m c t (ix2 i d) = m ((c.tc : Thread nD τ).loc main_arg0) j := by
  obtain ⟨e0, e1⟩ := index0 t
  refine (show qAt m c t (ix2 i d) = V m c main_arg0 (((cfg0.win 0).blk t).view.emb (ix2 i d)) from rfl).trans ?_
  rw [V_main_arg0]
  refine congrArg (m ((c.tc : Thread nD τ).loc main_arg0)) (funext fun a => Fin.ext ?_)
  match a with
  | ⟨0, _⟩ => show win0_0.index t (0 : Fin 2) * 512 + 1 * i.val = (j 0).val; omega
  | ⟨1, _⟩ => show win0_0.index t (1 : Fin 2) * 128 + 1 * d.val = (j 1).val; omega

theorem kAt_apply (c : Dev nD) (t : Fin cfg0.N) (i : Fin 4096) (d : Fin 128) (j : S8192x22528.Idx)
    (h0 : (j 0).val = t.val / 128 * 4096 + i.val) (h1 : (j 1).val = (112 + t.val / 8 % 16) * 128 + d.val) :
    kAt m c t (ix2 i d) = m ((c.tc : Thread nD τ).loc main_arg0) j := by
  obtain ⟨e0, e1⟩ := index1 t
  refine (show kAt m c t (ix2 i d) = V m c main_arg0 (((cfg0.win 1).blk t).view.emb (ix2 i d)) from rfl).trans ?_
  rw [V_main_arg0]
  refine congrArg (m ((c.tc : Thread nD τ).loc main_arg0)) (funext fun a => Fin.ext ?_)
  match a with
  | ⟨0, _⟩ => show win0_1.index t (0 : Fin 2) * 4096 + 1 * i.val = (j 0).val; omega
  | ⟨1, _⟩ => show win0_1.index t (1 : Fin 2) * 128 + 1 * d.val = (j 1).val; omega

theorem vAt_apply (c : Dev nD) (t : Fin cfg0.N) (i : Fin 4096) (d : Fin 128) (j : S8192x22528.Idx)
    (h0 : (j 0).val = t.val / 128 * 4096 + i.val) (h1 : (j 1).val = (128 + t.val / 8 % 16) * 128 + d.val) :
    vAt m c t (ix2 i d) = m ((c.tc : Thread nD τ).loc main_arg0) j := by
  obtain ⟨e0, e1⟩ := index2 t
  refine (show vAt m c t (ix2 i d) = V m c main_arg0 (((cfg0.win 2).blk t).view.emb (ix2 i d)) from rfl).trans ?_
  rw [V_main_arg0]
  refine congrArg (m ((c.tc : Thread nD τ).loc main_arg0)) (funext fun a => Fin.ext ?_)
  match a with
  | ⟨0, _⟩ => show win0_2.index t (0 : Fin 2) * 4096 + 1 * i.val = (j 0).val; omega
  | ⟨1, _⟩ => show win0_2.index t (1 : Fin 2) * 128 + 1 * d.val = (j 1).val; omega

theorem fAt_apply (c : Dev nD) (t : Fin cfg0.N) (i : Fin 4096) (j : S2x128x4096.Idx)
    (h0 : (j 0).val = t.val / 128) (h1 : (j 1).val = 64 + t.val / 8 % 16) (h2 : (j 2).val = i.val) :
    fAt m c t (ix4 0 0 0 i) = m ((c.tc : Thread nD τ).loc main_arg1) j := by
  obtain ⟨e0, e1, e2, e3⟩ := index3 t
  have ht := point_lt t
  refine (show fAt m c t (ix4 0 0 0 i) = V m c main_v1 (((cfg0.win 3).blk t).view.emb (ix4 0 0 0 i)) from rfl).trans ?_
  have e : ((cfg0.win 3).blk t).view.emb (ix4 0 0 0 i) = ix4 (⟨t.val / 128, by omega⟩ : Fin 2) (⟨t.val / 8 % 16, by omega⟩ : Fin 16) (0 : Fin 1) i :=
    funext fun a => Fin.ext <| by
      match a with
      | ⟨0, _⟩ => show win0_3.index t (0 : Fin 4) * 1 + 1 * 0 = t.val / 128; omega
      | ⟨1, _⟩ => show win0_3.index t (1 : Fin 4) * 1 + 1 * 0 = t.val / 8 % 16; omega
      | ⟨2, _⟩ => show win0_3.index t (2 : Fin 4) * 1 + 1 * 0 = 0; omega
      | ⟨3, _⟩ => show win0_3.index t (3 : Fin 4) * 4096 + 1 * i.val = i.val; omega
  rw [e, sums]
  pointwise
  exact congrArg (m ((c.tc : Thread nD τ).loc main_arg1)) (funext fun a => Fin.ext <| match a with
    | ⟨0, _⟩ => h0.symm
    | ⟨1, _⟩ => h1.symm
    | ⟨2, _⟩ => h2.symm)

/-- Where the block of the result lies in the result. -/
theorem emb4_val (t : Fin cfg0.N) (i : Fin 512) (d : Fin 128) (j : S8192x2048.Idx)
    (h0 : (j 0).val = (t.val / 128 * 8 + t.val % 8) * 512 + i.val) (h1 : (j 1).val = t.val / 8 % 16 * 128 + d.val) :
    ((cfg0.win 4).blk t).view.emb (ix2 i d) = j := by
  obtain ⟨e0, e1⟩ := index4 t
  refine funext fun a => Fin.ext ?_
  match a with
  | ⟨0, _⟩ => show win0_4.index t (0 : Fin 2) * 512 + 1 * i.val = (j 0).val; omega
  | ⟨1, _⟩ => show win0_4.index t (1 : Fin 2) * 128 + 1 * d.val = (j 1).val; omega

/-- Every element of the result lies in some point's block. -/
theorem cover4 (j : S8192x2048.Idx) : ∃ t : Fin cfg0.N, (cfg0.win 4).flush t = true ∧ j ∈ ((cfg0.win 4).blk t).view.set := by
  have h0 : (j 0).val < 8192 := (j 0).isLt
  have h1 : (j 1).val < 2048 := (j 1).isLt
  let t : Fin cfg0.N := ⟨(j 0).val / 4096 * 128 + (j 1).val / 128 * 8 + (j 0).val / 512 % 8, show _ < 256 by omega⟩
  have ht : t.val = (j 0).val / 4096 * 128 + (j 1).val / 128 * 8 + (j 0).val / 512 % 8 := rfl
  have e := emb4_val t (⟨(j 0).val % 512, by omega⟩ : Fin 512) (⟨(j 1).val % 128, by omega⟩ : Fin 128) j
    (by rw [ht]; show (j 0).val = _ + (j 0).val % 512; omega) (by rw [ht]; show (j 1).val = _ + (j 1).val % 128; omega)
  refine ⟨t, flush0_4 t, ?_⟩
  have h := ((cfg0.win 4).blk t).view.emb_mem_set (ix2 (⟨(j 0).val % 512, by omega⟩ : Fin 512) (⟨(j 1).val % 128, by omega⟩ : Fin 128))
  exact (congrArg (· ∈ ((cfg0.win 4).blk t).view.set) e).mp h

end Cert.KernelIdeal.Fox
-- ==== Proof.RefValue.lean ====
module

public import Idealize.ShloMosaic.Lib.Pointwise
public import Idealize.ShloMosaic.Lib.WordCmp
public import proofs.«01_k».proof.Proof.Gen.ReferenceIdeal.Read
public import proofs.«01_k».proof.Proof.Attn

/-! The reference's result at an element, over real queries, keys, values and forget sums: causal attention. -/

@[expose] public section

set_option maxRecDepth 16384

noncomputable section

namespace Cert.ReferenceIdeal.Fox
open Cert.ReferenceIdeal Cert.ReferenceIdeal.Read Cert.Attn

open Idealize.ShloMosaic Idealize.ShloMosaic.TcCoe

/-- The projection's columns for `q`, `k` and `v` and the forget rows hold the reals of these functions. -/
structure Reals (x0 : FVec Ideal S8192x22528 .bf16) (x1 : FVec Ideal S2x128x4096 .f32) (P : ℕ → ℕ → ℝ) (G : ℕ → ℕ → ℕ → ℝ) : Prop where
  proj : ∀ (r : Fin 8192) (c : Fin 22528), 12288 ≤ c.val → c.val < 18432 → x0 (ix2 r c) = ((P r.val c.val : ℝ) : EReal)
  rows : ∀ (b : Fin 2) (h : Fin 128) (n : Fin 4096), 64 ≤ h.val → h.val < 80 → x1 (ix3 b h n) = ((G b.val h.val n.val : ℝ) : EReal)

variable {x0 : FVec Ideal S8192x22528 .bf16} {x1 : FVec Ideal S2x128x4096 .f32} {P : ℕ → ℕ → ℝ} {G : ℕ → ℕ → ℕ → ℝ}

/-- The query, key and value of a position and the forget sums, as functions of the arguments. -/
def qf (P : ℕ → ℕ → ℝ) (b h p : ℕ) (d : Fin 128) : ℝ := P (b * 4096 + p) (12288 + (h * 128 + d.val))
def kf (P : ℕ → ℕ → ℝ) (b h n : ℕ) (d : Fin 128) : ℝ := P (b * 4096 + n) (12288 + (2048 + (h * 128 + d.val)))
def vf (P : ℕ → ℕ → ℝ) (b h n : ℕ) (d : Fin 128) : ℝ := P (b * 4096 + n) (12288 + (4096 + (h * 128 + d.val)))
def ff (G : ℕ → ℕ → ℕ → ℝ) (b h n : ℕ) : ℝ := G b (64 + h) n

/-- Attention of one position of one head, at one of its 128 elements. -/
def attn (P : ℕ → ℕ → ℝ) (G : ℕ → ℕ → ℕ → ℝ) (b h p : ℕ) (d : Fin 128) : ℝ :=
  mean (weight (qf P b h p) (kf P b h) (ff G b h)) (fun n => vf P b h n d) p

theorem Reals.at (H : Reals x0 x1 P G) (i : S8192x22528.Idx) (r c : ℕ) (hr : (i 0).val = r) (hc : (i 1).val = c)
    (h1 : 12288 ≤ c) (h2 : c < 18432) : x0 i = ((P r c : ℝ) : EReal) := by
  subst hr hc
  have e : i = ix2 (i 0 : Fin 8192) (i 1 : Fin 22528) := funext fun a => match a with | ⟨0, _⟩ => rfl | ⟨1, _⟩ => rfl
  exact (congrArg x0 e).trans (H.proj (i 0) (i 1) h1 h2)

theorem Reals.q (H : Reals x0 x1 P G) (b : Fin 2) (p : Fin 4096) (h : Fin 16) (d : Fin 128) :
    val_main_v6 (F := Ideal) x0 (ix4 b p h d) = ((qf P b.val h.val p.val d : ℝ) : EReal) := by
  rw [val_main_v6_apply, val_main_v3_apply, val_main_v2_apply, val_main_v1_apply, val_main_v0_apply]
  have hb := b.isLt; have hp := p.isLt; have hh := h.isLt; have hd := d.isLt
  refine H.at _ _ _ ?_ ?_ (by omega) (by omega)
  · show ((((((b.val * 4096 + p.val) * 16 + h.val) * 128 + d.val) / 8388608) * 4096 +
      ((((b.val * 4096 + p.val) * 16 + h.val) * 128 + d.val) / 2048 % 4096)) * 6144 +
      ((((b.val * 4096 + p.val) * 16 + h.val) * 128 + d.val) % 2048)) / 6144 = b.val * 4096 + p.val
    omega
  · show 12288 + ((((((b.val * 4096 + p.val) * 16 + h.val) * 128 + d.val) / 8388608) * 4096 +
      ((((b.val * 4096 + p.val) * 16 + h.val) * 128 + d.val) / 2048 % 4096)) * 6144 +
      ((((b.val * 4096 + p.val) * 16 + h.val) * 128 + d.val) % 2048)) % 6144 = 12288 + (h.val * 128 + d.val)
    omega

theorem Reals.k (H : Reals x0 x1 P G) (b : Fin 2) (p : Fin 4096) (h : Fin 16) (d : Fin 128) :
    val_main_v7 (F := Ideal) x0 (ix4 b p h d) = ((kf P b.val h.val p.val d : ℝ) : EReal) := by
  rw [val_main_v7_apply, val_main_v4_apply, val_main_v2_apply, val_main_v1_apply, val_main_v0_apply]
  have hb := b.isLt; have hp := p.isLt; have hh := h.isLt; have hd := d.isLt
  refine H.at _ _ _ ?_ ?_ (by omega) (by omega)
  · show ((((((b.val * 4096 + p.val) * 16 + h.val) * 128 + d.val) / 8388608) * 4096 +
      ((((b.val * 4096 + p.val) * 16 + h.val) * 128 + d.val) / 2048 % 4096)) * 6144 +
      (2048 + (((b.val * 4096 + p.val) * 16 + h.val) * 128 + d.val) % 2048)) / 6144 = b.val * 4096 + p.val
    omega
  · show 12288 + ((((((b.val * 4096 + p.val) * 16 + h.val) * 128 + d.val) / 8388608) * 4096 +
      ((((b.val * 4096 + p.val) * 16 + h.val) * 128 + d.val) / 2048 % 4096)) * 6144 +
      (2048 + (((b.val * 4096 + p.val) * 16 + h.val) * 128 + d.val) % 2048)) % 6144 = 12288 + (2048 + (h.val * 128 + d.val))
    omega

theorem Reals.v (H : Reals x0 x1 P G) (b : Fin 2) (p : Fin 4096) (h : Fin 16) (d : Fin 128) :
    val_main_v8 (F := Ideal) x0 (ix4 b p h d) = ((vf P b.val h.val p.val d : ℝ) : EReal) := by
  rw [val_main_v8_apply, val_main_v5_apply, val_main_v2_apply, val_main_v1_apply, val_main_v0_apply]
  have hb := b.isLt; have hp := p.isLt; have hh := h.isLt; have hd := d.isLt
  refine H.at _ _ _ ?_ ?_ (by omega) (by omega)
  · show ((((((b.val * 4096 + p.val) * 16 + h.val) * 128 + d.val) / 8388608) * 4096 +
      ((((b.val * 4096 + p.val) * 16 + h.val) * 128 + d.val) / 2048 % 4096)) * 6144 +
      (4096 + (((b.val * 4096 + p.val) * 16 + h.val) * 128 + d.val) % 2048)) / 6144 = b.val * 4096 + p.val
    omega
  · show 12288 + ((((((b.val * 4096 + p.val) * 16 + h.val) * 128 + d.val) / 8388608) * 4096 +
      ((((b.val * 4096 + p.val) * 16 + h.val) * 128 + d.val) / 2048 % 4096)) * 6144 +
      (4096 + (((b.val * 4096 + p.val) * 16 + h.val) * 128 + d.val) % 2048)) % 6144 = 12288 + (4096 + (h.val * 128 + d.val))
    omega

theorem Reals.f (H : Reals x0 x1 P G) (b : Fin 2) (h : Fin 16) (n : Fin 4096) :
    val_main_v11 (F := Ideal) x1 (ix3 b h n) = ((ff G b.val h.val n.val : ℝ) : EReal) := by
  rw [val_main_v11_apply, val_main_v10_apply, val_main_v9_apply]
  have e : idx_main_v9 (idx_main_v10 (idx_main_v11 (ix3 b h n))) = ix3 b ⟨64 + h.val, by omega⟩ n :=
    funext fun a => match a with | ⟨0, _⟩ => rfl | ⟨1, _⟩ => rfl | ⟨2, _⟩ => rfl
  rw [e]
  exact H.rows _ _ _ (by show 64 ≤ 64 + h.val; omega) (by show 64 + h.val < 80; omega)

theorem root (i : S2x16x4096x4096.Idx) : val_main_v14 (F := Ideal) i = ((√128 : ℝ) : EReal) := by
  rw [val_main_v14_apply, val_main_v13_apply, val_main_cst_apply]
  show Ideal.sqrt (Ideal.ofBits .f32 0x43000000#32) = _
  have : Ideal.ofBits .f32 0x43000000#32 = ((128 : ℝ) : EReal) := by
    simp [Ideal.ofBits, Ideal.ieee, -EReal.coe_mul]; norm_num
  rw [this, Ideal.sqrt_coe, if_neg (by norm_num)]

/-- The score of key `n` for position `p`, before the mask. -/
theorem Reals.score (H : Reals x0 x1 P G) (b : Fin 2) (h : Fin 16) (p n : Fin 4096) :
    val_main_v21 (F := Ideal) x0 x1 (ix4 b h p n) =
      (((∑ d, qf P b.val h.val p.val d * kf P b.val h.val n.val d) * (√128)⁻¹ + ff G b.val h.val p.val - ff G b.val h.val n.val : ℝ) : EReal) := by
  rw [val_main_v21_apply, val_main_v18_apply, val_main_v15_apply, val_main_v12_apply, root, val_main_v17_apply, val_main_v16_apply,
    val_main_v20_apply, val_main_v19_apply]
  have e1 : idx_main_v16 (idx_main_v17 (ix4 b h p n)) = ix3 b h p :=
    funext fun a => match a with | ⟨0, _⟩ => rfl | ⟨1, _⟩ => rfl | ⟨2, _⟩ => rfl
  have e2 : idx_main_v19 (idx_main_v20 (ix4 b h p n)) = ix3 b h n :=
    funext fun a => match a with | ⟨0, _⟩ => rfl | ⟨1, _⟩ => rfl | ⟨2, _⟩ => rfl
  have e3 : (∑ d : Fin 128, (val_main_v6 (F := Ideal) x0) (lidx_main_v12 (ix4 b h p n) d) * (val_main_v7 (F := Ideal) x0) (ridx_main_v12 (ix4 b h p n) d)) =
      ((∑ d, qf P b.val h.val p.val d * kf P b.val h.val n.val d : ℝ) : EReal) := by
    rw [← sum_coe]
    refine Finset.sum_congr rfl fun d _ => ?_
    have l : lidx_main_v12 (ix4 b h p n) d = ix4 b p h d :=
      funext fun a => match a with | ⟨0, _⟩ => rfl | ⟨1, _⟩ => rfl | ⟨2, _⟩ => rfl | ⟨3, _⟩ => rfl
    have r : ridx_main_v12 (ix4 b h p n) d = ix4 b n h d :=
      funext fun a => match a with | ⟨0, _⟩ => rfl | ⟨1, _⟩ => rfl | ⟨2, _⟩ => rfl | ⟨3, _⟩ => rfl
    rw [l, r, H.q, H.k, EReal.coe_mul]
  rw [e1, e2, e3, H.f, H.f]
  show Ideal.div _ _ + _ - _ = _
  rw [Ideal.div_coe (by positivity), ← EReal.coe_mul, ← EReal.coe_add, ← EReal.coe_sub, one_div]

/-- The masked score. -/
theorem Reals.masked (H : Reals x0 x1 P G) (b : Fin 2) (h : Fin 16) (p n : Fin 4096) :
    ScoreE (val_main_v28 (F := Ideal) x0 x1 (ix4 b h p n)) (if n.val ≤ p.val then
      Real.exp (ff G b.val h.val p.val) * weight (qf P b.val h.val p.val) (kf P b.val h.val) (ff G b.val h.val) n.val else 0) := by
  rw [val_main_v28_apply, val_main_call0_v1_apply, val_main_v27_apply, val_main_v25_apply, val_main_v23_apply, val_main_v22_apply,
    val_main_v26_apply, val_main_v24_apply, val_main_v22_apply, H.score, val_main_call0_v2_apply, val_main_call0_v0_apply, val_main_cst_0_apply]
  have hc : IntOp.cmpi .sle (BitVec.ofNat 32 n.val) (BitVec.ofNat 32 p.val) = BitVec.ofBool (decide (n.val ≤ p.val)) := by
    rw [WordCmp.cmpi_sle_ofNat (by omega) (by omega)]
  show ScoreE (Scalar.select (IntOp.cmpi .sle (BitVec.ofNat 32 n.val) (BitVec.ofNat 32 p.val)) _ (Ideal.ofBits .f32 0xFF800000#32)) _
  rw [hc]
  by_cases hn : n.val ≤ p.val
  · refine Or.inr ⟨_, by simp [hn, Scalar.select]; rfl, ?_⟩
    rw [if_pos hn, weight, ← Real.exp_add]
    congr 1; ring
  · exact Or.inl ⟨by simp [hn, Scalar.select, Ideal.ofBits, Ideal.ieee], if_neg hn⟩

/-- A row's maximum is real. -/
theorem Reals.max (H : Reals x0 x1 P G) (b : Fin 2) (h : Fin 16) (p : Fin 4096) :
    ∃ r : ℝ, val_main_v31 (F := Ideal) x0 x1 (ix3 b h p) = (r : EReal) := by
  have hm := H.masked b h p
  rw [val_main_v31_apply, val_main_v30_apply, val_main_cst_2_apply]
  unfold val_main_v29
  generalize val_main_v28 (F := Ideal) x0 x1 = y at hm ⊢
  pointwise [val_main_cst_1]
  have hb : Ideal.ofBits .f32 0xFF800000#32 = (⊥ : EReal) := by simp [Ideal.ofBits, Ideal.ieee]
  rw [hb]
  refine real_of (lt_max_of_lt_right ?_) (max_lt bot_lt_top ((Finset.fold_max_lt _).2 ⟨bot_lt_top, fun n _ => (hm n).lt_top⟩))
  refine ((hm 0).bot_lt ?_).trans_le ((Finset.le_fold_max _).2 (Or.inr ⟨0, Finset.mem_univ _, le_rfl⟩))
  rw [if_pos (show (0 : Fin 4096).val ≤ p.val from Nat.zero_le _)]
  exact (mul_pos (Real.exp_pos _) (weight_pos _ _ _ _)).ne'

/-- The reference's result at an element. -/
theorem Reals.result (H : Reals x0 x1 P G) (b : Fin 2) (h : Fin 16) (p : Fin 4096) (d : Fin 128) :
    val_main_v43 (F := Ideal) x0 x1 (ix2 ⟨b.val * 4096 + p.val, by omega⟩ ⟨h.val * 128 + d.val, by omega⟩) =
      ((attn P G b.val h.val p.val d : ℝ) : EReal) := by
  rw [val_main_v43_apply, val_main_v42_apply]
  have hb := b.isLt; have hp := p.isLt; have hh := h.isLt; have hd := d.isLt
  have e : idx_main_v42 (ix2 ⟨b.val * 4096 + p.val, by omega⟩ ⟨h.val * 128 + d.val, by omega⟩) = ix4 b p h d :=
    funext fun a => Fin.ext (match a with
      | ⟨0, _⟩ => by show ((b.val * 4096 + p.val) * 2048 + (h.val * 128 + d.val)) / 8388608 = b.val; omega
      | ⟨1, _⟩ => by show ((b.val * 4096 + p.val) * 2048 + (h.val * 128 + d.val)) / 2048 % 4096 = p.val; omega
      | ⟨2, _⟩ => by show ((b.val * 4096 + p.val) * 2048 + (h.val * 128 + d.val)) / 128 % 16 = h.val; omega
      | ⟨3, _⟩ => by show ((b.val * 4096 + p.val) * 2048 + (h.val * 128 + d.val)) % 128 = d.val; omega)
  rw [e, val_main_v41_apply, val_main_v40_apply]
  obtain ⟨r, hr⟩ := H.max b h p
  have hE : ∀ n : Fin 4096, val_main_v35 (F := Ideal) x0 x1 (ix4 b h p n) =
      Ideal.exp (val_main_v28 (F := Ideal) x0 x1 (ix4 b h p n) - (r : EReal)) := by
    intro n
    rw [val_main_v35_apply, val_main_v34_apply, val_main_v33_apply, val_main_v32_apply]
    have e1 : idx_main_v32 (idx_main_v33 (ix4 b h p n)) = ix3 b h p :=
      funext fun a => match a with | ⟨0, _⟩ => rfl | ⟨1, _⟩ => rfl | ⟨2, _⟩ => rfl
    rw [e1, hr]
    rfl
  have hS : val_main_v36 (F := Ideal) x0 x1 (ix3 b h p) = ∑ n : Fin 4096, Ideal.exp (val_main_v28 (F := Ideal) x0 x1 (ix4 b h p n) - (r : EReal)) := by
    rw [val_main_v36_apply, val_main_cst_3_apply]
    show Ideal.ofBits .f32 0x00000000#32 + _ = _
    rw [Ideal.ofBits_zero_f32, zero_add]
    refine Finset.sum_congr rfl fun n _ => ?_
    rw [← hE]
    exact congrArg _ (funext fun a => match a with | ⟨0, _⟩ => rfl | ⟨1, _⟩ => rfl | ⟨2, _⟩ => rfl | ⟨3, _⟩ => rfl)
  have hpos : 0 < ∑ n : Fin 4096, if n.val ≤ p.val then
      Real.exp (ff G b.val h.val p.val) * weight (qf P b.val h.val p.val) (kf P b.val h.val) (ff G b.val h.val) n.val else 0 := by
    rw [sum_mask (fun n => Real.exp (ff G b.val h.val p.val) * weight (qf P b.val h.val p.val) (kf P b.val h.val) (ff G b.val h.val) n) p.isLt]
    exact Finset.sum_pos (fun n _ => mul_pos (Real.exp_pos _) (weight_pos _ _ _ _)) ⟨0, by simp⟩
  have key := softmax r (fun n => H.masked b h p n) (fun n => H.v b n h d) hpos
  rw [mean_scaled _ (fun n => vf P b.val h.val n d) p.isLt (Real.exp_pos _).ne'] at key
  refine Eq.trans ?_ key
  show (∑ n : Fin 4096, _) = _
  refine Finset.sum_congr rfl fun n _ => ?_
  have l : lidx_main_v40 (idx_main_v41 (ix4 b p h d)) n = ix4 b n h d :=
    funext fun a => match a with | ⟨0, _⟩ => rfl | ⟨1, _⟩ => rfl | ⟨2, _⟩ => rfl | ⟨3, _⟩ => rfl
  have r' : ridx_main_v40 (idx_main_v41 (ix4 b p h d)) n = ix4 b h p n :=
    funext fun a => match a with | ⟨0, _⟩ => rfl | ⟨1, _⟩ => rfl | ⟨2, _⟩ => rfl | ⟨3, _⟩ => rfl
  have e2 : idx_main_v37 (idx_main_v38 (ix4 b h p n)) = ix3 b h p :=
    funext fun a => match a with | ⟨0, _⟩ => rfl | ⟨1, _⟩ => rfl | ⟨2, _⟩ => rfl
  rw [l, r', val_main_v39_apply, val_main_v38_apply, val_main_v37_apply, e2, hS, hE]
  rfl

end Cert.ReferenceIdeal.Fox
-- ==== Proof.Finite.lean ====
module

public import proofs.«01_k».proof.Defs
public import proofs.«01_k».proof.Proof.RefValue
public import proofs.«01_k».proof.Proof.Gen.Pre_finite
public import Idealize.ShloMosaic.Lib.ReduceAll
public import Idealize.ShloMosaic.Lib.Pointwise

/-! The precondition read off: the queries, keys, values and forget sums are real numbers. -/

@[expose] public section

set_option maxRecDepth 16384

noncomputable section

namespace Cert.Finite
open Cert.Pre_finite Cert.Pre_finite.Facts Cert.Attn

open Idealize.ShloMosaic Idealize.ShloMosaic.TcCoe

instance : Subsingleton S_.Idx := ⟨fun a b => funext fun k => k.elim0⟩

theorem and_one {a b : BitVec 1} (h : IntOp.andi a b = 1#1) : a = 1#1 ∧ b = 1#1 := by
  revert a b; decide

theorem of_one {p : Prop} [Decidable p] (h : BitVec.ofBool (decide p) = 1#1) : p := by
  by_contra hp
  rw [decide_eq_false hp] at h
  exact absurd h (by decide)

variable [Cert.Pre_finite.Facts]

/-- What is below the infinity in absolute value is a real number. -/
theorem real_of_abs {x : EReal} (h : max x (-x) < Ideal.ofBits .f32 0x7F800000#32) : ∃ r : ℝ, x = (r : EReal) := by
  have e : Ideal.ofBits .f32 0x7F800000#32 = ⊤ := by simp [Ideal.ofBits, Ideal.ieee]
  rw [e, max_lt_iff] at h
  exact real_of (bot_lt_iff_ne_bot.2 fun hb => by rw [hb] at h; exact absurd h.2 (by simp)) h.1

theorem read {x0 : FVec Ideal S8192x22528 .bf16} {x1 : FVec Ideal S2x128x4096 .f32} (h : fn (F := Ideal) x0 x1 = fun _ => 1#1) :
    (∀ (r : Fin 8192) (c : Fin 22528), 12288 ≤ c.val → c.val < 18432 → ∃ a : ℝ, x0 (ix2 r c) = (a : EReal))
      ∧ ∀ (b : Fin 2) (k : Fin 128) (n : Fin 4096), 64 ≤ k.val → k.val < 80 → ∃ a : ℝ, x1 (ix3 b k n) = (a : EReal) := by
  obtain ⟨h0, h1⟩ := and_one (congrFun h fun k => k.elim0)
  refine ⟨fun r c hc hc' => ?_, fun b k n hk hk' => ?_⟩
  · have := Host.reduce_andi_all _ _ _ _ _ h0 (ix2 r (⟨c.val - 12288, by omega⟩ : Fin 6144))
    pointwise at this
    have e : (⟨12288 + (c.val - 12288), by omega⟩ : Fin 22528) = c := Fin.ext (by simp only; omega)
    rw [e] at this
    exact real_of_abs (of_one this)
  · have := Host.reduce_andi_all _ _ _ _ _ h1 (ix3 b (⟨k.val - 64, by omega⟩ : Fin 16) n)
    pointwise at this
    have e : (⟨64 + (k.val - 64), by omega⟩ : Fin 128) = k := Fin.ext (by simp only; omega)
    rw [e] at this
    exact real_of_abs (of_one this)

end Cert.Finite
-- ==== Proof.Same.lean ====
module

public import proofs.«01_k».proof.Defs
public import proofs.«01_k».proof.Proof.Blocks
public import proofs.«01_k».proof.Proof.Finite
public import proofs.«01_k».proof.Proof.Gen.ReferenceIdeal.Run

/-! The kernel and the reference compute the same, over real queries, keys, values and forget sums. -/

@[expose] public section

set_option maxRecDepth 16384

noncomputable section

namespace Cert.KernelIdeal.Fox
open Cert.KernelIdeal.Gen Cert.Attn

open Idealize.ShloMosaic Idealize.ShloMosaic.TcCoe Idealize.SL.Sem

variable (m : (ℓ : Loc nD τ sig) → Buf (Elt Ideal) ℓ)

/-- The reference's value at the kernel's arguments. -/
abbrev wanted (c : Dev nD) : Buf (Elt Ideal) ((c.tc : Thread nD τ).loc main_v2) :=
  Cert.ReferenceIdeal.Read.val_main_v43 (F := Ideal) (m ((c.tc : Thread nD τ).loc main_arg0)) (m ((c.tc : Thread nD τ).loc main_arg1))

variable {m} {P : ℕ → ℕ → ℝ} {G : ℕ → ℕ → ℕ → ℝ}

/-- The blocks of a grid point are the queries, keys, values and forget sums of its batch and head. -/
theorem blocks_real {c : Dev nD} (H : Cert.ReferenceIdeal.Fox.Reals (m ((c.tc : Thread nD τ).loc main_arg0)) (m ((c.tc : Thread nD τ).loc main_arg1)) P G)
    (t : Fin cfg0.N) : Reals (kAt m c t) (qAt m c t) (vAt m c t) (fAt m c t)
      (Cert.ReferenceIdeal.Fox.kf P (t.val / 128) (t.val / 8 % 16))
      (fun x => Cert.ReferenceIdeal.Fox.qf P (t.val / 128) (t.val / 8 % 16) (512 * (t.val % 8) + x.val))
      (Cert.ReferenceIdeal.Fox.vf P (t.val / 128) (t.val / 8 % 16))
      (Cert.ReferenceIdeal.Fox.ff G (t.val / 128) (t.val / 8 % 16)) := by
  have ht := point_lt t
  refine ⟨fun i d => ?_, fun i d => ?_, fun i d => ?_, fun i => ?_⟩
  · refine (kAt_apply m c t i d (ix2 (⟨t.val / 128 * 4096 + i.val, by omega⟩ : Fin 8192) (⟨12288 + (2048 + (t.val / 8 % 16 * 128 + d.val)), by omega⟩ : Fin 22528))
      rfl (by show 12288 + (2048 + (t.val / 8 % 16 * 128 + d.val)) = _; omega)).trans ?_
    exact H.proj _ _ (by simp only; omega) (by simp only; omega)
  · refine (qAt_apply m c t i d (ix2 (⟨t.val / 128 * 4096 + (512 * (t.val % 8) + i.val), by omega⟩ : Fin 8192) (⟨12288 + (t.val / 8 % 16 * 128 + d.val), by omega⟩ : Fin 22528))
      (by show t.val / 128 * 4096 + (512 * (t.val % 8) + i.val) = _; omega) (by show 12288 + (t.val / 8 % 16 * 128 + d.val) = _; omega)).trans ?_
    exact H.proj _ _ (by simp only; omega) (by simp only; omega)
  · refine (vAt_apply m c t i d (ix2 (⟨t.val / 128 * 4096 + i.val, by omega⟩ : Fin 8192) (⟨12288 + (4096 + (t.val / 8 % 16 * 128 + d.val)), by omega⟩ : Fin 22528))
      rfl (by show 12288 + (4096 + (t.val / 8 % 16 * 128 + d.val)) = _; omega)).trans ?_
    exact H.proj _ _ (by simp only; omega) (by simp only; omega)
  · refine (fAt_apply m c t i (ix3 (⟨t.val / 128, by omega⟩ : Fin 2) (⟨64 + t.val / 8 % 16, by omega⟩ : Fin 128) i) rfl rfl rfl).trans ?_
    exact H.rows _ _ _ (by simp only; omega) (by simp only; omega)

/-- So what a grid point writes is its block of the reference's value. -/
theorem flushed {c : Dev nD} (H : Cert.ReferenceIdeal.Fox.Reals (m ((c.tc : Thread nD τ).loc main_arg0)) (m ((c.tc : Thread nD τ).loc main_arg1)) P G)
    (t : Fin cfg0.N) : (dats m 0 c).flushed 4 t = ((cfg0.win 4).blk t).view.read (Elt Ideal) (wanted m c) := by
  have ht := point_lt t
  funext y
  let i : Fin 512 := y 0
  let d : Fin 128 := y 1
  have hi := i.isLt
  have hd := d.isLt
  have hy : y = ix2 i d := funext fun a => match a with | ⟨0, _⟩ => rfl | ⟨1, _⟩ => rfl
  have e := emb4_val t i d
    (ix2 (⟨t.val / 128 * 4096 + (⟨512 * (t.val % 8) + i.val, by omega⟩ : Fin 4096).val, by simp only; omega⟩ : Fin 8192)
      (⟨t.val / 8 % 16 * 128 + d.val, by omega⟩ : Fin 2048)) (by show t.val / 128 * 4096 + (512 * (t.val % 8) + i.val) = _; omega) rfl
  have hr : ((cfg0.win 4).blk t).view.read (Elt Ideal) (wanted m c) y = wanted m c (((cfg0.win 4).blk t).view.emb (ix2 i d)) :=
    congrArg (fun y => wanted m c (((cfg0.win 4).blk t).view.emb y)) hy
  rw [hr]
  refine Eq.trans ?_ (congrArg (wanted m c) e).symm
  refine Eq.trans ?_ (H.result (⟨t.val / 128, by omega⟩ : Fin 2) (⟨t.val / 8 % 16, by omega⟩ : Fin 16) (⟨512 * (t.val % 8) + i.val, by omega⟩ : Fin 4096) d).symm
  have k := (blocks_real H t).out (j := t.val % 8) (by omega : t.val % 8 < 8) i d
  rw [← coord2] at k
  refine (congrArg (outAt m c t) hy).trans (k.trans ?_)
  rw [coord2]
  rfl

end Cert.KernelIdeal.Fox

namespace Cert.Proof

open Idealize.ShloMosaic Idealize.SL.Sem

/-- The precondition gives the reals that the arguments hold where the attention reads them. -/
theorem reals_of {x0 : FVec Ideal Cert.ReferenceIdeal.S8192x22528 .bf16} {x1 : FVec Ideal Cert.ReferenceIdeal.S2x128x4096 .f32}
    (h : @Cert.Pre_finite.fn Cert.Pre_finite.Gen.facts Ideal _ x0 x1 = fun _ => 1#1) :
    ∃ (P : ℕ → ℕ → ℝ) (G : ℕ → ℕ → ℕ → ℝ), Cert.ReferenceIdeal.Fox.Reals x0 x1 P G := by
  obtain ⟨h0, h1⟩ := @Cert.Finite.read Cert.Pre_finite.Gen.facts x0 x1 h
  refine ⟨fun r c => if hr : r < 8192 ∧ c < 22528 then EReal.toReal (x0 (ix2 ⟨r, hr.1⟩ ⟨c, hr.2⟩)) else 0,
    fun b k n => if hb : b < 2 ∧ k < 128 ∧ n < 4096 then EReal.toReal (x1 (ix3 ⟨b, hb.1⟩ ⟨k, hb.2.1⟩ ⟨n, hb.2.2⟩)) else 0,
    fun r c hc hc' => ?_, fun b k n hk hk' => ?_⟩
  · rw [dif_pos ⟨r.isLt, c.isLt⟩]
    obtain ⟨a, ha⟩ := h0 r c hc hc'
    show x0 (ix2 r c) = ((EReal.toReal (x0 (ix2 r c)) : ℝ) : EReal)
    rw [ha]; rfl
  · rw [dif_pos ⟨b.isLt, k.isLt, n.isLt⟩]
    obtain ⟨a, ha⟩ := h1 b k n hk hk'
    show x1 (ix3 b k n) = ((EReal.toReal (x1 (ix3 b k n)) : ℝ) : EReal)
    rw [ha]; rfl

/-- From finite queries, keys, values and forget sums, the idealized kernel and the idealized reference leave the same result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hpre hm => by
  refine ⟨fun c => Cert.KernelIdeal.Fox.wanted m c, (θ_run _ _ _).mono (fun r h c => ⟨?_, Cert.KernelIdeal.Fox.args_kept m r h.1 c⟩) (Cert.KernelIdeal.Fox.run m g),
    (θ_run _ _ _).mono (fun r h c => ⟨(h c).1.trans ?_, (h c).2⟩) (Cert.ReferenceIdeal.Value.run m' g')⟩
  · obtain ⟨P, G, H⟩ := reals_of (hpre c)
    refine (Cert.KernelIdeal.Fox.result_eq m r h.1 c).trans ?_
    exact (Cert.KernelIdeal.Fox.dats m 0 c).arrAt_eq_of_cover 4 (Cert.KernelIdeal.Fox.wanted m c) (fun t _ => Cert.KernelIdeal.Fox.flushed H t) Cert.KernelIdeal.Fox.cover4
  · rw [Cert.ReferenceIdeal.Read.val_main_v43_eq, (hm c).1, (hm c).2]

end Cert.Proof
-- ==== Proof.ProjTile.lean ====
module

public import Idealize.ShloMosaic.Lib.Pointwise.Index
public import Idealize.ShloMosaic.Lib.Pipeline.Value
public import Idealize.ShloMosaic.Lib.WritesUnit
public import proofs.«01_k».proof.Proof.Gen.Kernel2Ideal.Frame

/-! The input projection: the tile of rounded weights one column tile works on, as a function of the two blocks of weights it is read from. -/

@[expose] public section

set_option maxRecDepth 16384

noncomputable section

namespace Cert.Kernel2Ideal.Proj
open Cert.Kernel2Ideal.Gen

open Idealize.ShloMosaic Idealize.ShloMosaic.TcCoe

variable {F : FTy → Type} [FloatOps F]

/-- Rows `s ..` of a block of 1024 rows of weights followed by the first `s` rows of the next, rounded. -/
def tile (s : ℕ) (wa : Vec F S1x1024x2048 .f32) (wb : Vec F S1x128x2048 .f32) : Vec F S1024x2048 .bf16 := fun y =>
  FloatOps.truncf .bf16 bitsLt_bf16_f32
    (if h : (y 0).val + s < 1024 then wa (ix3 (0 : Fin 1) (⟨(y 0).val + s, h⟩ : Fin 1024) (y 1))
      else wb (ix3 (0 : Fin 1) (⟨((y 0).val + s - 1024) % 128, Nat.mod_lt _ (by decide)⟩ : Fin 128) (y 1)))

/-- The product of a block of rows with a tile of weights. -/
def product (x : Vec F S1024x2048 .bf16) (w : Vec F S1024x2048 .bf16) : Vec F S1024x1024 .bf16 :=
  truncf .bf16 (matmul dot_S1024x2048_S1024x2048_S1024x1024_1_1_0_0_n_n none x w (constant S1024x1024 .f32 0x00000000#32)) bitsLt_bf16_f32

/-- By how many columns the tiles of a segment are displaced. -/
def shift (j : ℕ) : ℕ := if j < 12 then 0 else if j < 18 then 64 else 80

/-- A slice of weights, rounded, at an element. -/
theorem rounded_apply {n : ℕ} (v : Vec F (⟨3, ![1, n, 2048]⟩ : Shape) .f32) (h : (⟨3, ![1, n, 2048]⟩ : Shape).ShapeCasts ⟨2, ![n, 2048]⟩)
    (h' : (⟨2, ![n, 2048]⟩ : Shape).ShapeCasts ⟨2, ![n, 2048]⟩) (j : (⟨2, ![n, 2048]⟩ : Shape).Idx) :
    shapeCast (⟨2, ![n, 2048]⟩ : Shape) (truncf (F := F) .bf16 (shapeCast (⟨2, ![n, 2048]⟩ : Shape) v h) bitsLt_bf16_f32) h' j
      = FloatOps.truncf .bf16 bitsLt_bf16_f32 (v (ix3 (0 : Fin 1) (j 0) (j 1))) := by
  rw [shapeCast_self]
  refine congrArg (FloatOps.truncf .bf16 bitsLt_bf16_f32) ?_
  refine (shapeCast_dropUnit_apply ![n, 2048] v h j).trans (congrArg v (funext fun a => ?_))
  match a with
  | ⟨0, _⟩ => rfl
  | ⟨1, _⟩ => rfl
  | ⟨2, _⟩ => rfl

/-- A slice read off the block, stored at its place in the tile. -/
theorem piece_wa {n : ℕ} (s o p : ℕ) (hp : p = o + s) (hn : o + n + s ≤ 1024) (i3 : ∀ a, (![0, p, 0] : Fin 3 → ℕ) a + (⟨3, ![1, n, 2048]⟩ : Shape).size a ≤ S1x1024x2048.size a)
    (i2 : ∀ a, (![o, 0] : Fin 2 → ℕ) a + (⟨2, ![n, 2048]⟩ : Shape).size a ≤ S1024x2048.size a)
    (h : (⟨3, ![1, n, 2048]⟩ : Shape).ShapeCasts ⟨2, ![n, 2048]⟩) (h' : (⟨2, ![n, 2048]⟩ : Shape).ShapeCasts ⟨2, ![n, 2048]⟩)
    (a3 : Memref sig .tc .vmem S1x1024x2048 .f32) (h3 : a3.IsWhole) (wa : Vec F S1x1024x2048 .f32) (wb : Vec F S1x128x2048 .f32)
    (j : (⟨2, ![n, 2048]⟩ : Shape).Idx) :
    shapeCast (⟨2, ![n, 2048]⟩ : Shape) (truncf (F := F) .bf16 (shapeCast (⟨2, ![n, 2048]⟩ : Shape)
        (a3.view.readAt (Elt F) (Rect.unit (s := S1x1024x2048) ![0, p, 0] (⟨3, ![1, n, 2048]⟩ : Shape).size i3).toLoadRect (h3.unread wa)) h) bitsLt_bf16_f32) h' j
      = tile s wa wb ((Rect.unit (s := S1024x2048) ![o, 0] (⟨2, ![n, 2048]⟩ : Shape).size i2).emb j) := by
  have hj : (j 0).val < n := (j 0).isLt
  rw [rounded_apply, View.readAt_eq_ld, h3.read_unread]
  unfold tile
  have hlt : ((Rect.unit (s := S1024x2048) ![o, 0] (⟨2, ![n, 2048]⟩ : Shape).size i2).emb j 0).val + s < 1024 := by
    show o + 1 * (j 0).val + s < 1024; omega
  rw [dif_pos hlt]
  refine congrArg (FloatOps.truncf .bf16 bitsLt_bf16_f32) (congrArg wa (funext fun a => Fin.ext ?_))
  match a with
  | ⟨0, _⟩ => rfl
  | ⟨1, _⟩ => show p + 1 * (j 0).val = o + 1 * (j 0).val + s; omega
  | ⟨2, _⟩ => rfl

/-- The slice read off the next block, stored at its place in the tile. -/
theorem piece_wb {n : ℕ} (s o : ℕ) (ho : o + s = 1024) (hn : n ≤ 128) (i3 : ∀ a, (![0, 0, 0] : Fin 3 → ℕ) a + (⟨3, ![1, n, 2048]⟩ : Shape).size a ≤ S1x128x2048.size a)
    (i2 : ∀ a, (![o, 0] : Fin 2 → ℕ) a + (⟨2, ![n, 2048]⟩ : Shape).size a ≤ S1024x2048.size a)
    (h : (⟨3, ![1, n, 2048]⟩ : Shape).ShapeCasts ⟨2, ![n, 2048]⟩) (h' : (⟨2, ![n, 2048]⟩ : Shape).ShapeCasts ⟨2, ![n, 2048]⟩)
    (a4 : Memref sig .tc .vmem S1x128x2048 .f32) (h4 : a4.IsWhole) (wa : Vec F S1x1024x2048 .f32) (wb : Vec F S1x128x2048 .f32)
    (j : (⟨2, ![n, 2048]⟩ : Shape).Idx) :
    shapeCast (⟨2, ![n, 2048]⟩ : Shape) (truncf (F := F) .bf16 (shapeCast (⟨2, ![n, 2048]⟩ : Shape)
        (a4.view.readAt (Elt F) (Rect.unit (s := S1x128x2048) ![0, 0, 0] (⟨3, ![1, n, 2048]⟩ : Shape).size i3).toLoadRect (h4.unread wb)) h) bitsLt_bf16_f32) h' j
      = tile s wa wb ((Rect.unit (s := S1024x2048) ![o, 0] (⟨2, ![n, 2048]⟩ : Shape).size i2).emb j) := by
  have hj : (j 0).val < n := (j 0).isLt
  rw [rounded_apply, View.readAt_eq_ld, h4.read_unread]
  unfold tile
  have hlt : ¬ ((Rect.unit (s := S1024x2048) ![o, 0] (⟨2, ![n, 2048]⟩ : Shape).size i2).emb j 0).val + s < 1024 := by
    show ¬ o + 1 * (j 0).val + s < 1024; omega
  rw [dif_neg hlt]
  refine congrArg (FloatOps.truncf .bf16 bitsLt_bf16_f32) (congrArg wb (funext fun a => Fin.ext ?_))
  match a with
  | ⟨0, _⟩ => rfl
  | ⟨1, _⟩ => show 0 + 1 * (j 0).val = (o + 1 * (j 0).val + s - 1024) % 128; omega
  | ⟨2, _⟩ => rfl

/-- The rows a slice of the tile covers. -/
theorem mem_rows {n : ℕ} (o : ℕ) (i2 : ∀ a, (![o, 0] : Fin 2 → ℕ) a + (⟨2, ![n, 2048]⟩ : Shape).size a ≤ S1024x2048.size a) (y : S1024x2048.Idx)
    (h0 : o ≤ (y 0).val) (h1 : (y 0).val < o + n) : y ∈ (Rect.unit (s := S1024x2048) ![o, 0] (⟨2, ![n, 2048]⟩ : Shape).size i2).set := by
  rw [Rect.mem_set_unit]
  intro a
  have hy1 : (y 1).val < 2048 := (y 1).isLt
  match a with
  | ⟨0, _⟩ => exact ⟨h0, h1⟩
  | ⟨1, _⟩ => exact ⟨Nat.zero_le _, by show (y 1).val < 0 + 2048; omega⟩

end Cert.Kernel2Ideal.Proj
-- ==== Proof.ProjPoint.lean ====
module

public import proofs.«01_k».proof.Proof.ProjTile
public import Idealize.ShloMosaic.Lib.Tactic

/-! The input projection: one grid point, what it finds in its buffers and what it leaves. -/

@[expose] public section

set_option maxRecDepth 16384

noncomputable section

namespace Cert.Kernel2Ideal.Proj
open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000

local notation "𝕄G" => MT nD τ sig Unit (Elt F) ℕ (UR sig nD τ) ℕ

/-- The tests of the body: first block of rows; first, second and third segment of columns. -/
abbrev cond1 (i : grid0.Coords) : Prop := Scalar.cmpi .ne (Scalar.extui (Scalar.cmpi .eq (BitVec.ofNat 32 (i 1).val) 0#32)) 0#32 = 1#1
@[inherit_doc cond1] abbrev cond2 (i : grid0.Coords) : Prop :=
  Scalar.cmpi .ne (Scalar.extui (Scalar.andi (Scalar.cmpi .sge (BitVec.ofNat 32 (i 0).val) 0#32) (Scalar.cmpi .slt (BitVec.ofNat 32 (i 0).val) 12#32))) 0#32 = 1#1
@[inherit_doc cond1] abbrev cond3 (i : grid0.Coords) : Prop :=
  Scalar.cmpi .ne (Scalar.extui (Scalar.andi (Scalar.cmpi .sge (BitVec.ofNat 32 (i 0).val) 12#32) (Scalar.cmpi .slt (BitVec.ofNat 32 (i 0).val) 18#32))) 0#32 = 1#1
@[inherit_doc cond1] abbrev cond4 (i : grid0.Coords) : Prop :=
  Scalar.cmpi .ne (Scalar.extui (Scalar.andi (Scalar.cmpi .sge (BitVec.ofNat 32 (i 0).val) 18#32) (Scalar.cmpi .slt (BitVec.ofNat 32 (i 0).val) 22#32))) 0#32 = 1#1

theorem cond1_iff (i : grid0.Coords) : cond1 i ↔ (i 1).val = 0 :=
  (by decide : ∀ a : Fin 8, Scalar.cmpi .ne (Scalar.extui (Scalar.cmpi .eq (BitVec.ofNat 32 a.val) 0#32) : BitVec 32) 0#32 = 1#1 ↔ a.val = 0) (i 1)
theorem cond2_iff (i : grid0.Coords) : cond2 i ↔ (i 0).val < 12 :=
  (by decide : ∀ a : Fin 22, Scalar.cmpi .ne (Scalar.extui (Scalar.andi (Scalar.cmpi .sge (BitVec.ofNat 32 a.val) 0#32) (Scalar.cmpi .slt (BitVec.ofNat 32 a.val) 12#32)) : BitVec 32) 0#32 = 1#1 ↔ a.val < 12) (i 0)
theorem cond3_iff (i : grid0.Coords) : cond3 i ↔ 12 ≤ (i 0).val ∧ (i 0).val < 18 :=
  (by decide : ∀ a : Fin 22, Scalar.cmpi .ne (Scalar.extui (Scalar.andi (Scalar.cmpi .sge (BitVec.ofNat 32 a.val) 12#32) (Scalar.cmpi .slt (BitVec.ofNat 32 a.val) 18#32)) : BitVec 32) 0#32 = 1#1 ↔ 12 ≤ a.val ∧ a.val < 18) (i 0)
theorem cond4_iff (i : grid0.Coords) : cond4 i ↔ 18 ≤ (i 0).val :=
  (by decide : ∀ a : Fin 22, Scalar.cmpi .ne (Scalar.extui (Scalar.andi (Scalar.cmpi .sge (BitVec.ofNat 32 a.val) 18#32) (Scalar.cmpi .slt (BitVec.ofNat 32 a.val) 22#32)) : BitVec 32) 0#32 = 1#1 ↔ 18 ≤ a.val) (i 0)

theorem hz : (![0, 0] : Fin 2 → Nat) = fun _ => 0 := funext fun a => by fin_cases a <;> rfl

/-- The buffers after a point: the operands as found, the scratch with a tile of weights, the result's block with the product. -/
abbrev After (c : Dev nD) (arg2 : Memref sig .tc .vmem S1024x2048 .bf16) (arg3 : Memref sig .tc .vmem S1x1024x2048 .f32)
    (arg4 : Memref sig .tc .vmem S1x128x2048 .f32) (arg5 : Memref sig .tc .vmem S1024x1024 .bf16) (arg6 : Memref sig .tc .vmem S1024x2048 .bf16)
    (x : Vec F S1024x2048 .bf16) (wa : Vec F S1x1024x2048 .f32) (wb : Vec F S1x128x2048 .f32) (w : Vec F S1024x2048 .bf16) : sProp 𝕄G :=
  iprop(owns (c : Thread nD τ) arg2 fullShare x ∗ owns (c : Thread nD τ) arg3 fullShare wa ∗ owns (c : Thread nD τ) arg4 fullShare wb
    ∗ owns (c : Thread nD τ) arg5 fullShare (product x w) ∗ owns (c : Thread nD τ) arg6 fullShare w)

/-- A list of slices stored into the scratch whose elements are those of one tile, and which leaves no element out. -/
structure Tiles (L : List (View.Piece (Elt F) S1024x2048 .bf16)) (G : Vec F S1024x2048 .bf16) : Prop where
  pieces : ∀ p ∈ L, ∀ j : p.1.shape.Idx, p.2 j = G (p.1.emb j)
  cover : ∀ y : S1024x2048.Idx, ∃ p ∈ L, y ∈ p.1.set

/-- What such a list leaves in the scratch. -/
theorem read_tiles {a6 : Memref sig .tc .vmem S1024x2048 .bf16} {f : BufTy.Contents (Elt F) a6.view.ty} {L : List (View.Piece (Elt F) S1024x2048 .bf16)}
    {G : Vec F S1024x2048 .bf16} (h : Tiles L G) : a6.view.read (Elt F) (a6.view.writes (Elt F) f L) = G :=
  funext fun y => View.read_writes_apply_of_pieces _ _ G _ h.pieces y (h.cover y)

/-- What the load of the whole scratch reads of it. -/
theorem readCov_tiles {a6 : Memref sig .tc .vmem S1024x2048 .bf16} {L : List (View.Piece (Elt F) S1024x2048 .bf16)} {G : Vec F S1024x2048 .bf16} (h : Tiles L G)
    {i : ∀ a, (![0, 0] : Fin 2 → ℕ) a + S1024x2048.size a ≤ S1024x2048.size a} :
    a6.view.readCov (Val := Elt F) L (Rect.unit (s := S1024x2048) ![0, 0] S1024x2048.size i).toLoadRect = G := by
  rw [View.readCov_eq_canon']
  refine funext fun y => (View.canon_apply_of_pieces G _ h.pieces _ (h.cover _)).trans ?_
  exact congrFun (View.ld_unit_zero hz i G) y

/-- A store of the whole block of the result leaves what is stored. -/
theorem read_whole {a5 : Memref sig .tc .vmem S1024x1024 .bf16} {f : BufTy.Contents (Elt F) a5.view.ty} {i : ∀ a, (![0, 0] : Fin 2 → ℕ) a + S1024x1024.size a ≤ S1024x1024.size a}
    (P : Vec F S1024x1024 .bf16) :
    a5.view.read (Elt F) (a5.view.writes (Elt F) f [⟨Rect.unit (s := S1024x1024) ![0, 0] S1024x1024.size i, P⟩]) = P := by
  rw [View.read_writes_eq_canon _ _ _ fun y => ⟨_, .head _, View.mem_set_unit_zero hz i y⟩, View.canon_unit_zero hz]

/-- The load of a whole block of rows reads it. -/
theorem load_whole {a2 : Memref sig .tc .vmem S1024x2048 .bf16} (h2 : a2.IsWhole) {i : ∀ a, (![0, 0] : Fin 2 → ℕ) a + S1024x2048.size a ≤ S1024x2048.size a}
    (x : Vec F S1024x2048 .bf16) : a2.view.readAt (Elt F) (Rect.unit (s := S1024x2048) ![0, 0] S1024x2048.size i).toLoadRect (h2.unread x) = x := by
  rw [View.readAt_eq_ld, h2.read_unread, View.ld_unit_zero hz]

theorem product_congr {x x' w w' : Vec F S1024x2048 .bf16} (hx : x = x') (hw : w = w') : product x w = product x' w' := by rw [hx, hw]

/-- A point past a column tile's first: the tile is in the scratch. -/
theorem point_later (𝒱 : Variants) (c : Dev nD) (i : grid0.Coords) (arg2 : Memref sig .tc .vmem S1024x2048 .bf16) (harg2 : arg2.IsWhole)
    (arg3 : Memref sig .tc .vmem S1x1024x2048 .f32) (harg3 : arg3.IsWhole) (arg4 : Memref sig .tc .vmem S1x128x2048 .f32) (harg4 : arg4.IsWhole)
    (arg5 : Memref sig .tc .vmem S1024x1024 .bf16) (harg5 : arg5.IsWhole) (arg6 : Memref sig .tc .vmem S1024x2048 .bf16) (harg6 : arg6.IsWhole)
    (x : Vec F S1024x2048 .bf16) (wa : Vec F S1x1024x2048 .f32) (wb : Vec F S1x128x2048 .f32) (w : Vec F S1024x2048 .bf16) (E : Set ℕ) (h1 : ¬ cond1 i) :
    (iprop(owns (c : Thread nD τ) arg2 fullShare x ∗ owns (c : Thread nD τ) arg3 fullShare wa ∗ owns (c : Thread nD τ) arg4 fullShare wb
      ∗ (∃ d, owns (c : Thread nD τ) arg5 fullShare d) ∗ owns (c : Thread nD τ) arg6 fullShare w) : sProp 𝕄G)
    ⊢ wp frame (wpE (defs₀ (F := F)) 𝒱 (c : Thread nD τ) none) E (cc0_in_proj (F := F) i arg2 harg2 arg3 harg3 arg4 harg4 arg5 harg5 arg6 harg6)
      (fun _ => After c arg2 arg3 arg4 arg5 arg6 x wa wb w) := by
  unfold cc0_in_proj After owns
  iintro ⟨⟨%f2, %hf2, H2⟩, ⟨%f3, %hf3, H3⟩, ⟨%f4, %hf4, H4⟩, ⟨%d5, %f5, -, H5⟩, ⟨%f6, %hf6, H6⟩⟩
  obtain rfl := harg2.eq_unread hf2; obtain rfl := harg3.eq_unread hf3; obtain rfl := harg4.eq_unread hf4; obtain rfl := harg6.eq_unread hf6
  sl_exec (disch := first | sl_exact h1)
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    exact (read_whole _).trans (product_congr (load_whole harg2 _) (load_whole harg6 _))
  iexists _; isplitr
  swap; · iexact H6
  ipureintro; exact harg6.read_unread _

/-- A column tile's first point, in the first segment. -/
theorem point_first0 (𝒱 : Variants) (c : Dev nD) (i : grid0.Coords) (arg2 : Memref sig .tc .vmem S1024x2048 .bf16) (harg2 : arg2.IsWhole)
    (arg3 : Memref sig .tc .vmem S1x1024x2048 .f32) (harg3 : arg3.IsWhole) (arg4 : Memref sig .tc .vmem S1x128x2048 .f32) (harg4 : arg4.IsWhole)
    (arg5 : Memref sig .tc .vmem S1024x1024 .bf16) (harg5 : arg5.IsWhole) (arg6 : Memref sig .tc .vmem S1024x2048 .bf16) (harg6 : arg6.IsWhole)
    (x : Vec F S1024x2048 .bf16) (wa : Vec F S1x1024x2048 .f32) (wb : Vec F S1x128x2048 .f32) (E : Set ℕ) (h1 : cond1 i) (h2 : cond2 i) (h3 : ¬ cond3 i) (h4 : ¬ cond4 i) :
    (iprop(owns (c : Thread nD τ) arg2 fullShare x ∗ owns (c : Thread nD τ) arg3 fullShare wa ∗ owns (c : Thread nD τ) arg4 fullShare wb
      ∗ (∃ d, owns (c : Thread nD τ) arg5 fullShare d) ∗ (∃ d, owns (c : Thread nD τ) arg6 fullShare d)) : sProp 𝕄G)
    ⊢ wp frame (wpE (defs₀ (F := F)) 𝒱 (c : Thread nD τ) none) E (cc0_in_proj (F := F) i arg2 harg2 arg3 harg3 arg4 harg4 arg5 harg5 arg6 harg6)
      (fun _ => After c arg2 arg3 arg4 arg5 arg6 x wa wb (tile 0 wa wb)) := by
  unfold cc0_in_proj After owns
  iintro ⟨⟨%f2, %hf2, H2⟩, ⟨%f3, %hf3, H3⟩, ⟨%f4, %hf4, H4⟩, ⟨%d5, %f5, -, H5⟩, ⟨%d6, %f6, -, H6⟩⟩
  obtain rfl := harg2.eq_unread hf2; obtain rfl := harg3.eq_unread hf3; obtain rfl := harg4.eq_unread hf4
  sl_exec (disch := first | sl_exact h1 | sl_exact h2 | sl_exact h3 | sl_exact h4)
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_whole _).trans (product_congr (load_whole harg2 _) (readCov_tiles ?_))
    constructor
    · intro p hp j
      simp only [List.mem_cons, List.mem_nil_iff, _root_.or_false] at hp
      rcases hp with rfl | rfl | rfl | rfl
      all_goals first | exact piece_wa 0 _ _ (by decide) (by decide) _ (by decide) _ _ arg3 harg3 wa wb j
    · intro y
      have hy : (y 0).val < 1024 := (y 0).isLt
      by_cases c0 : 768 ≤ (y 0).val
      · exact ⟨_, .head _, mem_rows 768 (by decide) y c0 (by omega)⟩
      by_cases c1 : 512 ≤ (y 0).val
      · exact ⟨_, .tail _ (.head _), mem_rows 512 (by decide) y c1 (by omega)⟩
      by_cases c2 : 256 ≤ (y 0).val
      · exact ⟨_, .tail _ (.tail _ (.head _)), mem_rows 256 (by decide) y c2 (by omega)⟩
      exact ⟨_, .tail _ (.tail _ (.tail _ (.head _))), mem_rows 0 (by decide) y (by omega) (by omega)⟩
  iexists _; isplitr
  swap; · iexact H6
  ipureintro
  sl_unfold_run_names
  refine read_tiles ?_
  constructor
  · intro p hp j
    simp only [List.mem_cons, List.mem_nil_iff, _root_.or_false] at hp
    rcases hp with rfl | rfl | rfl | rfl
    all_goals first | exact piece_wa 0 _ _ (by decide) (by decide) _ (by decide) _ _ arg3 harg3 wa wb j
  · intro y
    have hy : (y 0).val < 1024 := (y 0).isLt
    by_cases c0 : 768 ≤ (y 0).val
    · exact ⟨_, .head _, mem_rows 768 (by decide) y c0 (by omega)⟩
    by_cases c1 : 512 ≤ (y 0).val
    · exact ⟨_, .tail _ (.head _), mem_rows 512 (by decide) y c1 (by omega)⟩
    by_cases c2 : 256 ≤ (y 0).val
    · exact ⟨_, .tail _ (.tail _ (.head _)), mem_rows 256 (by decide) y c2 (by omega)⟩
    exact ⟨_, .tail _ (.tail _ (.tail _ (.head _))), mem_rows 0 (by decide) y (by omega) (by omega)⟩

/-- In the second segment. -/
theorem point_first64 (𝒱 : Variants) (c : Dev nD) (i : grid0.Coords) (arg2 : Memref sig .tc .vmem S1024x2048 .bf16) (harg2 : arg2.IsWhole)
    (arg3 : Memref sig .tc .vmem S1x1024x2048 .f32) (harg3 : arg3.IsWhole) (arg4 : Memref sig .tc .vmem S1x128x2048 .f32) (harg4 : arg4.IsWhole)
    (arg5 : Memref sig .tc .vmem S1024x1024 .bf16) (harg5 : arg5.IsWhole) (arg6 : Memref sig .tc .vmem S1024x2048 .bf16) (harg6 : arg6.IsWhole)
    (x : Vec F S1024x2048 .bf16) (wa : Vec F S1x1024x2048 .f32) (wb : Vec F S1x128x2048 .f32) (E : Set ℕ) (h1 : cond1 i) (h2 : ¬ cond2 i) (h3 : cond3 i) (h4 : ¬ cond4 i) :
    (iprop(owns (c : Thread nD τ) arg2 fullShare x ∗ owns (c : Thread nD τ) arg3 fullShare wa ∗ owns (c : Thread nD τ) arg4 fullShare wb
      ∗ (∃ d, owns (c : Thread nD τ) arg5 fullShare d) ∗ (∃ d, owns (c : Thread nD τ) arg6 fullShare d)) : sProp 𝕄G)
    ⊢ wp frame (wpE (defs₀ (F := F)) 𝒱 (c : Thread nD τ) none) E (cc0_in_proj (F := F) i arg2 harg2 arg3 harg3 arg4 harg4 arg5 harg5 arg6 harg6)
      (fun _ => After c arg2 arg3 arg4 arg5 arg6 x wa wb (tile 64 wa wb)) := by
  unfold cc0_in_proj k0_part1 After owns
  iintro ⟨⟨%f2, %hf2, H2⟩, ⟨%f3, %hf3, H3⟩, ⟨%f4, %hf4, H4⟩, ⟨%d5, %f5, -, H5⟩, ⟨%d6, %f6, -, H6⟩⟩
  obtain rfl := harg2.eq_unread hf2; obtain rfl := harg3.eq_unread hf3; obtain rfl := harg4.eq_unread hf4
  sl_exec (disch := first | sl_exact h1 | sl_exact h2 | sl_exact h3 | sl_exact h4)
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_whole _).trans (product_congr (load_whole harg2 _) (readCov_tiles ?_))
    constructor
    · intro p hp j
      simp only [List.mem_cons, List.mem_nil_iff, _root_.or_false] at hp
      rcases hp with rfl | rfl | rfl | rfl | rfl
      all_goals first | exact piece_wa 64 _ _ (by decide) (by decide) _ (by decide) _ _ arg3 harg3 wa wb j | exact piece_wb 64 _ (by decide) (by decide) _ (by decide) _ _ arg4 harg4 wa wb j
    · intro y
      have hy : (y 0).val < 1024 := (y 0).isLt
      by_cases c0 : 960 ≤ (y 0).val
      · exact ⟨_, .head _, mem_rows 960 (by decide) y c0 (by omega)⟩
      by_cases c1 : 768 ≤ (y 0).val
      · exact ⟨_, .tail _ (.head _), mem_rows 768 (by decide) y c1 (by omega)⟩
      by_cases c2 : 512 ≤ (y 0).val
      · exact ⟨_, .tail _ (.tail _ (.head _)), mem_rows 512 (by decide) y c2 (by omega)⟩
      by_cases c3 : 256 ≤ (y 0).val
      · exact ⟨_, .tail _ (.tail _ (.tail _ (.head _))), mem_rows 256 (by decide) y c3 (by omega)⟩
      exact ⟨_, .tail _ (.tail _ (.tail _ (.tail _ (.head _)))), mem_rows 0 (by decide) y (by omega) (by omega)⟩
  iexists _; isplitr
  swap; · iexact H6
  ipureintro
  sl_unfold_run_names
  refine read_tiles ?_
  constructor
  · intro p hp j
    simp only [List.mem_cons, List.mem_nil_iff, _root_.or_false] at hp
    rcases hp with rfl | rfl | rfl | rfl | rfl
    all_goals first | exact piece_wa 64 _ _ (by decide) (by decide) _ (by decide) _ _ arg3 harg3 wa wb j | exact piece_wb 64 _ (by decide) (by decide) _ (by decide) _ _ arg4 harg4 wa wb j
  · intro y
    have hy : (y 0).val < 1024 := (y 0).isLt
    by_cases c0 : 960 ≤ (y 0).val
    · exact ⟨_, .head _, mem_rows 960 (by decide) y c0 (by omega)⟩
    by_cases c1 : 768 ≤ (y 0).val
    · exact ⟨_, .tail _ (.head _), mem_rows 768 (by decide) y c1 (by omega)⟩
    by_cases c2 : 512 ≤ (y 0).val
    · exact ⟨_, .tail _ (.tail _ (.head _)), mem_rows 512 (by decide) y c2 (by omega)⟩
    by_cases c3 : 256 ≤ (y 0).val
    · exact ⟨_, .tail _ (.tail _ (.tail _ (.head _))), mem_rows 256 (by decide) y c3 (by omega)⟩
    exact ⟨_, .tail _ (.tail _ (.tail _ (.tail _ (.head _)))), mem_rows 0 (by decide) y (by omega) (by omega)⟩

/-- In the third segment. -/
theorem point_first80 (𝒱 : Variants) (c : Dev nD) (i : grid0.Coords) (arg2 : Memref sig .tc .vmem S1024x2048 .bf16) (harg2 : arg2.IsWhole)
    (arg3 : Memref sig .tc .vmem S1x1024x2048 .f32) (harg3 : arg3.IsWhole) (arg4 : Memref sig .tc .vmem S1x128x2048 .f32) (harg4 : arg4.IsWhole)
    (arg5 : Memref sig .tc .vmem S1024x1024 .bf16) (harg5 : arg5.IsWhole) (arg6 : Memref sig .tc .vmem S1024x2048 .bf16) (harg6 : arg6.IsWhole)
    (x : Vec F S1024x2048 .bf16) (wa : Vec F S1x1024x2048 .f32) (wb : Vec F S1x128x2048 .f32) (E : Set ℕ) (h1 : cond1 i) (h2 : ¬ cond2 i) (h3 : ¬ cond3 i) (h4 : cond4 i) :
    (iprop(owns (c : Thread nD τ) arg2 fullShare x ∗ owns (c : Thread nD τ) arg3 fullShare wa ∗ owns (c : Thread nD τ) arg4 fullShare wb
      ∗ (∃ d, owns (c : Thread nD τ) arg5 fullShare d) ∗ (∃ d, owns (c : Thread nD τ) arg6 fullShare d)) : sProp 𝕄G)
    ⊢ wp frame (wpE (defs₀ (F := F)) 𝒱 (c : Thread nD τ) none) E (cc0_in_proj (F := F) i arg2 harg2 arg3 harg3 arg4 harg4 arg5 harg5 arg6 harg6)
      (fun _ => After c arg2 arg3 arg4 arg5 arg6 x wa wb (tile 80 wa wb)) := by
  unfold cc0_in_proj k0_part2 After owns
  iintro ⟨⟨%f2, %hf2, H2⟩, ⟨%f3, %hf3, H3⟩, ⟨%f4, %hf4, H4⟩, ⟨%d5, %f5, -, H5⟩, ⟨%d6, %f6, -, H6⟩⟩
  obtain rfl := harg2.eq_unread hf2; obtain rfl := harg3.eq_unread hf3; obtain rfl := harg4.eq_unread hf4
  sl_exec (disch := first | sl_exact h1 | sl_exact h2 | sl_exact h3 | sl_exact h4)
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_whole _).trans (product_congr (load_whole harg2 _) (readCov_tiles ?_))
    constructor
    · intro p hp j
      simp only [List.mem_cons, List.mem_nil_iff, _root_.or_false] at hp
      rcases hp with rfl | rfl | rfl | rfl | rfl
      all_goals first | exact piece_wa 80 _ _ (by decide) (by decide) _ (by decide) _ _ arg3 harg3 wa wb j | exact piece_wb 80 _ (by decide) (by decide) _ (by decide) _ _ arg4 harg4 wa wb j
    · intro y
      have hy : (y 0).val < 1024 := (y 0).isLt
      by_cases c0 : 944 ≤ (y 0).val
      · exact ⟨_, .head _, mem_rows 944 (by decide) y c0 (by omega)⟩
      by_cases c1 : 768 ≤ (y 0).val
      · exact ⟨_, .tail _ (.head _), mem_rows 768 (by decide) y c1 (by omega)⟩
      by_cases c2 : 512 ≤ (y 0).val
      · exact ⟨_, .tail _ (.tail _ (.head _)), mem_rows 512 (by decide) y c2 (by omega)⟩
      by_cases c3 : 256 ≤ (y 0).val
      · exact ⟨_, .tail _ (.tail _ (.tail _ (.head _))), mem_rows 256 (by decide) y c3 (by omega)⟩
      exact ⟨_, .tail _ (.tail _ (.tail _ (.tail _ (.head _)))), mem_rows 0 (by decide) y (by omega) (by omega)⟩
  iexists _; isplitr
  swap; · iexact H6
  ipureintro
  sl_unfold_run_names
  refine read_tiles ?_
  constructor
  · intro p hp j
    simp only [List.mem_cons, List.mem_nil_iff, _root_.or_false] at hp
    rcases hp with rfl | rfl | rfl | rfl | rfl
    all_goals first | exact piece_wa 80 _ _ (by decide) (by decide) _ (by decide) _ _ arg3 harg3 wa wb j | exact piece_wb 80 _ (by decide) (by decide) _ (by decide) _ _ arg4 harg4 wa wb j
  · intro y
    have hy : (y 0).val < 1024 := (y 0).isLt
    by_cases c0 : 944 ≤ (y 0).val
    · exact ⟨_, .head _, mem_rows 944 (by decide) y c0 (by omega)⟩
    by_cases c1 : 768 ≤ (y 0).val
    · exact ⟨_, .tail _ (.head _), mem_rows 768 (by decide) y c1 (by omega)⟩
    by_cases c2 : 512 ≤ (y 0).val
    · exact ⟨_, .tail _ (.tail _ (.head _)), mem_rows 512 (by decide) y c2 (by omega)⟩
    by_cases c3 : 256 ≤ (y 0).val
    · exact ⟨_, .tail _ (.tail _ (.tail _ (.head _))), mem_rows 256 (by decide) y c3 (by omega)⟩
    exact ⟨_, .tail _ (.tail _ (.tail _ (.tail _ (.head _)))), mem_rows 0 (by decide) y (by omega) (by omega)⟩

/-- A grid point: from the blocks it is given and, past a column tile's first point, the tile in the scratch, to the product of the
    rows with that tile. -/
theorem point (𝒱 : Variants) (c : Dev nD) (i : grid0.Coords) (arg2 : Memref sig .tc .vmem S1024x2048 .bf16) (harg2 : arg2.IsWhole)
    (arg3 : Memref sig .tc .vmem S1x1024x2048 .f32) (harg3 : arg3.IsWhole) (arg4 : Memref sig .tc .vmem S1x128x2048 .f32) (harg4 : arg4.IsWhole)
    (arg5 : Memref sig .tc .vmem S1024x1024 .bf16) (harg5 : arg5.IsWhole) (arg6 : Memref sig .tc .vmem S1024x2048 .bf16) (harg6 : arg6.IsWhole)
    (x : Vec F S1024x2048 .bf16) (wa : Vec F S1x1024x2048 .f32) (wb : Vec F S1x128x2048 .f32) (E : Set ℕ) :
    (iprop(owns (c : Thread nD τ) arg2 fullShare x ∗ owns (c : Thread nD τ) arg3 fullShare wa ∗ owns (c : Thread nD τ) arg4 fullShare wb
      ∗ (∃ d, owns (c : Thread nD τ) arg5 fullShare d)
      ∗ (∃ Y : Vec F S1024x2048 .bf16, ⌜(i 1).val ≠ 0 → Y = tile (shift (i 0).val) wa wb⌝ ∗ owns (c : Thread nD τ) arg6 fullShare Y)) : sProp 𝕄G)
    ⊢ wp frame (wpE (defs₀ (F := F)) 𝒱 (c : Thread nD τ) none) E (cc0_in_proj (F := F) i arg2 harg2 arg3 harg3 arg4 harg4 arg5 harg5 arg6 harg6)
      (fun _ => After c arg2 arg3 arg4 arg5 arg6 x wa wb (tile (shift (i 0).val) wa wb)) := by
  iintro ⟨H2, H3, H4, H5, ⟨%Y, %hY, H6⟩⟩
  by_cases h1 : (i 1).val = 0
  · have c1 : cond1 i := (cond1_iff i).mpr h1
    by_cases h2 : (i 0).val < 12
    · have e : shift (i 0).val = 0 := by unfold shift; rw [if_pos h2]
      rw [e]
      iapply (point_first0 𝒱 c i arg2 harg2 arg3 harg3 arg4 harg4 arg5 harg5 arg6 harg6 x wa wb E c1 ((cond2_iff i).mpr h2)
        (fun h => by have := (cond3_iff i).mp h; omega) (fun h => by have := (cond4_iff i).mp h; omega))
      isplitl [H2]; · iexact H2
      isplitl [H3]; · iexact H3
      isplitl [H4]; · iexact H4
      isplitl [H5]; · iexact H5
      iexists Y; iexact H6
    · by_cases h3 : (i 0).val < 18
      · have e : shift (i 0).val = 64 := by unfold shift; rw [if_neg h2, if_pos h3]
        rw [e]
        iapply (point_first64 𝒱 c i arg2 harg2 arg3 harg3 arg4 harg4 arg5 harg5 arg6 harg6 x wa wb E c1 (fun h => h2 ((cond2_iff i).mp h))
          ((cond3_iff i).mpr ⟨by omega, h3⟩) (fun h => by have := (cond4_iff i).mp h; omega))
        isplitl [H2]; · iexact H2
        isplitl [H3]; · iexact H3
        isplitl [H4]; · iexact H4
        isplitl [H5]; · iexact H5
        iexists Y; iexact H6
      · have e : shift (i 0).val = 80 := by unfold shift; rw [if_neg h2, if_neg h3]
        rw [e]
        iapply (point_first80 𝒱 c i arg2 harg2 arg3 harg3 arg4 harg4 arg5 harg5 arg6 harg6 x wa wb E c1 (fun h => h2 ((cond2_iff i).mp h))
          (fun h => by have := (cond3_iff i).mp h; omega) ((cond4_iff i).mpr (by omega)))
        isplitl [H2]; · iexact H2
        isplitl [H3]; · iexact H3
        isplitl [H4]; · iexact H4
        isplitl [H5]; · iexact H5
        iexists Y; iexact H6
  · obtain rfl := hY h1
    iapply (point_later 𝒱 c i arg2 harg2 arg3 harg3 arg4 harg4 arg5 harg5 arg6 harg6 x wa wb _ E (fun h => h1 ((cond1_iff i).mp h)))
    isplitl [H2]; · iexact H2
    isplitl [H3]; · iexact H3
    isplitl [H4]; · iexact H4
    isplitl [H5]; · iexact H5
    iexact H6

end Cert.Kernel2Ideal.Proj
-- ==== Proof.ProjRun.lean ====
module

public import proofs.«01_k».proof.Proof.ProjPoint

/-! The input projection: the run of the whole grid. The second block of weights of the last column tile reaches past the
    weights' last row; the rows past it, whatever they hold, are not used. -/

@[expose] public section

set_option maxRecDepth 16384

noncomputable section

namespace Cert.Kernel2Ideal.Proj
open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000

local notation "𝕄G" => MT nD τ sig Unit (Elt F) ℕ (UR sig nD τ) ℕ

open Idealize.ShloMosaic.Pipeline (Dat BodyObligationLoose)

variable (m : (ℓ : Loc nD τ sig) → Buf (Elt F) ℓ) (ρ : Dev nD → PrngReg)

/-- What stands for the rows past the weights' last. -/
def filler : Vec F S1x128x2048 .f32 := constant S1x128x2048 .f32 0x00000000#32

/-- The block of rows and the two blocks of weights at point `t`. -/
def xAt (c : Dev nD) (t : Fin cfg0.N) : Vec F S1024x2048 .bf16 := iblk m c 0 t
@[inherit_doc xAt] def waAt (c : Dev nD) (t : Fin cfg0.N) : Vec F S1x1024x2048 .f32 := X0_1 m c t
@[inherit_doc xAt] def wbAt (c : Dev nD) (t : Fin cfg0.N) (d : Vec F S1x128x2048 .f32) : Vec F S1x128x2048 .f32 :=
  (cfg0.win 2).fill (cfg0.grid.coords t) d (iblk m c 2 t)

/-- The tile of weights at point `t`. -/
def tileAt (c : Dev nD) (t : Fin cfg0.N) : Vec F S1024x2048 .bf16 := tile (shift (grid0.coords t 0).val) (waAt m c t) (wbAt m c t filler)

theorem shift_le (j : ℕ) : shift j ≤ 80 := by unfold shift; split; · omega
                                              split <;> omega

/-- The first 80 rows of the second block of weights lie in the weights. -/
theorem xsize2 : ∀ t : Fin cfg0.N, 80 ≤ (cfg0.win 2).xsize (cfg0.grid.coords t) (1 : Fin 3) ∧ 1 ≤ (cfg0.win 2).xsize (cfg0.grid.coords t) (0 : Fin 3)
    ∧ 2048 ≤ (cfg0.win 2).xsize (cfg0.grid.coords t) (2 : Fin 3) := by decide +kernel

theorem moved2 (t : Fin cfg0.N) (j : (cfg0.win 2).block.Idx) (h : (j 1).val < 80) : (cfg0.win 2).moved (cfg0.grid.coords t) j = true := by
  obtain ⟨e1, e0, e2⟩ := xsize2 t
  refine ((cfg0.win 2).moved_iff _ j).mpr fun a => ?_
  match a with
  | ⟨0, _⟩ => have : (j 0).val < 1 := (j 0).isLt
              exact lt_of_lt_of_le this e0
  | ⟨1, _⟩ => exact lt_of_lt_of_le h e1
  | ⟨2, _⟩ => have : (j 2).val < 2048 := (j 2).isLt
              exact lt_of_lt_of_le this e2

/-- So the tile does not depend on the rows past the weights' last. -/
theorem tile_filled (c : Dev nD) (t : Fin cfg0.N) (j : ℕ) (wa : Vec F S1x1024x2048 .f32) (d d' : Vec F S1x128x2048 .f32) :
    tile (shift j) wa (wbAt m c t d) = tile (shift j) wa (wbAt m c t d') := by
  funext y
  have hs := shift_le j
  have hy : (y 0).val < 1024 := (y 0).isLt
  unfold tile
  by_cases h : (y 0).val + shift j < 1024
  · rw [dif_pos h, dif_pos h]
  · rw [dif_neg h, dif_neg h]
    refine congrArg (FloatOps.truncf .bf16 bitsLt_bf16_f32) ?_
    unfold wbAt Pipeline.Window.fill
    have hm := moved2 t (ix3 (0 : Fin 1) (⟨((y 0).val + shift j - 1024) % 128, Nat.mod_lt _ (by decide)⟩ : Fin 128) (y 1))
      (by show ((y 0).val + shift j - 1024) % 128 < 80; omega)
    rw [dif_pos hm, dif_pos hm]

/-- Between the points: within a column tile, the scratch holds its tile of weights. -/
def Phi (c : Dev nD) (n : ℕ) : sProp 𝕄G :=
  iprop((∃ Y : Vec F S1024x2048 .bf16, ⌜∀ t : Fin cfg0.N, t.val = n → n % 8 ≠ 0 → Y = tileAt m c t⌝ ∗ owns (c : Thread nD τ) (Memref.whole cc0_scratch0) fullShare Y)
    ∗ ∃ r, prngReg c r)

/-- The proof data of the launch: each input's block left in place, the result's block computed. -/
def dats (_ : Fin 1) (c : Dev nD) : Dat τ (Elt F) Unit ℕ (UR sig nD τ) ℕ cfg0 c where
  A w := V m c (Pipeline.arrRef spec0 w)
  after w t := match w with
    | 0 => iblk m c 0 t
    | 1 => X0_1 m c t
    | 2 => wbAt m c t filler
    | 3 => product (xAt m c t) (tileAt m c t)
    | ⟨_ + 4, h⟩ => absurd h (Nat.not_lt.2 (Nat.le_add_left _ _))
  Φ t := Phi m c t.val
  q w := Pipeline.shareOf spec0 w
  owed _ := 0

theorem before_0 (c : Dev nD) (t : Fin cfg0.N) (d) : (dats m 0 c).before 0 t d = xAt m c t :=
  before0_0_of m (dats m 0 c) rfl (fun _ => rfl) t d
theorem before_1 (c : Dev nD) (t : Fin cfg0.N) (d) : (dats m 0 c).before 1 t d = waAt m c t :=
  before0_1_of m (dats m 0 c) rfl (fun _ => rfl) t d
theorem before_2 (c : Dev nD) (t : Fin cfg0.N) (d) : (dats m 0 c).before 2 t d = wbAt m c t d :=
  ((dats m 0 c).before_in_eq_fetched 2 rfl (fun _ => rfl)
    (fun t t' h => funext fun a => congrArg (fun n => Pipeline.Clip.of n ((cfg0.win 2).size a) (S4x22608x2048.size a)) (congrFun h a))
    (fun t => ((cfg0.win 2).cut_fill _ _ _)) t d).trans rfl

/-- The coordinates of a point. -/
theorem coord : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- Within a column tile the first block of weights does not move. -/
theorem waAt_succ (c : Dev nD) (t t' : Fin cfg0.N) (h : t'.val = t.val + 1) (h8 : t'.val % 8 ≠ 0) : waAt m c t = waAt m c t' := by
  have hf : (cfg0.win 1).fetch t' = false := by rw [← Bool.not_eq_true]; exact fun h' => h8 ((fetch0_1 t').mp h')
  have ht : (⟨t'.val - 1, Nat.lt_of_le_of_lt (Nat.sub_le _ _) t'.isLt⟩ : Fin cfg0.N) = t := Fin.ext (by simp only; omega)
  have e := (dats m 0 c).before_unfetched_in 1 rfl t' hf (fun _ => rfl) dflt0_1
  rw [before_1, ht] at e
  refine (e.trans ?_).symm
  unfold Dat.kept
  exact congrArg ((cfg0.win 1).fill (cfg0.grid.coords t) dflt0_1) ((cfg0.win 1).cut_fill _ _ _)
/-- Nor the second. -/
theorem wbAt_succ (c : Dev nD) (t t' : Fin cfg0.N) (h : t'.val = t.val + 1) (h8 : t'.val % 8 ≠ 0) : wbAt m c t filler = wbAt m c t' filler := by
  have hf : (cfg0.win 2).fetch t' = false := by rw [← Bool.not_eq_true]; exact fun h' => h8 ((fetch0_2 t').mp h')
  have ht : (⟨t'.val - 1, Nat.lt_of_le_of_lt (Nat.sub_le _ _) t'.isLt⟩ : Fin cfg0.N) = t := Fin.ext (by simp only; omega)
  have e := (dats m 0 c).before_unfetched_in 2 rfl t' hf (fun _ => rfl) filler
  rw [before_2, ht] at e
  refine (e.trans ?_).symm
  unfold Dat.kept
  exact congrArg ((cfg0.win 2).fill (cfg0.grid.coords t) filler) ((cfg0.win 2).cut_fill _ _ _)

theorem tileAt_succ (c : Dev nD) (t t' : Fin cfg0.N) (h : t'.val = t.val + 1) (h8 : t'.val % 8 ≠ 0) : tileAt m c t = tileAt m c t' := by
  unfold tileAt
  rw [waAt_succ m c t t' h h8, wbAt_succ m c t t' h h8, (coord t).1, (coord t').1, show t.val / 8 = t'.val / 8 by omega]

/-- The body at point `t`, with anything (`O`) passed through. -/
theorem sound (𝒱 : Variants) (c : Dev nD) (t : Fin cfg0.N) (O : sProp 𝕄G) :
    (iprop(Phi m c t.val ∗ O ∗ (∃ d : Vec F S1024x2048 .bf16, owns (c : Thread nD τ) (st0_0 t) fullShare ((dats m 0 c).before 0 t d))
      ∗ (∃ d : Vec F S1x1024x2048 .f32, owns (c : Thread nD τ) (st0_1 t) fullShare ((dats m 0 c).before 1 t d))
      ∗ (∃ d : Vec F S1x128x2048 .f32, owns (c : Thread nD τ) (st0_2 t) fullShare ((dats m 0 c).before 2 t d))
      ∗ (∃ d : Vec F S1024x1024 .bf16, owns (c : Thread nD τ) (st0_3 t) fullShare ((dats m 0 c).before 3 t d))) : sProp 𝕄G)
    ⊢ wp frame (wpE (defs₀ (F := F)) 𝒱 (c : Thread nD τ) none) Set.univ (bodyAt0 t) (fun _ => iprop(Phi m c (t.val + 1) ∗ O
      ∗ owns (c : Thread nD τ) (st0_0 t) fullShare ((dats m 0 c).after 0 t)
      ∗ (∃ d : Vec F S1x1024x2048 .f32, owns (c : Thread nD τ) (st0_1 t) fullShare ((cfg0.win 1).fill (cfg0.grid.coords t) d ((cfg0.win 1).cut (cfg0.grid.coords t) ((dats m 0 c).after 1 t))))
      ∗ (∃ d : Vec F S1x128x2048 .f32, owns (c : Thread nD τ) (st0_2 t) fullShare ((cfg0.win 2).fill (cfg0.grid.coords t) d ((cfg0.win 2).cut (cfg0.grid.coords t) ((dats m 0 c).after 2 t))))
      ∗ owns (c : Thread nD τ) (st0_3 t) fullShare ((dats m 0 c).after 3 t))) := by
  have e1 : (cfg0.win 1).fill (cfg0.grid.coords t) dflt0_1 ((cfg0.win 1).cut (cfg0.grid.coords t) ((dats m 0 c).after 1 t)) = waAt m c t :=
    congrArg ((cfg0.win 1).fill (cfg0.grid.coords t) dflt0_1) ((cfg0.win 1).cut_fill _ _ _)
  have e2 : ∀ d, (cfg0.win 2).fill (cfg0.grid.coords t) d ((cfg0.win 2).cut (cfg0.grid.coords t) ((dats m 0 c).after 2 t)) = wbAt m c t d := fun d =>
    congrArg ((cfg0.win 2).fill (cfg0.grid.coords t) d) ((cfg0.win 2).cut_fill _ _ _)
  simp only [before_0, before_1, before_2]
  unfold Phi
  iintro ⟨⟨⟨%Y, %hY, H6⟩, HR⟩, HO, ⟨%d0, H2⟩, ⟨%d1, H3⟩, ⟨%d2, H4⟩, ⟨%d3, H5⟩⟩
  have ht : tile (shift (grid0.coords t 0).val) (waAt m c t) (wbAt m c t d2) = tileAt m c t := tile_filled m c t _ _ _ _
  iapply (wp_wand_r _ _ _)
  isplitl [H2 H3 H4 H5 H6]
  · iapply (point 𝒱 c (grid0.coords t) _ _ _ _ _ _ _ _ _ _ (xAt m c t) (waAt m c t) (wbAt m c t d2) Set.univ) $$ [H2 H3 H4 H5 H6]
    isplitl [H2]; · iexact H2
    isplitl [H3]; · iexact H3
    isplitl [H4]; · iexact H4
    isplitl [H5]; · iexists _; iexact H5
    iexists Y; isplitr
    · ipureintro; intro hne; rw [(coord t).2] at hne; rw [ht]; exact hY t rfl hne
    · iexact H6
  · rw [ht]
    iintro %a ⟨H2, H3, H4, H5, H6⟩
    isplitl [H6 HR]
    · isplitl [H6]
      · iexists (tileAt m c t); isplitr
        · ipureintro; intro t' ht' h8'; rw [tileAt_succ m c t t' ht' (by rw [ht']; exact h8')]
        · iexact H6
      iexact HR
    isplitl [HO]; · iexact HO
    isplitl [H2]; · iexact H2
    isplitl [H3]
    · iexists dflt0_1; rw [e1]; iexact H3
    isplitl [H4]
    · iexists d2; rw [e2]; iexact H4
    iexact H5

theorem body_row (t : Fin cfg0.N) : defs₀ (F := F) .tc cfg0.body (cfg0.bodyArgs t (cfg0.slots t)) = bodyAt0 t := by
  unfold defs₀; rw [Defs.onTc_tc]

/-- The launch's obligation at every point. -/
theorem body_obligation (c : Dev nD) : BodyObligationLoose (dats m 0 c) (defs₀ (F := F)) Variants.none () Set.univ := fun t => by
  rw [bigSep_W0, bigSep_W0, body_row]
  exact triple_restated (sound m Variants.none c t ((dats m 0 c).owesAt () t.castSucc)) rfl .rfl fun _ => .rfl

theorem phi_in (c : Dev nD) : (Pipeline.ΦA spec0 c : sProp 𝕄G) ⊢ (dats m 0 c).Φ 0 := by
  show (Pipeline.ΦA spec0 c : sProp 𝕄G) ⊢ Phi m c 0
  unfold Pipeline.ΦA Phi
  rw [scopedRest0_eq]
  simp only [owns_whole]
  iintro ⟨⟨%f, H⟩, HR⟩
  isplitl [H]
  · iexists f; isplitr
    · ipureintro; intro t _ h; exact absurd rfl h
    · iexact H
  iexact HR

theorem phi_out (c : Dev nD) : (dats m 0 c).Φ (Fin.last cfg0.N) ⊢ (Pipeline.ΦA spec0 c : sProp 𝕄G) := by
  show Phi m c cfg0.N ⊢ (Pipeline.ΦA spec0 c : sProp 𝕄G)
  unfold Pipeline.ΦA Phi
  rw [scopedRest0_eq]
  simp only [owns_whole]
  iintro ⟨⟨%f, %_h, H⟩, HR⟩
  isplitl [H]; · iexists f; iexact H
  iexact HR

/-- The run: the result's array is built of the points' blocks, everything else is as launched, and every semaphore ends at zero. -/
theorem run : θ_run defs (onTc (τ := τ) (main (F := F))) (s₀ m ρ) (fun r => Pipeline.FramePost cfgs (dats m) 0 (V m) r ∧ r.2.sem = fun _ => 0) :=
  Pipeline.θ_run_frame_track_shared cfgs (dats m) 0 launch₀0 defs₀ Variants.none m ρ main (fun c => body_obligation m c)
    (fun _ _ _ => rfl) (fun _ _ => rfl) (V m) (hmain m Variants.none) (fun _ _ => rfl) (phi_in m) (phi_out m) (Q' := _) (fun _ h => h)

/-- The arguments end as launched. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans (((dats m 0 c).arrAt_in 0 rfl _).trans (V_main_arg0 m c)),
    ((h c).2 main_arg1 (Pipeline.mem_restRefs_of main_arg1 (by decide) (by decide))).trans (V_main_arg1 m c)⟩

/-- The result ends as the array built of the points' blocks. -/
theorem result_eq (r : PUnit × MemSt nD τ sig (Elt F)) (h : Pipeline.FramePost cfgs (dats m) 0 (V m) r) (c : Dev nD) :
    r.2.mem ((c.tc : Thread nD τ).loc main_v1) = (dats m 0 c).arrAt 3 cfg0.N := (h c).1 3

end Cert.Kernel2Ideal.Proj
-- ==== Proof.ProjPlain.lean ====
module

public import proofs.«01_k».proof.Defs
public import proofs.«01_k».proof.Proof.ProjRun
public import proofs.«01_k».proof.Proof.Gen.Kernel2

/-! The input projection as written has the same text as the idealized one, so the run proved over any float values is also its run. -/

@[expose] public section

noncomputable section

namespace Cert.Proof

open Idealize.ShloMosaic Idealize.SL.Sem

variable {F : FTy → Type} [FloatOps F]

/-- The two programs have the same kernel, -/
theorem same_kernel : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg _ (funext fun l => funext fun x => ?_)
  match l, x with
  | 0, (t, s) => rfl

/-- the same table of bodies, -/
theorem same_defs : @Cert.Kernel2.defs F _ Cert.Kernel2.Gen.facts = @Cert.Kernel2Ideal.defs F _ Cert.Kernel2Ideal.Gen.facts := by
  unfold Cert.Kernel2.defs Cert.Kernel2Ideal.defs
  exact congrArg _ same_kernel

/-- and the same host code. -/
theorem same_main : @Cert.Kernel2.main F _ = @Cert.Kernel2Ideal.main F _ := by
  unfold Cert.Kernel2.main Cert.Kernel2Ideal.main
  rfl

/-- The input projection as written ends with its arguments as launched and every semaphore at zero. -/
theorem quiescent_kernel2 : Cert.quiescent_Kernel2 (hKernel2 := Cert.Kernel2.Gen.facts) := fun m g _ => by
  rw [same_defs, same_main]
  exact (θ_run (Cert.Kernel2Ideal.defs (F := Bits)) _ _).mono (fun r h => ⟨Cert.Kernel2Ideal.Proj.args_kept (F := Bits) m r h.1, h.2⟩) (Cert.Kernel2Ideal.Proj.run (F := Bits) m g)

/-- So does the idealized one. -/
theorem quiescent_kernel2_ideal : Cert.quiescent_Kernel2Ideal (hKernel2Ideal := Cert.Kernel2Ideal.Gen.facts) := fun m g _ =>
  (θ_run _ _ _).mono (fun r h => ⟨Cert.Kernel2Ideal.Proj.args_kept m r h.1, h.2⟩) (Cert.Kernel2Ideal.Proj.run m g)

end Cert.Proof
-- ==== Proof.ProjValue.lean ====
module

public import proofs.«01_k».proof.Defs
public import proofs.«01_k».proof.Proof.ProjRun
public import proofs.«01_k».proof.Proof.Gen.Reference2Ideal.Run
public import proofs.«01_k».proof.Proof.Gen.Reference2Ideal.Read
public import Idealize.ShloMosaic.Lib.Pointwise

/-! The input projection: the kernel's product, tile by tile, is the reference's. -/

@[expose] public section

set_option maxRecDepth 16384

noncomputable section

namespace Cert.Kernel2Ideal.Proj
open Cert.Kernel2Ideal.Gen

open Idealize.ShloMosaic Idealize.ShloMosaic.TcCoe Idealize.SL.Sem

/-- Point `t` of the grid is column tile `t / 8` and row tile `t % 8`; each window's block index there. -/
theorem index0 : ∀ t : Fin cfg0.N, win0_0.index t (0 : Fin 2) = t.val % 8 ∧ win0_0.index t (1 : Fin 2) = 0 :=
  (by decide +kernel : ∀ t : Fin grid0.N, _)
@[inherit_doc index0] theorem index1 : ∀ t : Fin cfg0.N, win0_1.index t (0 : Fin 3) = 0 ∧ win0_1.index t (1 : Fin 3) = t.val / 8 ∧ win0_1.index t (2 : Fin 3) = 0 :=
  (by decide +kernel : ∀ t : Fin grid0.N, _)
@[inherit_doc index0] theorem index2 : ∀ t : Fin cfg0.N, win0_2.index t (0 : Fin 3) = 0 ∧ win0_2.index t (1 : Fin 3) = t.val / 8 * 8 + 8 ∧ win0_2.index t (2 : Fin 3) = 0 :=
  (by decide +kernel : ∀ t : Fin grid0.N, _)
@[inherit_doc index0] theorem index3 : ∀ t : Fin cfg0.N, win0_3.index t (0 : Fin 2) = t.val % 8 ∧ win0_3.index t (1 : Fin 2) = t.val / 8 :=
  (by decide +kernel : ∀ t : Fin grid0.N, _)

theorem point_lt (t : Fin cfg0.N) : t.val < 176 := t.isLt

/-- The product of a block of rows with a tile of the weights, at an element. -/
theorem product_apply (x w : Vec Ideal S1024x2048 .bf16) (i d : Fin 1024) :
    product (F := Ideal) x w (ix2 i d) = ∑ k : Fin 2048, x (ix2 i k) * w (ix2 d k) := by
  unfold product
  pointwise

variable (m : (ℓ : Loc nD τ sig) → Buf (Elt Ideal) ℓ)

/-- The weights the kernel is launched on: the second argument, its last two axes exchanged. -/
theorem weights (c : Dev nD) : V m c main_v0 = transpose S4x22608x2048 [0, 2, 1] (m ((c.tc : Thread nD τ).loc main_arg1)) transposes_S4x2048x22608_S4x22608x2048_0_2_1 := by
  show StableHlo.after hostOps0 _ _ = _
  unfold hostOps0
  after_results

theorem weights_apply (c : Dev nD) (n : Fin 22608) (k : Fin 2048) (j : S4x22608x2048.Idx) (h0 : (j 0).val = 0) (h1 : (j 1).val = n.val) (h2 : (j 2).val = k.val) :
    V m c main_v0 j = m ((c.tc : Thread nD τ).loc main_arg1) (ix3 (0 : Fin 4) k n) := by
  have hj : j = ix3 (0 : Fin 4) n k := funext fun a => Fin.ext (match a with | ⟨0, _⟩ => h0 | ⟨1, _⟩ => h1 | ⟨2, _⟩ => h2)
  rw [hj, weights]
  pointwise

theorem rows_apply (c : Dev nD) (t : Fin cfg0.N) (i : Fin 1024) (k : Fin 2048) (j : S8192x2048.Idx)
    (h0 : (j 0).val = t.val % 8 * 1024 + i.val) (h1 : (j 1).val = k.val) :
    xAt m c t (ix2 i k) = m ((c.tc : Thread nD τ).loc main_arg0) j := by
  obtain ⟨e0, e1⟩ := index0 t
  refine (show xAt m c t (ix2 i k) = V m c main_arg0 (((cfg0.win 0).blk t).view.emb (ix2 i k)) from rfl).trans ?_
  rw [V_main_arg0]
  refine congrArg (m ((c.tc : Thread nD τ).loc main_arg0)) (funext fun a => Fin.ext ?_)
  match a with
  | ⟨0, _⟩ => show win0_0.index t (0 : Fin 2) * 1024 + 1 * i.val = (j 0).val; omega
  | ⟨1, _⟩ => show win0_0.index t (1 : Fin 2) * 2048 + 1 * k.val = (j 1).val; omega

/-- The first block of weights, at an element. -/
theorem waAt_apply (c : Dev nD) (t : Fin cfg0.N) (d : Fin 1024) (k : Fin 2048) (n : Fin 22608) (hn : n.val = t.val / 8 * 1024 + d.val) :
    waAt m c t (ix3 (0 : Fin 1) d k) = m ((c.tc : Thread nD τ).loc main_arg1) (ix3 (0 : Fin 4) k n) := by
  obtain ⟨e0, e1, e2⟩ := index1 t
  have hm := moved0_1 t (ix3 (0 : Fin 1) d k)
  unfold waAt X0_1 Pipeline.Window.fill
  rw [dif_pos hm]
  refine weights_apply m c n k (((cfg0.win 1).blk t).view.emb _) ?_ ?_ ?_
  · show win0_1.index t (0 : Fin 3) * 1 + 1 * 0 = 0; omega
  · show win0_1.index t (1 : Fin 3) * 1024 + 1 * d.val = n.val; omega
  · show win0_1.index t (2 : Fin 3) * 2048 + 1 * k.val = k.val; omega

/-- One of the first 80 rows of the second block of weights, at an element. -/
theorem wbAt_apply (c : Dev nD) (t : Fin cfg0.N) (d : Fin 128) (hd : d.val < 80) (k : Fin 2048) (n : Fin 22608) (hn : n.val = t.val / 8 * 1024 + 1024 + d.val) :
    wbAt m c t filler (ix3 (0 : Fin 1) d k) = m ((c.tc : Thread nD τ).loc main_arg1) (ix3 (0 : Fin 4) k n) := by
  obtain ⟨e0, e1, e2⟩ := index2 t
  have hm := moved2 t (ix3 (0 : Fin 1) d k) hd
  unfold wbAt Pipeline.Window.fill
  rw [dif_pos hm]
  refine weights_apply m c n k (((cfg0.win 2).blk t).view.emb _) ?_ ?_ ?_
  · show win0_2.index t (0 : Fin 3) * 1 + 1 * 0 = 0; omega
  · show win0_2.index t (1 : Fin 3) * 128 + 1 * d.val = n.val; omega
  · show win0_2.index t (2 : Fin 3) * 2048 + 1 * k.val = k.val; omega

/-- The tile of weights at point `t`: the columns of its column tile, displaced as its segment is. -/
theorem tileAt_apply (c : Dev nD) (t : Fin cfg0.N) (d : Fin 1024) (k : Fin 2048) (n : Fin 22608) (hn : n.val = t.val / 8 * 1024 + d.val + shift (t.val / 8)) :
    tileAt m c t (ix2 d k) = m ((c.tc : Thread nD τ).loc main_arg1) (ix3 (0 : Fin 4) k n) := by
  have hs := shift_le (t.val / 8)
  have hd := d.isLt
  unfold tileAt
  rw [(coord t).1]
  unfold tile
  by_cases h : d.val + shift (t.val / 8) < 1024
  · refine (dif_pos h).trans ?_
    exact waAt_apply m c t ⟨d.val + shift (t.val / 8), h⟩ k n (by show n.val = t.val / 8 * 1024 + (d.val + shift (t.val / 8)); omega)
  · refine (dif_neg h).trans ?_
    exact wbAt_apply m c t ⟨(d.val + shift (t.val / 8) - 1024) % 128, Nat.mod_lt _ (by decide)⟩ (by show (d.val + shift (t.val / 8) - 1024) % 128 < 80; omega) k n
      (by show n.val = t.val / 8 * 1024 + 1024 + (d.val + shift (t.val / 8) - 1024) % 128; omega)

/-- Where the block of the result lies in the result. -/
theorem emb3_val (t : Fin cfg0.N) (i d : Fin 1024) (j : S8192x22528.Idx)
    (h0 : (j 0).val = t.val % 8 * 1024 + i.val) (h1 : (j 1).val = t.val / 8 * 1024 + d.val) :
    ((cfg0.win 3).blk t).view.emb (ix2 i d) = j := by
  obtain ⟨e0, e1⟩ := index3 t
  refine funext fun a => Fin.ext ?_
  match a with
  | ⟨0, _⟩ => show win0_3.index t (0 : Fin 2) * 1024 + 1 * i.val = (j 0).val; omega
  | ⟨1, _⟩ => show win0_3.index t (1 : Fin 2) * 1024 + 1 * d.val = (j 1).val; omega

/-- Every element of the result lies in some point's block. -/
theorem cover3 (j : S8192x22528.Idx) : ∃ t : Fin cfg0.N, (cfg0.win 3).flush t = true ∧ j ∈ ((cfg0.win 3).blk t).view.set := by
  have h0 : (j 0).val < 8192 := (j 0).isLt
  have h1 : (j 1).val < 22528 := (j 1).isLt
  let t : Fin cfg0.N := ⟨(j 1).val / 1024 * 8 + (j 0).val / 1024, show _ < 176 by omega⟩
  have ht : t.val = (j 1).val / 1024 * 8 + (j 0).val / 1024 := rfl
  have e := emb3_val t (⟨(j 0).val % 1024, by omega⟩ : Fin 1024) (⟨(j 1).val % 1024, by omega⟩ : Fin 1024) j
    (by rw [ht]; show (j 0).val = _ + (j 0).val % 1024; omega) (by rw [ht]; show (j 1).val = _ + (j 1).val % 1024; omega)
  refine ⟨t, flush0_3 t, ?_⟩
  have h := ((cfg0.win 3).blk t).view.emb_mem_set (ix2 (⟨(j 0).val % 1024, by omega⟩ : Fin 1024) (⟨(j 1).val % 1024, by omega⟩ : Fin 1024))
  exact (congrArg (· ∈ ((cfg0.win 3).blk t).view.set) e).mp h

/-- The reference's value at the kernel's arguments. -/
abbrev wanted (c : Dev nD) : Buf (Elt Ideal) ((c.tc : Thread nD τ).loc main_v1) :=
  Cert.Reference2Ideal.Read.val_main_v8 (F := Ideal) (m ((c.tc : Thread nD τ).loc main_arg0)) (m ((c.tc : Thread nD τ).loc main_arg1))

section Reference
open Cert.Reference2Ideal Cert.Reference2Ideal.Gen Cert.Reference2Ideal.Read

variable (x0 : FVec Ideal Cert.Reference2Ideal.S8192x2048 .bf16) (x1 : FVec Ideal Cert.Reference2Ideal.S4x2048x22608 .f32)

/-- The whole projection, at an element. -/
theorem whole_apply (r : Fin 8192) (n : Fin 22608) :
    val_main_v4 (F := Ideal) x0 x1 (ix2 r n) = ∑ k : Fin 2048, x0 (ix2 r k) * x1 (ix3 (0 : Fin 4) k n) := by
  unfold val_main_v4 val_main_v3 val_main_v2 val_main_v1 val_main_v0
  pointwise

/-- The three segments one after another, at a column of each: a column of the whole projection. -/
theorem segments_apply (r : Fin 8192) (q : Fin 22528) (n : Fin 22608) (hn : n.val = q.val + shift (q.val / 1024)) :
    val_main_v8 (F := Ideal) x0 x1 (ix2 r q) = val_main_v4 (F := Ideal) x0 x1 (ix2 r n) := by
  have hq := q.isLt
  unfold shift at hn
  unfold val_main_v8
  by_cases h1 : q.val < 12288
  · rw [if_pos (by omega)] at hn
    refine (concatenate_apply_piece (t := Cert.Reference2Ideal.S8192x22528) 1 _ _ (ix2 r q) 0 (by show 0 < 3; omega) Cert.Reference2Ideal.S8192x12288 (val_main_v5 (F := Ideal) x0 x1) rfl rfl 0 rfl (ix2 r (⟨q.val, h1⟩ : Fin 12288)) (fun b hb => ?_) ?_).trans ?_
    · match b with
      | ⟨0, _⟩ => rfl
      | ⟨1, _⟩ => exact absurd rfl hb
    · show 0 + q.val = q.val; omega
    · rw [val_main_v5_apply]
      refine congrArg (val_main_v4 (F := Ideal) x0 x1) (funext fun a => Fin.ext ?_)
      match a with
      | ⟨0, _⟩ => rfl
      | ⟨1, _⟩ => show q.val = n.val; omega
  · rw [if_neg (by omega)] at hn
    by_cases h2 : q.val < 18432
    · rw [if_pos (by omega)] at hn
      refine (concatenate_apply_piece (t := Cert.Reference2Ideal.S8192x22528) 1 _ _ (ix2 r q) 1 (by show 1 < 3; omega) Cert.Reference2Ideal.S8192x6144 (val_main_v6 (F := Ideal) x0 x1) rfl rfl 12288 rfl (ix2 r (⟨q.val - 12288, by omega⟩ : Fin 6144)) (fun b hb => ?_) ?_).trans ?_
      · match b with
        | ⟨0, _⟩ => rfl
        | ⟨1, _⟩ => exact absurd rfl hb
      · show 12288 + (q.val - 12288) = q.val; omega
      · rw [val_main_v6_apply]
        refine congrArg (val_main_v4 (F := Ideal) x0 x1) (funext fun a => Fin.ext ?_)
        match a with
        | ⟨0, _⟩ => rfl
        | ⟨1, _⟩ => show 12352 + (q.val - 12288) = n.val; omega
    · rw [if_neg (by omega)] at hn
      refine (concatenate_apply_piece (t := Cert.Reference2Ideal.S8192x22528) 1 _ _ (ix2 r q) 2 (by show 2 < 3; omega) Cert.Reference2Ideal.S8192x4096 (val_main_v7 (F := Ideal) x0 x1) rfl rfl 18432 rfl (ix2 r (⟨q.val - 18432, by omega⟩ : Fin 4096)) (fun b hb => ?_) ?_).trans ?_
      · match b with
        | ⟨0, _⟩ => rfl
        | ⟨1, _⟩ => exact absurd rfl hb
      · show 18432 + (q.val - 18432) = q.val; omega
      · rw [val_main_v7_apply]
        refine congrArg (val_main_v4 (F := Ideal) x0 x1) (funext fun a => Fin.ext ?_)
        match a with
        | ⟨0, _⟩ => rfl
        | ⟨1, _⟩ => show 18512 + (q.val - 18432) = n.val; omega

end Reference

/-- So what a grid point writes is its block of the reference's value. -/
theorem flushed (c : Dev nD) (t : Fin cfg0.N) : (dats m 0 c).flushed 3 t = ((cfg0.win 3).blk t).view.read (Elt Ideal) (wanted m c) := by
  have ht := point_lt t
  have hs := shift_le (t.val / 8)
  funext y
  let i : Fin 1024 := y 0
  let d : Fin 1024 := y 1
  have hi := i.isLt
  have hd := d.isLt
  have hy : y = ix2 i d := funext fun a => match a with | ⟨0, _⟩ => rfl | ⟨1, _⟩ => rfl
  let r : Fin 8192 := ⟨t.val % 8 * 1024 + i.val, by omega⟩
  let q : Fin 22528 := ⟨t.val / 8 * 1024 + d.val, by omega⟩
  let n : Fin 22608 := ⟨t.val / 8 * 1024 + d.val + shift (t.val / 8), by omega⟩
  have e := emb3_val t i d (ix2 r q) rfl rfl
  have hr : ((cfg0.win 3).blk t).view.read (Elt Ideal) (wanted m c) y = wanted m c (((cfg0.win 3).blk t).view.emb (ix2 i d)) :=
    congrArg (fun y => wanted m c (((cfg0.win 3).blk t).view.emb y)) hy
  rw [hr]
  refine Eq.trans ?_ (congrArg (wanted m c) e).symm
  refine Eq.trans ?_ ((segments_apply _ _ r q n (by
    show t.val / 8 * 1024 + d.val + shift (t.val / 8) = t.val / 8 * 1024 + d.val + shift ((t.val / 8 * 1024 + d.val) / 1024)
    rw [show (t.val / 8 * 1024 + d.val) / 1024 = t.val / 8 by omega])).trans (whole_apply _ _ r n)).symm
  refine (congrArg (product (F := Ideal) (xAt m c t) (tileAt m c t)) hy).trans ((product_apply _ _ i d).trans ?_)
  exact Finset.sum_congr rfl fun k _ => congrArg₂ (· * ·) (rows_apply m c t i k (ix2 r k) rfl rfl) (tileAt_apply m c t d k n rfl)

end Cert.Kernel2Ideal.Proj

namespace Cert.Proof

open Idealize.ShloMosaic Idealize.SL.Sem

/-- The idealized input projection and its idealized reference leave the same result. -/
theorem algebraic2 : Cert.algebraic_Kernel2Ideal_Reference2Ideal (hKernel2Ideal := Cert.Kernel2Ideal.Gen.facts)
    (hReference2Ideal := Cert.Reference2Ideal.Gen.facts) := fun m g m' g' _ hm => by
  refine ⟨fun c => Cert.Kernel2Ideal.Proj.wanted m c, (θ_run _ _ _).mono (fun r h c => ⟨?_, Cert.Kernel2Ideal.Proj.args_kept m r h.1 c⟩) (Cert.Kernel2Ideal.Proj.run m g),
    (θ_run _ _ _).mono (fun r h c => ⟨(h c).1.trans ?_, (h c).2⟩) (Cert.Reference2Ideal.Value.run m' g')⟩
  · refine (Cert.Kernel2Ideal.Proj.result_eq m r h.1 c).trans ?_
    exact (Cert.Kernel2Ideal.Proj.dats m 0 c).arrAt_eq_of_cover 3 (Cert.Kernel2Ideal.Proj.wanted m c) (fun t _ => Cert.Kernel2Ideal.Proj.flushed m c t) Cert.Kernel2Ideal.Proj.cover3
  · rw [Cert.Reference2Ideal.Read.val_main_v8_eq, (hm c).1, (hm c).2]

end Cert.Proof
-- ==== Proof.Gate.lean ====
module

public import Idealize.ShloMosaic.Lib.Pointwise

/-! The gate `x ↦ x · σ(x)`: the logistic function as a hyperbolic tangent of half the argument, and as a quotient. -/

@[expose] public section

noncomputable section

namespace Cert.Gate

open Idealize.ShloMosaic

/-- The gate, with the logistic function as a quotient. -/
def silu (x : EReal) : EReal := x * Ideal.div 1 (1 + Ideal.exp (-x))

theorem half : Ideal.ofBits .f32 0x3F000000#32 = ((2⁻¹ : ℝ) : EReal) := by
  simp [Ideal.ofBits, Ideal.ieee]
  norm_num
  rw [← EReal.coe_mul]
  norm_num

/-- Half the hyperbolic tangent of half the argument, plus a half, is the logistic function. -/
theorem logistic (r : ℝ) : 2⁻¹ * Real.tanh (2⁻¹ * r) + 2⁻¹ = 1 / (1 + Real.exp (-r)) := by
  have e : Real.exp (-r) = Real.exp (-(2⁻¹ * r)) * Real.exp (-(2⁻¹ * r)) := by rw [← Real.exp_add]; congr 1; ring
  have h := Real.exp_pos (2⁻¹ * r)
  have h' := Real.exp_pos (-(2⁻¹ * r))
  have p : Real.exp (2⁻¹ * r) * Real.exp (-(2⁻¹ * r)) = 1 := by rw [← Real.exp_add, add_neg_cancel, Real.exp_zero]
  rw [Real.tanh_eq_sinh_div_cosh, Real.sinh_eq, Real.cosh_eq, e]
  generalize Real.exp (2⁻¹ * r) = a at *
  generalize Real.exp (-(2⁻¹ * r)) = b at *
  have hb : b = a⁻¹ := eq_inv_of_mul_eq_one_right p
  subst hb
  field_simp
  ring

/-- The same of the extended reals. -/
theorem tanh_eq (x : EReal) : ((2⁻¹ : ℝ) : EReal) * Ideal.tanh (((2⁻¹ : ℝ) : EReal) * x) + ((2⁻¹ : ℝ) : EReal) = Ideal.div 1 (1 + Ideal.exp (-x)) := by
  induction x using EReal.rec with
  | bot =>
    rw [EReal.coe_mul_bot_of_pos (by norm_num), Ideal.tanh_bot, EReal.neg_bot, Ideal.exp_top, EReal.add_top_of_ne_bot (by decide)]
    unfold Ideal.div
    rw [if_neg (by decide), EReal.inv_top, mul_zero]
    rw [← EReal.coe_one, ← EReal.coe_neg, ← EReal.coe_mul, ← EReal.coe_add, ← EReal.coe_zero]
    norm_num
  | top =>
    rw [EReal.coe_mul_top_of_pos (by norm_num), Ideal.tanh_top, EReal.neg_top, Ideal.exp_bot, add_zero, ← EReal.coe_one, Ideal.div_coe one_ne_zero]
    exact_mod_cast (by norm_num : (2⁻¹ : ℝ) * 1 + 2⁻¹ = 1 * (1 / 1))
  | coe r =>
    have h := Real.exp_pos (-r)
    rw [← EReal.coe_mul, Ideal.tanh_coe, ← EReal.coe_neg, Ideal.exp_coe, ← EReal.coe_one, ← EReal.coe_add, Ideal.div_coe (by linarith)]
    exact_mod_cast (logistic r).trans (one_mul _).symm

end Cert.Gate
-- ==== Proof.Glu.lean ====
module

public import proofs.«01_k».proof.Defs
public import proofs.«01_k».proof.Proof.Gen.Kernel3Ideal.Value
public import proofs.«01_k».proof.Proof.Gen.Reference3Ideal.Read
public import proofs.«01_k».proof.Proof.Gate
public import Idealize.ShloMosaic.Lib.Pointwise

/-! The gated product of the feed-forward network: the kernel's, tile by tile, is the reference's. -/

@[expose] public section

set_option maxRecDepth 16384

noncomputable section

namespace Cert.Kernel3Ideal.Glu
open Cert.Kernel3Ideal.Gen Cert.Kernel3Ideal.Value

open Idealize.ShloMosaic Idealize.ShloMosaic.TcCoe Idealize.SL.Sem

/-- A tile of the weights, rounded, without its axis of one layer. -/
def rounded (w : Vec Ideal S1x2048x512 .f32) : Vec Ideal S2048x512 .bf16 := fun y => w (ix3 (0 : Fin 1) (y 0) (y 1))

/-- One of the slices in which the weights are rounded is that slice of the rounded tile. -/
theorem slice_apply (o : ℕ) (i3 : ∀ a, (![0, o, 0] : Fin 3 → ℕ) a + S1x256x512.size a ≤ S1x2048x512.size a)
    (i2 : ∀ a, (![o, 0] : Fin 2 → ℕ) a + S256x512.size a ≤ S2048x512.size a) (a3 : Memref sig .tc .vmem S1x2048x512 .f32) (h3 : a3.IsWhole)
    (w : Vec Ideal S1x2048x512 .f32) (j : S256x512.Idx) :
    k0_pay1 (F := Ideal) (a3.view.readAt (Elt Ideal) (Rect.unit (s := S1x2048x512) ![0, o, 0] S1x256x512.size i3).toLoadRect (h3.unread w)) j = rounded w ((Rect.unit (s := S2048x512) ![o, 0] S256x512.size i2).emb j) := by
  rw [View.readAt_eq_ld, h3.read_unread]
  unfold k0_pay1 rounded
  pointwise
  refine congrArg w (funext fun a => Fin.ext ?_)
  match a with
  | ⟨0, _⟩ => rfl
  | ⟨1, _⟩ => show o + (j 0).val = o + 1 * (j 0).val; omega
  | ⟨2, _⟩ => show (j 1).val = 0 + 1 * (j 1).val; omega

theorem hz : (![0, 0] : Fin 2 → Nat) = fun _ => 0 := funext fun a => by fin_cases a <;> rfl

/-- The slices a column tile's first point stores of the gate's weights. -/
theorem pieces_gate (c : Dev nD) (a3 : Memref sig .tc .vmem S1x2048x512 .f32) (h : a3.IsWhole) (w : Vec Ideal S1x2048x512 .f32) :
    ∀ p ∈ kernelRun0_A.sl.HS0_8 c a3 h w, ∀ j : p.1.shape.Idx, p.2 j = rounded w (p.1.emb j) := by
  intro p hp j
  unfold kernelRun0_A.sl.HS0_8 at hp
  simp only [List.mem_cons, List.mem_nil_iff, or_false] at hp
  rcases hp with rfl | rfl | rfl | rfl | rfl | rfl | rfl | rfl
  all_goals exact slice_apply _ (by decide) (by decide) a3 h w j

/-- The slices a column tile's first point stores of the up's weights. -/
theorem pieces_up (c : Dev nD) (a4 : Memref sig .tc .vmem S1x2048x512 .f32) (h : a4.IsWhole) (w : Vec Ideal S1x2048x512 .f32) :
    ∀ p ∈ kernelRun0_A.sl.HS1_8 c a4 h w, ∀ j : p.1.shape.Idx, p.2 j = rounded w (p.1.emb j) := by
  intro p hp j
  unfold kernelRun0_A.sl.HS1_8 at hp
  simp only [List.mem_cons, List.mem_nil_iff, or_false] at hp
  rcases hp with rfl | rfl | rfl | rfl | rfl | rfl | rfl | rfl
  all_goals exact slice_apply _ (by decide) (by decide) a4 h w j

theorem sout_A_0 (c : Dev nD) (i : grid0.Coords) (a2 : Memref sig .tc .vmem S1024x2048 .bf16) (h2 : a2.IsWhole) (a3 : Memref sig .tc .vmem S1x2048x512 .f32) (h3 : a3.IsWhole)
    (a4 : Memref sig .tc .vmem S1x2048x512 .f32) (h4 : a4.IsWhole) (a5 : Memref sig .tc .vmem S1024x512 .bf16) (h5 : a5.IsWhole)
    (a6 : Memref sig .tc .vmem S2048x512 .bf16) (h6 : a6.IsWhole) (a7 : Memref sig .tc .vmem S2048x512 .bf16) (h7 : a7.IsWhole) (hc : cond0_0 i) (hd : cond0_1 i)
    (x : Vec Ideal S1024x2048 .bf16) (w u : Vec Ideal S1x2048x512 .f32) : sout0_A_0 c i a2 h2 a3 h3 a4 h4 a5 h5 a6 h6 a7 h7 hc hd x w u = rounded w := by
  funext y
  unfold sout0_A_0
  exact View.read_writes_apply_of_pieces _ _ (rounded w) _ (pieces_gate c a3 h3 w) y (scover0_A_0 c i a2 h2 a3 h3 a4 h4 a5 h5 a6 h6 a7 h7 hc hd x w u y)

theorem sout_A_1 (c : Dev nD) (i : grid0.Coords) (a2 : Memref sig .tc .vmem S1024x2048 .bf16) (h2 : a2.IsWhole) (a3 : Memref sig .tc .vmem S1x2048x512 .f32) (h3 : a3.IsWhole)
    (a4 : Memref sig .tc .vmem S1x2048x512 .f32) (h4 : a4.IsWhole) (a5 : Memref sig .tc .vmem S1024x512 .bf16) (h5 : a5.IsWhole)
    (a6 : Memref sig .tc .vmem S2048x512 .bf16) (h6 : a6.IsWhole) (a7 : Memref sig .tc .vmem S2048x512 .bf16) (h7 : a7.IsWhole) (hc : cond0_0 i) (hd : cond0_1 i)
    (x : Vec Ideal S1024x2048 .bf16) (w u : Vec Ideal S1x2048x512 .f32) : sout0_A_1 c i a2 h2 a3 h3 a4 h4 a5 h5 a6 h6 a7 h7 hc hd x w u = rounded u := by
  funext y
  unfold sout0_A_1
  exact View.read_writes_apply_of_pieces _ _ (rounded u) _ (pieces_up c a4 h4 u) y (scover0_A_1 c i a2 h2 a3 h3 a4 h4 a5 h5 a6 h6 a7 h7 hc hd x w u y)

theorem out_A (c : Dev nD) (i : grid0.Coords) (a2 : Memref sig .tc .vmem S1024x2048 .bf16) (h2 : a2.IsWhole) (a3 : Memref sig .tc .vmem S1x2048x512 .f32) (h3 : a3.IsWhole)
    (a4 : Memref sig .tc .vmem S1x2048x512 .f32) (h4 : a4.IsWhole) (a5 : Memref sig .tc .vmem S1024x512 .bf16) (h5 : a5.IsWhole)
    (a6 : Memref sig .tc .vmem S2048x512 .bf16) (h6 : a6.IsWhole) (a7 : Memref sig .tc .vmem S2048x512 .bf16) (h7 : a7.IsWhole) (hc : cond0_0 i) (hd : cond0_1 i)
    (x : Vec Ideal S1024x2048 .bf16) (w u : Vec Ideal S1x2048x512 .f32) : out0_A_3 c i a2 h2 a3 h3 a4 h4 a5 h5 a6 h6 a7 h7 hc hd x w u = k0_pay7 x (rounded w) (rounded u) := by
  unfold out0_A_3
  rw [View.read_writes_junk_eq_canon]
  unfold kernelRun0_A
  dsimp only
  have hs : kernelRun0_A.sl.v7 c a3 h3 a6 w = rounded w := by
    unfold kernelRun0_A.sl.v7
    rw [View.readCov_eq_canon']
    refine funext fun y => (View.canon_apply_of_pieces (rounded w) _ (pieces_gate c a3 h3 w) _ (scover0_A_0 c i a2 h2 a3 h3 a4 h4 a5 h5 a6 h6 a7 h7 hc hd x w u _)).trans ?_
    exact congrFun (View.ld_unit_zero hz inb_S2048x512_S2048x512_0_0 (rounded w)) y
  have hs' : kernelRun0_A.sl.v9 c a4 h4 a7 u = rounded u := by
    unfold kernelRun0_A.sl.v9
    rw [View.readCov_eq_canon']
    refine funext fun y => (View.canon_apply_of_pieces (rounded u) _ (pieces_up c a4 h4 u) _ (scover0_A_1 c i a2 h2 a3 h3 a4 h4 a5 h5 a6 h6 a7 h7 hc hd x w u _)).trans ?_
    exact congrFun (View.ld_unit_zero hz inb_S2048x512_S2048x512_0_0 (rounded u)) y
  rw [View.canon_unit_zero hz, hs, hs', View.readAt_eq_ld, h2.read_unread, View.ld_unit_zero hz]

theorem out_B (c : Dev nD) (i : grid0.Coords) (a2 : Memref sig .tc .vmem S1024x2048 .bf16) (h2 : a2.IsWhole) (a3 : Memref sig .tc .vmem S1x2048x512 .f32) (h3 : a3.IsWhole)
    (a4 : Memref sig .tc .vmem S1x2048x512 .f32) (h4 : a4.IsWhole) (a5 : Memref sig .tc .vmem S1024x512 .bf16) (h5 : a5.IsWhole)
    (a6 : Memref sig .tc .vmem S2048x512 .bf16) (h6 : a6.IsWhole) (a7 : Memref sig .tc .vmem S2048x512 .bf16) (h7 : a7.IsWhole) (hc : ¬cond0_0 i) (hd : ¬cond0_1 i)
    (x : Vec Ideal S1024x2048 .bf16) (w u : Vec Ideal S1x2048x512 .f32) (s s' : Vec Ideal S2048x512 .bf16) :
    out0_B_3 c i a2 h2 a3 h3 a4 h4 a5 h5 a6 h6 a7 h7 hc hd x w u s s' = k0_pay7 x s s' := by
  unfold out0_B_3
  rw [View.read_writes_junk_eq_canon]
  unfold kernelRun0_B
  dsimp only
  rw [View.canon_unit_zero hz, View.readAt_eq_ld, View.readAt_eq_ld, View.readAt_eq_ld, h2.read_unread, h6.read_unread, h7.read_unread,
    View.ld_unit_zero hz, View.ld_unit_zero hz, View.ld_unit_zero hz]

/-- Point `t` of the grid is column tile `t / 8` and row tile `t % 8`; each window's block index there. -/
theorem index0 : ∀ t : Fin cfg0.N, win0_0.index t (0 : Fin 2) = t.val % 8 ∧ win0_0.index t (1 : Fin 2) = 0 :=
  (by decide +kernel : ∀ t : Fin grid0.N, _)
@[inherit_doc index0] theorem index1 : ∀ t : Fin cfg0.N, win0_1.index t (0 : Fin 3) = 0 ∧ win0_1.index t (1 : Fin 3) = 0 ∧ win0_1.index t (2 : Fin 3) = t.val / 8 :=
  (by decide +kernel : ∀ t : Fin grid0.N, _)
@[inherit_doc index0] theorem index2 : ∀ t : Fin cfg0.N, win0_2.index t (0 : Fin 3) = 0 ∧ win0_2.index t (1 : Fin 3) = 0 ∧ win0_2.index t (2 : Fin 3) = t.val / 8 :=
  (by decide +kernel : ∀ t : Fin grid0.N, _)
@[inherit_doc index0] theorem index3 : ∀ t : Fin cfg0.N, win0_3.index t (0 : Fin 2) = t.val % 8 ∧ win0_3.index t (1 : Fin 2) = t.val / 8 :=
  (by decide +kernel : ∀ t : Fin grid0.N, _)

variable (m : (ℓ : Loc nD τ sig) → Buf (Elt Ideal) ℓ)

theorem rows_apply (c : Dev nD) (t : Fin cfg0.N) (i : Fin 1024) (k : Fin 2048) (j : S8192x2048.Idx)
    (h0 : (j 0).val = t.val % 8 * 1024 + i.val) (h1 : (j 1).val = k.val) :
    iblk m c 0 t (ix2 i k) = m ((c.tc : Thread nD τ).loc main_arg0) j := by
  obtain ⟨e0, e1⟩ := index0 t
  refine (show iblk m c 0 t (ix2 i k) = V m c main_arg0 (((cfg0.win 0).blk t).view.emb (ix2 i k)) from rfl).trans ?_
  rw [V_main_arg0]
  refine congrArg (m ((c.tc : Thread nD τ).loc main_arg0)) (funext fun a => Fin.ext ?_)
  match a with
  | ⟨0, _⟩ => show win0_0.index t (0 : Fin 2) * 1024 + 1 * i.val = (j 0).val; omega
  | ⟨1, _⟩ => show win0_0.index t (1 : Fin 2) * 2048 + 1 * k.val = (j 1).val; omega

theorem gate_apply (c : Dev nD) (t : Fin cfg0.N) (k : Fin 2048) (d : Fin 512) (j : S4x2048x5632.Idx)
    (h0 : (j 0).val = 0) (h1 : (j 1).val = k.val) (h2 : (j 2).val = t.val / 8 * 512 + d.val) :
    iblk m c 1 t (ix3 0 k d) = m ((c.tc : Thread nD τ).loc main_arg1) j := by
  obtain ⟨e0, e1, e2⟩ := index1 t
  refine (show iblk m c 1 t (ix3 0 k d) = V m c main_arg1 (((cfg0.win 1).blk t).view.emb (ix3 0 k d)) from rfl).trans ?_
  rw [V_main_arg1]
  refine congrArg (m ((c.tc : Thread nD τ).loc main_arg1)) (funext fun a => Fin.ext ?_)
  match a with
  | ⟨0, _⟩ => show win0_1.index t (0 : Fin 3) * 1 + 1 * 0 = (j 0).val; omega
  | ⟨1, _⟩ => show win0_1.index t (1 : Fin 3) * 2048 + 1 * k.val = (j 1).val; omega
  | ⟨2, _⟩ => show win0_1.index t (2 : Fin 3) * 512 + 1 * d.val = (j 2).val; omega

/-- The points of one column tile are given the same tile of these weights. -/
theorem gate_same (c : Dev nD) (t s : Fin cfg0.N) (h : t.val / 8 = s.val / 8) : rounded (iblk m c 1 t) = rounded (iblk m c 1 s) := by
  have ht : t.val < 88 := t.isLt
  funext y
  let k : Fin 2048 := y 0
  let d : Fin 512 := y 1
  have hk := k.isLt
  have hd := d.isLt
  have e := gate_apply m c t k d (ix3 (0 : Fin 4) k (⟨t.val / 8 * 512 + d.val, by omega⟩ : Fin 5632)) rfl rfl rfl
  have e' := gate_apply m c s k d (ix3 (0 : Fin 4) k (⟨t.val / 8 * 512 + d.val, by omega⟩ : Fin 5632)) rfl rfl (by show t.val / 8 * 512 + d.val = _; omega)
  exact e.trans e'.symm

theorem up_apply (c : Dev nD) (t : Fin cfg0.N) (k : Fin 2048) (d : Fin 512) (j : S4x2048x5632.Idx)
    (h0 : (j 0).val = 0) (h1 : (j 1).val = k.val) (h2 : (j 2).val = t.val / 8 * 512 + d.val) :
    iblk m c 2 t (ix3 0 k d) = m ((c.tc : Thread nD τ).loc main_arg2) j := by
  obtain ⟨e0, e1, e2⟩ := index2 t
  refine (show iblk m c 2 t (ix3 0 k d) = V m c main_arg2 (((cfg0.win 2).blk t).view.emb (ix3 0 k d)) from rfl).trans ?_
  rw [V_main_arg2]
  refine congrArg (m ((c.tc : Thread nD τ).loc main_arg2)) (funext fun a => Fin.ext ?_)
  match a with
  | ⟨0, _⟩ => show win0_2.index t (0 : Fin 3) * 1 + 1 * 0 = (j 0).val; omega
  | ⟨1, _⟩ => show win0_2.index t (1 : Fin 3) * 2048 + 1 * k.val = (j 1).val; omega
  | ⟨2, _⟩ => show win0_2.index t (2 : Fin 3) * 512 + 1 * d.val = (j 2).val; omega

/-- The points of one column tile are given the same tile of these weights. -/
theorem up_same (c : Dev nD) (t s : Fin cfg0.N) (h : t.val / 8 = s.val / 8) : rounded (iblk m c 2 t) = rounded (iblk m c 2 s) := by
  have ht : t.val < 88 := t.isLt
  funext y
  let k : Fin 2048 := y 0
  let d : Fin 512 := y 1
  have hk := k.isLt
  have hd := d.isLt
  have e := up_apply m c t k d (ix3 (0 : Fin 4) k (⟨t.val / 8 * 512 + d.val, by omega⟩ : Fin 5632)) rfl rfl rfl
  have e' := up_apply m c s k d (ix3 (0 : Fin 4) k (⟨t.val / 8 * 512 + d.val, by omega⟩ : Fin 5632)) rfl rfl (by show t.val / 8 * 512 + d.val = _; omega)
  exact e.trans e'.symm

/-- Where the block of the result lies in the result. -/
theorem emb3_val (t : Fin cfg0.N) (i : Fin 1024) (d : Fin 512) (j : S8192x5632.Idx)
    (h0 : (j 0).val = t.val % 8 * 1024 + i.val) (h1 : (j 1).val = t.val / 8 * 512 + d.val) :
    ((cfg0.win 3).blk t).view.emb (ix2 i d) = j := by
  obtain ⟨e0, e1⟩ := index3 t
  refine funext fun a => Fin.ext ?_
  match a with
  | ⟨0, _⟩ => show win0_3.index t (0 : Fin 2) * 1024 + 1 * i.val = (j 0).val; omega
  | ⟨1, _⟩ => show win0_3.index t (1 : Fin 2) * 512 + 1 * d.val = (j 1).val; omega

/-- What every point leaves: the gated product of its rows with its two tiles of weights, and those tiles, rounded. -/
theorem outs (c : Dev nD) : ∀ (n : ℕ) (hn : n < cfg0.N), outsAt0 m c n hn
    = (k0_pay7 (iblk m c 0 ⟨n, hn⟩) (rounded (iblk m c 1 ⟨n, hn⟩)) (rounded (iblk m c 2 ⟨n, hn⟩)), rounded (iblk m c 1 ⟨n, hn⟩), rounded (iblk m c 2 ⟨n, hn⟩)) := by
  intro n
  induction n with
  | zero =>
    intro hn
    refine (outsAt0_A m c ⟨0, hn⟩ rfl rfl).trans ?_
    rw [out_A, sout_A_0, sout_A_1]
  | succ n ih =>
    intro hn
    by_cases h : (n + 1) % 8 = 0
    · refine (outsAt0_A m c ⟨n + 1, hn⟩ h h).trans ?_
      rw [out_A, sout_A_0, sout_A_1]
    · have e := gate_same m c ⟨n, Nat.lt_of_succ_lt hn⟩ ⟨n + 1, hn⟩ (by show n / 8 = (n + 1) / 8; omega)
      have f := up_same m c ⟨n, Nat.lt_of_succ_lt hn⟩ ⟨n + 1, hn⟩ (by show n / 8 = (n + 1) / 8; omega)
      have e' : (outsAt0 m c n (Nat.lt_of_succ_lt hn)).2.1 = rounded (iblk m c 1 ⟨n + 1, hn⟩) := by rw [ih, ← e]
      have f' : (outsAt0 m c n (Nat.lt_of_succ_lt hn)).2.2 = rounded (iblk m c 2 ⟨n + 1, hn⟩) := by rw [ih, ← f]
      refine (outsAt0_B m c ⟨n + 1, hn⟩ h h).trans ?_
      rw [out_B]
      unfold sout0_B_0 sout0_B_1
      show (k0_pay7 (iblk m c 0 ⟨n + 1, hn⟩) (outsAt0 m c n (Nat.lt_of_succ_lt hn)).2.1 (outsAt0 m c n (Nat.lt_of_succ_lt hn)).2.2,
        (outsAt0 m c n (Nat.lt_of_succ_lt hn)).2.1, (outsAt0 m c n (Nat.lt_of_succ_lt hn)).2.2) = _
      rw [e', f']

/-- The gated product of a block of rows with two tiles of weights, at an element. -/
theorem product_apply (x : Vec Ideal S1024x2048 .bf16) (w u : Vec Ideal S2048x512 .bf16) (i : Fin 1024) (d : Fin 512) :
    k0_pay7 (F := Ideal) x w u (ix2 i d) = Cert.Gate.silu (∑ k : Fin 2048, x (ix2 i k) * w (ix2 k d)) * ∑ k : Fin 2048, x (ix2 i k) * u (ix2 k d) := by
  unfold k0_pay7
  pointwise
  rw [Cert.Gate.half, Cert.Gate.tanh_eq]
  rfl

/-- What the result is shown to hold: the reference's value. -/
abbrev wanted (c : Dev nD) : Buf (Elt Ideal) ((c.tc : Thread nD τ).loc main_v0) :=
  Cert.Reference3Ideal.Read.val_main_v10 (F := Ideal) (m ((c.tc : Thread nD τ).loc main_arg0)) (m ((c.tc : Thread nD τ).loc main_arg1)) (m ((c.tc : Thread nD τ).loc main_arg2))

open Cert.Reference3Ideal.Read in
theorem wanted_apply (x0 : FVec Ideal S8192x2048 .bf16) (x1 x2 : FVec Ideal S4x2048x5632 .f32) (r : Fin 8192) (q : Fin 5632) :
    val_main_v10 (F := Ideal) x0 x1 x2 (ix2 r q)
      = Cert.Gate.silu (∑ k : Fin 2048, x0 (ix2 r k) * x1 (ix3 (0 : Fin 4) k q)) * ∑ k : Fin 2048, x0 (ix2 r k) * x2 (ix3 (0 : Fin 4) k q) := by
  unfold val_main_v10 val_main_v9 val_main_v8 val_main_call0_v5 val_main_call0_v4 val_main_call0_cst_0 val_main_call0_v3 val_main_call0_v2 val_main_call0_cst
    val_main_call0_v1 val_main_call0_v0 val_main_v3 val_main_v7 val_main_v6 val_main_v5 val_main_v4 val_main_v2 val_main_v1 val_main_v0
  pointwise
  rfl

theorem flushed (c : Dev nD) (t : Fin cfg0.N) : (dats m 0 c).flushed 3 t = ((cfg0.win 3).blk t).view.read (Elt Ideal) (wanted m c) := by
  have ht : t.val < 88 := t.isLt
  funext y
  let i : Fin 1024 := y 0
  let d : Fin 512 := y 1
  have hi := i.isLt
  have hd := d.isLt
  have hy : y = ix2 i d := funext fun a => match a with | ⟨0, _⟩ => rfl | ⟨1, _⟩ => rfl
  let r : Fin 8192 := ⟨t.val % 8 * 1024 + i.val, by omega⟩
  let q : Fin 5632 := ⟨t.val / 8 * 512 + d.val, by omega⟩
  have e := emb3_val t i d (ix2 r q) rfl rfl
  have hr : ((cfg0.win 3).blk t).view.read (Elt Ideal) (wanted m c) y = wanted m c (((cfg0.win 3).blk t).view.emb (ix2 i d)) :=
    congrArg (fun y => wanted m c (((cfg0.win 3).blk t).view.emb y)) hy
  rw [hr]
  refine Eq.trans ?_ (congrArg (wanted m c) e).symm
  refine Eq.trans ?_ (wanted_apply _ _ _ r q).symm
  rw [flushed3, outs]
  refine (congrArg (k0_pay7 (F := Ideal) (iblk m c 0 t) (rounded (iblk m c 1 t)) (rounded (iblk m c 2 t))) hy).trans ((product_apply _ _ _ i d).trans ?_)
  refine congrArg₂ (fun a b => Cert.Gate.silu a * b) (Finset.sum_congr rfl fun k _ => congrArg₂ (· * ·) (rows_apply m c t i k (ix2 r k) rfl rfl) ?_)
    (Finset.sum_congr rfl fun k _ => congrArg₂ (· * ·) (rows_apply m c t i k (ix2 r k) rfl rfl) ?_)
  · exact gate_apply m c t k d (ix3 (0 : Fin 4) k q) rfl rfl rfl
  · exact up_apply m c t k d (ix3 (0 : Fin 4) k q) rfl rfl rfl

theorem result (c : Dev nD) : G3 m c = wanted m c := by
  refine (final3 m c).symm.trans ((dats m 0 c).arrAt_eq_of_cover 3 (wanted m c) (fun t _ => flushed m c t) (fun i => (covered_iff3 i).2 ?_))
  have h0 : (i 0).val < 8192 := (i 0).isLt
  have h1 : (i 1).val < 5632 := (i 1).isLt
  omega

end Cert.Kernel3Ideal.Glu

namespace Cert.Proof

open Idealize.ShloMosaic Idealize.SL.Sem

/-- The idealized gated product and its idealized reference leave the same result. -/
theorem algebraic3 : Cert.algebraic_Kernel3Ideal_Reference3Ideal (hKernel3Ideal := Cert.Kernel3Ideal.Gen.facts)
    (hReference3Ideal := Cert.Reference3Ideal.Gen.facts) := fun m g m' g' _ hm => by
  refine ⟨fun c => Cert.Kernel3Ideal.Glu.wanted m c, (θ_run _ _ _).mono (fun r h c => ⟨(h c).1.trans (Cert.Kernel3Ideal.Glu.result m c), (h c).2⟩) (Cert.Kernel3Ideal.Value.run m g),
    (θ_run _ _ _).mono (fun r h c => ⟨(h c).1.trans ?_, (h c).2⟩) (Cert.Reference3Ideal.Value.run m' g')⟩
  rw [Cert.Reference3Ideal.Read.val_main_v10_eq, (hm c).1, (hm c).2.1, (hm c).2.2]

end Cert.Proof
-- ==== Proof.Down.lean ====
module

public import proofs.«01_k».proof.Proof.Gen.Kernel4Ideal.Value
public import proofs.«01_k».proof.Proof.Gen.Reference4Ideal.Read
public import proofs.«01_k».proof.Defs
public import Idealize.ShloMosaic.Lib.Pointwise

/-! The down projection: the kernel's product, tile by tile, is the reference's. -/

@[expose] public section

set_option maxRecDepth 16384

noncomputable section

namespace Cert.Kernel4Ideal.Down
open Cert.Kernel4Ideal.Gen Cert.Kernel4Ideal.Value

open Idealize.ShloMosaic Idealize.ShloMosaic.TcCoe Idealize.SL.Sem

/-- A tile of the weights, rounded, without its axis of one layer. -/
def rounded (w : Vec Ideal S1x5632x512 .f32) : Vec Ideal S5632x512 .bf16 := fun y => w (ix3 (0 : Fin 1) (y 0) (y 1))

/-- One of the slices in which the weights are rounded is that slice of the rounded tile. -/
theorem slice_apply (o : ℕ) (i3 : ∀ a, (![0, o, 0] : Fin 3 → ℕ) a + S1x256x512.size a ≤ S1x5632x512.size a)
    (i2 : ∀ a, (![o, 0] : Fin 2 → ℕ) a + S256x512.size a ≤ S5632x512.size a) (a3 : Memref sig .tc .vmem S1x5632x512 .f32) (h3 : a3.IsWhole)
    (w : Vec Ideal S1x5632x512 .f32) (j : S256x512.Idx) :
    k0_pay4 (F := Ideal) (a3.view.readAt (Elt Ideal) (Rect.unit (s := S1x5632x512) ![0, o, 0] S1x256x512.size i3).toLoadRect (h3.unread w)) j = rounded w ((Rect.unit (s := S5632x512) ![o, 0] S256x512.size i2).emb j) := by
  rw [View.readAt_eq_ld, h3.read_unread]
  unfold k0_pay4 rounded
  pointwise
  refine congrArg w (funext fun a => Fin.ext ?_)
  match a with
  | ⟨0, _⟩ => rfl
  | ⟨1, _⟩ => show o + (j 0).val = o + 1 * (j 0).val; omega
  | ⟨2, _⟩ => show (j 1).val = 0 + 1 * (j 1).val; omega

/-- The slices a column tile's first point stores. -/
theorem pieces (c : Dev nD) (a3 : Memref sig .tc .vmem S1x5632x512 .f32) (h3 : a3.IsWhole) (w : Vec Ideal S1x5632x512 .f32) :
    ∀ p ∈ kernelRun0_A.sl.HS0_22 c a3 h3 w, ∀ j : p.1.shape.Idx, p.2 j = rounded w (p.1.emb j) := by
  intro p hp j
  unfold kernelRun0_A.sl.HS0_22 at hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl
  all_goals exact slice_apply _ (by decide) (by decide) a3 h3 w j

theorem sout_A (c : Dev nD) (i : grid0.Coords) (a2 : Memref sig .tc .vmem S512x5632 .bf16) (h2 : a2.IsWhole) (a3 : Memref sig .tc .vmem S1x5632x512 .f32) (h3 : a3.IsWhole)
    (a4 : Memref sig .tc .vmem S512x512 .f32) (h4 : a4.IsWhole) (a5 : Memref sig .tc .vmem S5632x512 .bf16) (h5 : a5.IsWhole) (hc : cond0_0 i)
    (x : Vec Ideal S512x5632 .bf16) (w : Vec Ideal S1x5632x512 .f32) : sout0_A_0 c i a2 h2 a3 h3 a4 h4 a5 h5 hc x w = rounded w := by
  funext y
  unfold sout0_A_0
  exact View.read_writes_apply_of_pieces _ _ (rounded w) _ (pieces c a3 h3 w) y (scover0_A_0 c i a2 h2 a3 h3 a4 h4 a5 h5 hc x w y)

theorem hz : (![0, 0] : Fin 2 → Nat) = fun _ => 0 := funext fun a => by fin_cases a <;> rfl

theorem out_A (c : Dev nD) (i : grid0.Coords) (a2 : Memref sig .tc .vmem S512x5632 .bf16) (h2 : a2.IsWhole) (a3 : Memref sig .tc .vmem S1x5632x512 .f32) (h3 : a3.IsWhole)
    (a4 : Memref sig .tc .vmem S512x512 .f32) (h4 : a4.IsWhole) (a5 : Memref sig .tc .vmem S5632x512 .bf16) (h5 : a5.IsWhole) (hc : cond0_0 i)
    (x : Vec Ideal S512x5632 .bf16) (w : Vec Ideal S1x5632x512 .f32) : out0_A_2 c i a2 h2 a3 h3 a4 h4 a5 h5 hc x w = k0_pay3 x (rounded w) := by
  unfold out0_A_2
  rw [View.read_writes_junk_eq_canon]
  unfold kernelRun0_A
  dsimp only
  have hs : kernelRun0_A.sl.v4 c a3 h3 a5 w = rounded w := by
    unfold kernelRun0_A.sl.v4
    rw [View.readCov_eq_canon']
    refine funext fun y => (View.canon_apply_of_pieces (rounded w) _ (pieces c a3 h3 w) _ (scover0_A_0 c i a2 h2 a3 h3 a4 h4 a5 h5 hc x w _)).trans ?_
    exact congrFun (View.ld_unit_zero hz inb_S5632x512_S5632x512_0_0 (rounded w)) y
  rw [View.canon_unit_zero hz, hs, View.readAt_eq_ld, h2.read_unread, View.ld_unit_zero hz]

theorem out_B (c : Dev nD) (i : grid0.Coords) (a2 : Memref sig .tc .vmem S512x5632 .bf16) (h2 : a2.IsWhole) (a3 : Memref sig .tc .vmem S1x5632x512 .f32) (h3 : a3.IsWhole)
    (a4 : Memref sig .tc .vmem S512x512 .f32) (h4 : a4.IsWhole) (a5 : Memref sig .tc .vmem S5632x512 .bf16) (h5 : a5.IsWhole) (hc : ¬cond0_0 i)
    (x : Vec Ideal S512x5632 .bf16) (w : Vec Ideal S1x5632x512 .f32) (s : Vec Ideal S5632x512 .bf16) : out0_B_2 c i a2 h2 a3 h3 a4 h4 a5 h5 hc x w s = k0_pay3 x s := by
  unfold out0_B_2
  rw [View.read_writes_junk_eq_canon]
  unfold kernelRun0_B
  dsimp only
  rw [View.canon_unit_zero hz, View.readAt_eq_ld, View.readAt_eq_ld, h2.read_unread, h5.read_unread, View.ld_unit_zero hz, View.ld_unit_zero hz]

/-- Point `t` of the grid is column tile `t / 16` and row tile `t % 16`; each window's block index there. -/
theorem index0 : ∀ t : Fin cfg0.N, win0_0.index t (0 : Fin 2) = t.val % 16 ∧ win0_0.index t (1 : Fin 2) = 0 :=
  (by decide +kernel : ∀ t : Fin grid0.N, _)
@[inherit_doc index0] theorem index1 : ∀ t : Fin cfg0.N, win0_1.index t (0 : Fin 3) = 0 ∧ win0_1.index t (1 : Fin 3) = 0 ∧ win0_1.index t (2 : Fin 3) = t.val / 16 :=
  (by decide +kernel : ∀ t : Fin grid0.N, _)
@[inherit_doc index0] theorem index2 : ∀ t : Fin cfg0.N, win0_2.index t (0 : Fin 2) = t.val % 16 ∧ win0_2.index t (1 : Fin 2) = t.val / 16 :=
  (by decide +kernel : ∀ t : Fin grid0.N, _)

variable (m : (ℓ : Loc nD τ sig) → Buf (Elt Ideal) ℓ)

theorem rows_apply (c : Dev nD) (t : Fin cfg0.N) (i : Fin 512) (k : Fin 5632) (j : S8192x5632.Idx)
    (h0 : (j 0).val = t.val % 16 * 512 + i.val) (h1 : (j 1).val = k.val) :
    iblk m c 0 t (ix2 i k) = m ((c.tc : Thread nD τ).loc main_arg0) j := by
  obtain ⟨e0, e1⟩ := index0 t
  refine (show iblk m c 0 t (ix2 i k) = V m c main_arg0 (((cfg0.win 0).blk t).view.emb (ix2 i k)) from rfl).trans ?_
  rw [V_main_arg0]
  refine congrArg (m ((c.tc : Thread nD τ).loc main_arg0)) (funext fun a => Fin.ext ?_)
  match a with
  | ⟨0, _⟩ => show win0_0.index t (0 : Fin 2) * 512 + 1 * i.val = (j 0).val; omega
  | ⟨1, _⟩ => show win0_0.index t (1 : Fin 2) * 5632 + 1 * k.val = (j 1).val; omega

theorem weights_apply (c : Dev nD) (t : Fin cfg0.N) (k : Fin 5632) (d : Fin 512) (j : S4x5632x2048.Idx)
    (h0 : (j 0).val = 0) (h1 : (j 1).val = k.val) (h2 : (j 2).val = t.val / 16 * 512 + d.val) :
    iblk m c 1 t (ix3 0 k d) = m ((c.tc : Thread nD τ).loc main_arg1) j := by
  obtain ⟨e0, e1, e2⟩ := index1 t
  refine (show iblk m c 1 t (ix3 0 k d) = V m c main_arg1 (((cfg0.win 1).blk t).view.emb (ix3 0 k d)) from rfl).trans ?_
  rw [V_main_arg1]
  refine congrArg (m ((c.tc : Thread nD τ).loc main_arg1)) (funext fun a => Fin.ext ?_)
  match a with
  | ⟨0, _⟩ => show win0_1.index t (0 : Fin 3) * 1 + 1 * 0 = (j 0).val; omega
  | ⟨1, _⟩ => show win0_1.index t (1 : Fin 3) * 5632 + 1 * k.val = (j 1).val; omega
  | ⟨2, _⟩ => show win0_1.index t (2 : Fin 3) * 512 + 1 * d.val = (j 2).val; omega

/-- Where the block of the result lies in the result. -/
theorem emb2_val (t : Fin cfg0.N) (i : Fin 512) (d : Fin 512) (j : S8192x2048.Idx)
    (h0 : (j 0).val = t.val % 16 * 512 + i.val) (h1 : (j 1).val = t.val / 16 * 512 + d.val) :
    ((cfg0.win 2).blk t).view.emb (ix2 i d) = j := by
  obtain ⟨e0, e1⟩ := index2 t
  refine funext fun a => Fin.ext ?_
  match a with
  | ⟨0, _⟩ => show win0_2.index t (0 : Fin 2) * 512 + 1 * i.val = (j 0).val; omega
  | ⟨1, _⟩ => show win0_2.index t (1 : Fin 2) * 512 + 1 * d.val = (j 1).val; omega

/-- The points of one column tile are given the same tile of the weights. -/
theorem weights_same (c : Dev nD) (t s : Fin cfg0.N) (h : t.val / 16 = s.val / 16) : rounded (iblk m c 1 t) = rounded (iblk m c 1 s) := by
  have ht : t.val < 64 := t.isLt
  funext y
  let k : Fin 5632 := y 0
  let d : Fin 512 := y 1
  have hk := k.isLt
  have hd := d.isLt
  have e := weights_apply m c t k d (ix3 (0 : Fin 4) k (⟨t.val / 16 * 512 + d.val, by omega⟩ : Fin 2048)) rfl rfl rfl
  have e' := weights_apply m c s k d (ix3 (0 : Fin 4) k (⟨t.val / 16 * 512 + d.val, by omega⟩ : Fin 2048)) rfl rfl (by show t.val / 16 * 512 + d.val = _; omega)
  exact e.trans e'.symm

/-- What every point leaves: its rows times its tile of the weights, and that tile, rounded. -/
theorem outs (c : Dev nD) : ∀ (n : ℕ) (hn : n < cfg0.N), outsAt0 m c n hn
    = (k0_pay3 (iblk m c 0 ⟨n, hn⟩) (rounded (iblk m c 1 ⟨n, hn⟩)), rounded (iblk m c 1 ⟨n, hn⟩)) := by
  intro n
  induction n with
  | zero =>
    intro hn
    refine (outsAt0_A m c ⟨0, hn⟩ rfl).trans ?_
    rw [out_A, sout_A]
  | succ n ih =>
    intro hn
    by_cases h : (n + 1) % 16 = 0
    · refine (outsAt0_A m c ⟨n + 1, hn⟩ h).trans ?_
      rw [out_A, sout_A]
    · have e := weights_same m c ⟨n, Nat.lt_of_succ_lt hn⟩ ⟨n + 1, hn⟩ (by show n / 16 = (n + 1) / 16; omega)
      have e' : (outsAt0 m c n (Nat.lt_of_succ_lt hn)).2 = rounded (iblk m c 1 ⟨n + 1, hn⟩) := by rw [ih, ← e]
      refine (outsAt0_B m c ⟨n + 1, hn⟩ h).trans ?_
      rw [out_B]
      unfold sout0_B_0
      show (k0_pay3 (iblk m c 0 ⟨n + 1, hn⟩) (outsAt0 m c n (Nat.lt_of_succ_lt hn)).2, (outsAt0 m c n (Nat.lt_of_succ_lt hn)).2) = _
      rw [e']

/-- The product of a block of rows with a tile of the weights, at an element. -/
theorem product_apply (x : Vec Ideal S512x5632 .bf16) (w : Vec Ideal S5632x512 .bf16) (i : Fin 512) (d : Fin 512) :
    k0_pay3 (F := Ideal) x w (ix2 i d) = ∑ k : Fin 5632, x (ix2 i k) * w (ix2 k d) := by
  unfold k0_pay3
  pointwise

/-- What the result is shown to hold: the reference's value. -/
abbrev wanted (c : Dev nD) : Buf (Elt Ideal) ((c.tc : Thread nD τ).loc main_v0) :=
  Cert.Reference4Ideal.Read.val_main_v3 (F := Ideal) (m ((c.tc : Thread nD τ).loc main_arg0)) (m ((c.tc : Thread nD τ).loc main_arg1))

theorem wanted_apply (x0 : FVec Ideal S8192x5632 .bf16) (x1 : FVec Ideal S4x5632x2048 .f32) (r : Fin 8192) (q : Fin 2048) :
    Cert.Reference4Ideal.Read.val_main_v3 (F := Ideal) x0 x1 (ix2 r q) = ∑ k : Fin 5632, x0 (ix2 r k) * x1 (ix3 (0 : Fin 4) k q) := by
  unfold Cert.Reference4Ideal.Read.val_main_v3 Cert.Reference4Ideal.Read.val_main_v2 Cert.Reference4Ideal.Read.val_main_v1 Cert.Reference4Ideal.Read.val_main_v0
  pointwise

theorem flushed (c : Dev nD) (t : Fin cfg0.N) : (dats m 0 c).flushed 2 t = ((cfg0.win 2).blk t).view.read (Elt Ideal) (wanted m c) := by
  have ht : t.val < 64 := t.isLt
  funext y
  let i : Fin 512 := y 0
  let d : Fin 512 := y 1
  have hi := i.isLt
  have hd := d.isLt
  have hy : y = ix2 i d := funext fun a => match a with | ⟨0, _⟩ => rfl | ⟨1, _⟩ => rfl
  let r : Fin 8192 := ⟨t.val % 16 * 512 + i.val, by omega⟩
  let q : Fin 2048 := ⟨t.val / 16 * 512 + d.val, by omega⟩
  have e := emb2_val t i d (ix2 r q) rfl rfl
  have hr : ((cfg0.win 2).blk t).view.read (Elt Ideal) (wanted m c) y = wanted m c (((cfg0.win 2).blk t).view.emb (ix2 i d)) :=
    congrArg (fun y => wanted m c (((cfg0.win 2).blk t).view.emb y)) hy
  rw [hr]
  refine Eq.trans ?_ (congrArg (wanted m c) e).symm
  refine Eq.trans ?_ (wanted_apply _ _ r q).symm
  rw [flushed2, outs]
  refine (congrArg (k0_pay3 (F := Ideal) (iblk m c 0 t) (rounded (iblk m c 1 t))) hy).trans ((product_apply _ _ i d).trans ?_)
  refine Finset.sum_congr rfl fun k _ => congrArg₂ (· * ·) (rows_apply m c t i k (ix2 r k) rfl rfl) ?_
  exact weights_apply m c t k d (ix3 (0 : Fin 4) k q) rfl rfl rfl

theorem result (c : Dev nD) : G2 m c = wanted m c := by
  refine (final2 m c).symm.trans ((dats m 0 c).arrAt_eq_of_cover 2 (wanted m c) (fun t _ => flushed m c t) (fun i => (covered_iff2 i).2 ?_))
  have h0 : (i 0).val < 8192 := (i 0).isLt
  have h1 : (i 1).val < 2048 := (i 1).isLt
  omega

end Cert.Kernel4Ideal.Down

namespace Cert.Proof

open Idealize.ShloMosaic Idealize.SL.Sem

/-- The idealized down projection and its idealized reference leave the same result. -/
theorem algebraic4 : Cert.algebraic_Kernel4Ideal_Reference4Ideal (hKernel4Ideal := Cert.Kernel4Ideal.Gen.facts)
    (hReference4Ideal := Cert.Reference4Ideal.Gen.facts) := fun m g m' g' _ hm => by
  refine ⟨fun c => Cert.Kernel4Ideal.Down.wanted m c, (θ_run _ _ _).mono (fun r h c => ⟨(h c).1.trans (Cert.Kernel4Ideal.Down.result m c), (h c).2⟩) (Cert.Kernel4Ideal.Value.run m g),
    (θ_run _ _ _).mono (fun r h c => ⟨(h c).1.trans ?_, (h c).2⟩) (Cert.Reference4Ideal.Value.run m' g')⟩
  rw [Cert.Reference4Ideal.Read.val_main_v3_eq, (hm c).1, (hm c).2]

end Cert.Proof
-- ==== Proof.Merge.lean ====
module

public import proofs.«01_k».proof.Proof.Gate
public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.Pointwise

/-! The merge of the two branches: the kernel's gated sum of two products, tile by tile, is the reference's. -/

@[expose] public section

set_option maxRecDepth 16384

noncomputable section

namespace Cert.Kernel5Ideal.Merge
open Cert.Kernel5Ideal.Gen Cert.Kernel5Ideal.Value

open Idealize.ShloMosaic Idealize.ShloMosaic.TcCoe Idealize.SL.Sem

/-- The logistic function, as the reference writes it. -/
def sigmoid (x : EReal) : EReal := Ideal.div 1 (1 + Ideal.exp (-x))

theorem hz : (![0, 0] : Fin 2 → Nat) = fun _ => 0 := funext fun a => by fin_cases a <;> rfl
theorem hz3 : (![0, 0, 0] : Fin 3 → Nat) = fun _ => 0 := funext fun a => by fin_cases a <;> rfl

/-- What a tile's point stores, at an element: each branch's product times its gate, added. -/
theorem merged_apply (x : Vec Ideal S512x4096 .bf16) (w : Vec Ideal S1x4096x512 .bf16) (y : Vec Ideal S512x2048 .bf16) (u : Vec Ideal S1x2048x512 .bf16)
    (g h : Vec Ideal S512x512 .bf16) (i d : Fin 512) :
    k0_pay1 (F := Ideal) x w y u g h (ix2 i d) = sigmoid (g (ix2 i d)) * (∑ k : Fin 4096, x (ix2 i k) * w (ix3 (0 : Fin 1) k d))
      + sigmoid (h (ix2 i d)) * ∑ k : Fin 2048, y (ix2 i k) * u (ix3 (0 : Fin 1) k d) := by
  unfold k0_pay1
  pointwise
  rw [Cert.Gate.half, Cert.Gate.tanh_eq, Cert.Gate.tanh_eq]
  rfl

theorem out_eq (x : Vec Ideal S512x4096 .bf16) (w : Vec Ideal S1x4096x512 .bf16) (y : Vec Ideal S512x2048 .bf16) (u : Vec Ideal S1x2048x512 .bf16)
    (g h : Vec Ideal S512x512 .bf16) : out0_6 (F := Ideal) x w y u g h = k0_pay1 x w y u g h := by
  unfold out0_6
  rw [View.canon_unit_zero hz, View.ld_unit_zero hz, View.ld_unit_zero hz3, View.ld_unit_zero hz, View.ld_unit_zero hz3, View.ld_unit_zero hz, View.ld_unit_zero hz]

/-- Point `t` of the grid is row tile `t / 4` and column tile `t % 4`; each window's block index there. -/
theorem index0 : ∀ t : Fin cfg0.N, win0_0.index t (0 : Fin 2) = t.val / 4 ∧ win0_0.index t (1 : Fin 2) = 0 :=
  (by decide +kernel : ∀ t : Fin grid0.N, _)
@[inherit_doc index0] theorem index1 : ∀ t : Fin cfg0.N, win0_1.index t (0 : Fin 3) = 0 ∧ win0_1.index t (1 : Fin 3) = 0 ∧ win0_1.index t (2 : Fin 3) = t.val % 4 :=
  (by decide +kernel : ∀ t : Fin grid0.N, _)
@[inherit_doc index0] theorem index2 : ∀ t : Fin cfg0.N, win0_2.index t (0 : Fin 2) = t.val / 4 ∧ win0_2.index t (1 : Fin 2) = 0 :=
  (by decide +kernel : ∀ t : Fin grid0.N, _)
@[inherit_doc index0] theorem index3 : ∀ t : Fin cfg0.N, win0_3.index t (0 : Fin 3) = 0 ∧ win0_3.index t (1 : Fin 3) = 0 ∧ win0_3.index t (2 : Fin 3) = t.val % 4 :=
  (by decide +kernel : ∀ t : Fin grid0.N, _)
@[inherit_doc index0] theorem index4 : ∀ t : Fin cfg0.N, win0_4.index t (0 : Fin 2) = t.val / 4 ∧ win0_4.index t (1 : Fin 2) = 36 + t.val % 4 :=
  (by decide +kernel : ∀ t : Fin grid0.N, _)
@[inherit_doc index0] theorem index5 : ∀ t : Fin cfg0.N, win0_5.index t (0 : Fin 2) = t.val / 4 ∧ win0_5.index t (1 : Fin 2) = 40 + t.val % 4 :=
  (by decide +kernel : ∀ t : Fin grid0.N, _)
@[inherit_doc index0] theorem index6 : ∀ t : Fin cfg0.N, win0_6.index t (0 : Fin 2) = t.val / 4 ∧ win0_6.index t (1 : Fin 2) = t.val % 4 :=
  (by decide +kernel : ∀ t : Fin grid0.N, _)
/-- Every point writes its tile back. -/
theorem flush6 : ∀ t : Fin cfg0.N, (cfg0.win 6).flush t = true := (by decide +kernel : ∀ t : Fin grid0.N, win0_6.flush t = true)

variable (m : (ℓ : Loc nD τ sig) → Buf (Elt Ideal) ℓ)

/-- The weights the kernel is launched on: the arguments, rounded. -/
theorem weights1 (c : Dev nD) : V m c main_v0 = (truncf .bf16 (m ((c.tc : Thread nD τ).loc main_arg1) : FVec Ideal S4x4096x2048 .f32) bitsLt_bf16_f32 : FVec Ideal S4x4096x2048 .bf16) := by
  show StableHlo.after hostOps0 _ _ = _
  unfold hostOps0
  after_results
@[inherit_doc weights1] theorem weights3 (c : Dev nD) : V m c main_v1 = (truncf .bf16 (m ((c.tc : Thread nD τ).loc main_arg3) : FVec Ideal S4x2048x2048 .f32) bitsLt_bf16_f32 : FVec Ideal S4x2048x2048 .bf16) := by
  show StableHlo.after hostOps0 _ _ = _
  unfold hostOps0
  after_results

theorem rows_apply (c : Dev nD) (t : Fin cfg0.N) (i : Fin 512) (k : Fin 4096) (j : S8192x4096.Idx)
    (h0 : (j 0).val = t.val / 4 * 512 + i.val) (h1 : (j 1).val = k.val) :
    iblk m c 0 t (ix2 i k) = m ((c.tc : Thread nD τ).loc main_arg0) j := by
  obtain ⟨e0, e1⟩ := index0 t
  refine (show iblk m c 0 t (ix2 i k) = V m c main_arg0 (((cfg0.win 0).blk t).view.emb (ix2 i k)) from rfl).trans ?_
  rw [V_main_arg0]
  refine congrArg (m ((c.tc : Thread nD τ).loc main_arg0)) (funext fun a => Fin.ext ?_)
  match a with
  | ⟨0, _⟩ => show win0_0.index t (0 : Fin 2) * 512 + 1 * i.val = (j 0).val; omega
  | ⟨1, _⟩ => show win0_0.index t (1 : Fin 2) * 4096 + 1 * k.val = (j 1).val; omega

theorem weights1_apply (c : Dev nD) (t : Fin cfg0.N) (k : Fin 4096) (d : Fin 512) (j : S4x4096x2048.Idx)
    (h0 : (j 0).val = 0) (h1 : (j 1).val = k.val) (h2 : (j 2).val = t.val % 4 * 512 + d.val) :
    iblk m c 1 t (ix3 (0 : Fin 1) k d) = m ((c.tc : Thread nD τ).loc main_arg1) j := by
  obtain ⟨e0, e1, e2⟩ := index1 t
  refine (show iblk m c 1 t (ix3 (0 : Fin 1) k d) = V m c main_v0 (((cfg0.win 1).blk t).view.emb (ix3 (0 : Fin 1) k d)) from rfl).trans ?_
  rw [weights1]
  refine congrArg (m ((c.tc : Thread nD τ).loc main_arg1)) (funext fun a => Fin.ext ?_)
  match a with
  | ⟨0, _⟩ => show win0_1.index t (0 : Fin 3) * 1 + 1 * 0 = (j 0).val; omega
  | ⟨1, _⟩ => show win0_1.index t (1 : Fin 3) * 4096 + 1 * k.val = (j 1).val; omega
  | ⟨2, _⟩ => show win0_1.index t (2 : Fin 3) * 512 + 1 * d.val = (j 2).val; omega

theorem rows2_apply (c : Dev nD) (t : Fin cfg0.N) (i : Fin 512) (k : Fin 2048) (j : S8192x2048.Idx)
    (h0 : (j 0).val = t.val / 4 * 512 + i.val) (h1 : (j 1).val = k.val) :
    iblk m c 2 t (ix2 i k) = m ((c.tc : Thread nD τ).loc main_arg2) j := by
  obtain ⟨e0, e1⟩ := index2 t
  refine (show iblk m c 2 t (ix2 i k) = V m c main_arg2 (((cfg0.win 2).blk t).view.emb (ix2 i k)) from rfl).trans ?_
  rw [V_main_arg2]
  refine congrArg (m ((c.tc : Thread nD τ).loc main_arg2)) (funext fun a => Fin.ext ?_)
  match a with
  | ⟨0, _⟩ => show win0_2.index t (0 : Fin 2) * 512 + 1 * i.val = (j 0).val; omega
  | ⟨1, _⟩ => show win0_2.index t (1 : Fin 2) * 2048 + 1 * k.val = (j 1).val; omega

theorem weights3_apply (c : Dev nD) (t : Fin cfg0.N) (k : Fin 2048) (d : Fin 512) (j : S4x2048x2048.Idx)
    (h0 : (j 0).val = 0) (h1 : (j 1).val = k.val) (h2 : (j 2).val = t.val % 4 * 512 + d.val) :
    iblk m c 3 t (ix3 (0 : Fin 1) k d) = m ((c.tc : Thread nD τ).loc main_arg3) j := by
  obtain ⟨e0, e1, e2⟩ := index3 t
  refine (show iblk m c 3 t (ix3 (0 : Fin 1) k d) = V m c main_v1 (((cfg0.win 3).blk t).view.emb (ix3 (0 : Fin 1) k d)) from rfl).trans ?_
  rw [weights3]
  refine congrArg (m ((c.tc : Thread nD τ).loc main_arg3)) (funext fun a => Fin.ext ?_)
  match a with
  | ⟨0, _⟩ => show win0_3.index t (0 : Fin 3) * 1 + 1 * 0 = (j 0).val; omega
  | ⟨1, _⟩ => show win0_3.index t (1 : Fin 3) * 2048 + 1 * k.val = (j 1).val; omega
  | ⟨2, _⟩ => show win0_3.index t (2 : Fin 3) * 512 + 1 * d.val = (j 2).val; omega

theorem gate4_apply (c : Dev nD) (t : Fin cfg0.N) (i d : Fin 512) (j : S8192x22528.Idx)
    (h0 : (j 0).val = t.val / 4 * 512 + i.val) (h1 : (j 1).val = 18432 + t.val % 4 * 512 + d.val) :
    iblk m c 4 t (ix2 i d) = m ((c.tc : Thread nD τ).loc main_arg4) j := by
  obtain ⟨e0, e1⟩ := index4 t
  refine (show iblk m c 4 t (ix2 i d) = V m c main_arg4 (((cfg0.win 4).blk t).view.emb (ix2 i d)) from rfl).trans ?_
  rw [V_main_arg4]
  refine congrArg (m ((c.tc : Thread nD τ).loc main_arg4)) (funext fun a => Fin.ext ?_)
  match a with
  | ⟨0, _⟩ => show win0_4.index t (0 : Fin 2) * 512 + 1 * i.val = (j 0).val; omega
  | ⟨1, _⟩ => show win0_4.index t (1 : Fin 2) * 512 + 1 * d.val = (j 1).val; omega

theorem gate5_apply (c : Dev nD) (t : Fin cfg0.N) (i d : Fin 512) (j : S8192x22528.Idx)
    (h0 : (j 0).val = t.val / 4 * 512 + i.val) (h1 : (j 1).val = 20480 + t.val % 4 * 512 + d.val) :
    iblk m c 5 t (ix2 i d) = m ((c.tc : Thread nD τ).loc main_arg4) j := by
  obtain ⟨e0, e1⟩ := index5 t
  refine (show iblk m c 5 t (ix2 i d) = V m c main_arg4 (((cfg0.win 5).blk t).view.emb (ix2 i d)) from rfl).trans ?_
  rw [V_main_arg4]
  refine congrArg (m ((c.tc : Thread nD τ).loc main_arg4)) (funext fun a => Fin.ext ?_)
  match a with
  | ⟨0, _⟩ => show win0_5.index t (0 : Fin 2) * 512 + 1 * i.val = (j 0).val; omega
  | ⟨1, _⟩ => show win0_5.index t (1 : Fin 2) * 512 + 1 * d.val = (j 1).val; omega

theorem emb6_val (t : Fin cfg0.N) (i d : Fin 512) (j : S8192x2048.Idx)
    (h0 : (j 0).val = t.val / 4 * 512 + i.val) (h1 : (j 1).val = t.val % 4 * 512 + d.val) :
    ((cfg0.win 6).blk t).view.emb (ix2 i d) = j := by
  obtain ⟨e0, e1⟩ := index6 t
  refine funext fun a => Fin.ext ?_
  match a with
  | ⟨0, _⟩ => show win0_6.index t (0 : Fin 2) * 512 + 1 * i.val = (j 0).val; omega
  | ⟨1, _⟩ => show win0_6.index t (1 : Fin 2) * 512 + 1 * d.val = (j 1).val; omega

/-- What the result is shown to hold: the reference's value. -/
abbrev wanted (c : Dev nD) : Buf (Elt Ideal) ((c.tc : Thread nD τ).loc main_v2) :=
  Cert.Reference5Ideal.Read.val_main_v21 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

open Cert.Reference5Ideal.Read in
theorem wanted_apply (x0 : FVec Ideal S8192x4096 .bf16) (x1 : FVec Ideal S4x4096x2048 .f32) (x2 : FVec Ideal S8192x2048 .bf16) (x3 : FVec Ideal S4x2048x2048 .f32)
    (x4 : FVec Ideal S8192x22528 .bf16) (r : Fin 8192) (q : Fin 2048) (qa qb : Fin 22528) (ha : qa.val = 18432 + q.val) (hb : qb.val = 20480 + q.val) :
    val_main_v21 (F := Ideal) x0 x1 x2 x3 x4 (ix2 r q) = sigmoid (x4 (ix2 r qa)) * (∑ k : Fin 4096, x0 (ix2 r k) * x1 (ix3 (0 : Fin 4) k q))
      + sigmoid (x4 (ix2 r qb)) * ∑ k : Fin 2048, x2 (ix2 r k) * x3 (ix3 (0 : Fin 4) k q) := by
  rw [← val_main_v21_eq]
  pointwise
  have ea : (⟨18432 + q.val, by omega⟩ : Fin 22528) = qa := Fin.ext ha.symm
  have eb : (⟨18432 + (2048 + q.val), by omega⟩ : Fin 22528) = qb := Fin.ext (show 18432 + (2048 + q.val) = qb.val by omega)
  rw [ea, eb]
  rfl

theorem flushed (c : Dev nD) (t : Fin cfg0.N) : (dats m 0 c).flushed 6 t = ((cfg0.win 6).blk t).view.read (Elt Ideal) (wanted m c) := by
  have ht : t.val < 64 := t.isLt
  funext y
  let i : Fin 512 := y 0
  let d : Fin 512 := y 1
  have hi := i.isLt
  have hd := d.isLt
  have hy : y = ix2 i d := funext fun a => match a with | ⟨0, _⟩ => rfl | ⟨1, _⟩ => rfl
  let r : Fin 8192 := ⟨t.val / 4 * 512 + i.val, by omega⟩
  let q : Fin 2048 := ⟨t.val % 4 * 512 + d.val, by omega⟩
  have hq : q.val = t.val % 4 * 512 + d.val := rfl
  have hr' : r.val = t.val / 4 * 512 + i.val := rfl
  let qa : Fin 22528 := ⟨18432 + q.val, by omega⟩
  let qb : Fin 22528 := ⟨20480 + q.val, by omega⟩
  have e := emb6_val t i d (ix2 r q) rfl rfl
  have hr : ((cfg0.win 6).blk t).view.read (Elt Ideal) (wanted m c) y = wanted m c (((cfg0.win 6).blk t).view.emb (ix2 i d)) :=
    congrArg (fun y => wanted m c (((cfg0.win 6).blk t).view.emb y)) hy
  rw [hr]
  refine Eq.trans ?_ (congrArg (wanted m c) e).symm
  refine Eq.trans ?_ (wanted_apply _ _ _ _ _ r q qa qb rfl rfl).symm
  rw [flushed6, out_eq]
  refine (congrArg (k0_pay1 (F := Ideal) (iblk m c 0 t) (iblk m c 1 t) (iblk m c 2 t) (iblk m c 3 t) (iblk m c 4 t) (iblk m c 5 t)) hy).trans ((merged_apply _ _ _ _ _ _ i d).trans ?_)
  refine congrArg₂ (· + ·) (congrArg₂ (fun a b => sigmoid a * b) (gate4_apply m c t i d (ix2 r qa) rfl ?_) (Finset.sum_congr rfl fun k _ => congrArg₂ (· * ·) (rows_apply m c t i k (ix2 r k) rfl rfl) ?_))
    (congrArg₂ (fun a b => sigmoid a * b) (gate5_apply m c t i d (ix2 r qb) rfl ?_) (Finset.sum_congr rfl fun k _ => congrArg₂ (· * ·) (rows2_apply m c t i k (ix2 r k) rfl rfl) ?_))
  · show 18432 + q.val = _; omega
  · exact weights1_apply m c t k d (ix3 (0 : Fin 4) k q) rfl rfl rfl
  · show 20480 + q.val = _; omega
  · exact weights3_apply m c t k d (ix3 (0 : Fin 4) k q) rfl rfl rfl

theorem cover6 (j : S8192x2048.Idx) : ∃ t : Fin cfg0.N, (cfg0.win 6).flush t = true ∧ j ∈ ((cfg0.win 6).blk t).view.set := by
  have h0 : (j 0).val < 8192 := (j 0).isLt
  have h1 : (j 1).val < 2048 := (j 1).isLt
  let t : Fin cfg0.N := ⟨(j 0).val / 512 * 4 + (j 1).val / 512, show _ < 64 by omega⟩
  have ht : t.val = (j 0).val / 512 * 4 + (j 1).val / 512 := rfl
  have e := emb6_val t (⟨(j 0).val % 512, by omega⟩ : Fin 512) (⟨(j 1).val % 512, by omega⟩ : Fin 512) j
    (by rw [ht]; show (j 0).val = _ + (j 0).val % 512; omega) (by rw [ht]; show (j 1).val = _ + (j 1).val % 512; omega)
  refine ⟨t, flush6 t, ?_⟩
  have h := ((cfg0.win 6).blk t).view.emb_mem_set (ix2 (⟨(j 0).val % 512, by omega⟩ : Fin 512) (⟨(j 1).val % 512, by omega⟩ : Fin 512))
  exact (congrArg (· ∈ ((cfg0.win 6).blk t).view.set) e).mp h

theorem result (c : Dev nD) : (dats m 0 c).arrAt 6 cfg0.N = wanted m c :=
  (dats m 0 c).arrAt_eq_of_cover 6 (wanted m c) (fun t _ => flushed m c t) cover6

end Cert.Kernel5Ideal.Merge

namespace Cert.Proof

open Idealize.ShloMosaic Idealize.SL.Sem

/-- The idealized merge and its idealized reference leave the same result. -/
theorem algebraic5 : Cert.algebraic_Kernel5Ideal_Reference5Ideal (hKernel5Ideal := Cert.Kernel5Ideal.Gen.facts)
    (hReference5Ideal := Cert.Reference5Ideal.Gen.facts) := fun m g m' g' _ hm => by
  refine ⟨fun c => Cert.Kernel5Ideal.Merge.wanted m c, (θ_run _ _ _).mono (fun r h c => ⟨(h c).1.trans (Cert.Kernel5Ideal.Merge.result m c), (h c).2⟩) (Cert.Kernel5Ideal.Value.run_blocks m g),
    (θ_run _ _ _).mono (fun r h c => ⟨(h c).1.trans ?_, (h c).2⟩) (Cert.Reference5Ideal.Value.run m' g')⟩
  rw [Cert.Reference5Ideal.Read.val_main_v21_eq, (hm c).1, (hm c).2.1, (hm c).2.2.1, (hm c).2.2.2.1, (hm c).2.2.2.2]

end Cert.Proof
-- ==== Proof.Out.lean ====
module

public import proofs.«01_k».proof.Proof.Gen.Kernel6Ideal.Value
public import proofs.«01_k».proof.Proof.Gen.Reference6Ideal.Read
public import proofs.«01_k».proof.Defs
public import Idealize.ShloMosaic.Lib.Pointwise

/-! The output projection: the kernel's product, tile by tile, is the reference's. -/

@[expose] public section

set_option maxRecDepth 16384

noncomputable section

namespace Cert.Kernel6Ideal.Out
open Cert.Kernel6Ideal.Gen Cert.Kernel6Ideal.Value

open Idealize.ShloMosaic Idealize.ShloMosaic.TcCoe Idealize.SL.Sem

/-- A tile of the weights, rounded, without its axis of one layer. -/
def rounded (w : Vec Ideal S1x2048x1024 .f32) : Vec Ideal S2048x1024 .bf16 := fun y => w (ix3 (0 : Fin 1) (y 0) (y 1))

/-- One of the slices in which the weights are rounded is that slice of the rounded tile. -/
theorem slice_apply (o : ℕ) (i3 : ∀ a, (![0, o, 0] : Fin 3 → ℕ) a + S1x256x1024.size a ≤ S1x2048x1024.size a)
    (i2 : ∀ a, (![o, 0] : Fin 2 → ℕ) a + S256x1024.size a ≤ S2048x1024.size a) (a3 : Memref sig .tc .vmem S1x2048x1024 .f32) (h3 : a3.IsWhole)
    (w : Vec Ideal S1x2048x1024 .f32) (j : S256x1024.Idx) :
    k0_pay5 (F := Ideal) (a3.view.readAt (Elt Ideal) (Rect.unit (s := S1x2048x1024) ![0, o, 0] S1x256x1024.size i3).toLoadRect (h3.unread w)) j = rounded w ((Rect.unit (s := S2048x1024) ![o, 0] S256x1024.size i2).emb j) := by
  rw [View.readAt_eq_ld, h3.read_unread]
  unfold k0_pay5 rounded
  pointwise
  refine congrArg w (funext fun a => Fin.ext ?_)
  match a with
  | ⟨0, _⟩ => rfl
  | ⟨1, _⟩ => show o + (j 0).val = o + 1 * (j 0).val; omega
  | ⟨2, _⟩ => show (j 1).val = 0 + 1 * (j 1).val; omega

/-- The slices a column tile's first point stores. -/
theorem pieces (c : Dev nD) (a3 : Memref sig .tc .vmem S1x2048x1024 .f32) (h3 : a3.IsWhole) (w : Vec Ideal S1x2048x1024 .f32) :
    ∀ p ∈ kernelRun0_A.sl.HS0_8 c a3 h3 w, ∀ j : p.1.shape.Idx, p.2 j = rounded w (p.1.emb j) := by
  intro p hp j
  unfold kernelRun0_A.sl.HS0_8 at hp
  simp only [List.mem_cons, List.mem_nil_iff, or_false] at hp
  rcases hp with rfl | rfl | rfl | rfl | rfl | rfl | rfl | rfl
  all_goals exact slice_apply _ (by decide) (by decide) a3 h3 w j

theorem sout_A (c : Dev nD) (i : grid0.Coords) (a2 : Memref sig .tc .vmem S1024x2048 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S2048x1024 .bf16) (h5 : a5.IsWhole) (hc : cond0_0 i)
    (x : Vec Ideal S1024x2048 .bf16) (w : Vec Ideal S1x2048x1024 .f32) : sout0_A_0 c i a2 h2 a3 h3 a4 h4 a5 h5 hc x w = rounded w := by
  funext y
  unfold sout0_A_0
  exact View.read_writes_apply_of_pieces _ _ (rounded w) _ (pieces c a3 h3 w) y (scover0_A_0 c i a2 h2 a3 h3 a4 h4 a5 h5 hc x w y)

theorem hz : (![0, 0] : Fin 2 → Nat) = fun _ => 0 := funext fun a => by fin_cases a <;> rfl

theorem out_A (c : Dev nD) (i : grid0.Coords) (a2 : Memref sig .tc .vmem S1024x2048 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S2048x1024 .bf16) (h5 : a5.IsWhole) (hc : cond0_0 i)
    (x : Vec Ideal S1024x2048 .bf16) (w : Vec Ideal S1x2048x1024 .f32) : out0_A_2 c i a2 h2 a3 h3 a4 h4 a5 h5 hc x w = k0_pay4 x (rounded w) := by
  unfold out0_A_2
  rw [View.read_writes_junk_eq_canon]
  unfold kernelRun0_A
  dsimp only
  have hs : kernelRun0_A.sl.v4 c a3 h3 a5 w = rounded w := by
    unfold kernelRun0_A.sl.v4
    rw [View.readCov_eq_canon']
    refine funext fun y => (View.canon_apply_of_pieces (rounded w) _ (pieces c a3 h3 w) _ (scover0_A_0 c i a2 h2 a3 h3 a4 h4 a5 h5 hc x w _)).trans ?_
    exact congrFun (View.ld_unit_zero hz inb_S2048x1024_S2048x1024_0_0 (rounded w)) y
  rw [View.canon_unit_zero hz, hs, View.readAt_eq_ld, h2.read_unread, View.ld_unit_zero hz]

theorem out_B (c : Dev nD) (i : grid0.Coords) (a2 : Memref sig .tc .vmem S1024x2048 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S2048x1024 .bf16) (h5 : a5.IsWhole) (hc : ¬cond0_0 i)
    (x : Vec Ideal S1024x2048 .bf16) (w : Vec Ideal S1x2048x1024 .f32) (s : Vec Ideal S2048x1024 .bf16) : out0_B_2 c i a2 h2 a3 h3 a4 h4 a5 h5 hc x w s = k0_pay4 x s := by
  unfold out0_B_2
  rw [View.read_writes_junk_eq_canon]
  unfold kernelRun0_B
  dsimp only
  rw [View.canon_unit_zero hz, View.readAt_eq_ld, View.readAt_eq_ld, h2.read_unread, h5.read_unread, View.ld_unit_zero hz, View.ld_unit_zero hz]

/-- Point `t` of the grid is column tile `t / 8` and row tile `t % 8`; each window's block index there. -/
theorem index0 : ∀ t : Fin cfg0.N, win0_0.index t (0 : Fin 2) = t.val % 8 ∧ win0_0.index t (1 : Fin 2) = 0 :=
  (by decide +kernel : ∀ t : Fin grid0.N, _)
@[inherit_doc index0] theorem index1 : ∀ t : Fin cfg0.N, win0_1.index t (0 : Fin 3) = 0 ∧ win0_1.index t (1 : Fin 3) = 0 ∧ win0_1.index t (2 : Fin 3) = t.val / 8 :=
  (by decide +kernel : ∀ t : Fin grid0.N, _)
@[inherit_doc index0] theorem index2 : ∀ t : Fin cfg0.N, win0_2.index t (0 : Fin 2) = t.val % 8 ∧ win0_2.index t (1 : Fin 2) = t.val / 8 :=
  (by decide +kernel : ∀ t : Fin grid0.N, _)

variable (m : (ℓ : Loc nD τ sig) → Buf (Elt Ideal) ℓ)

theorem rows_apply (c : Dev nD) (t : Fin cfg0.N) (i : Fin 1024) (k : Fin 2048) (j : S8192x2048.Idx)
    (h0 : (j 0).val = t.val % 8 * 1024 + i.val) (h1 : (j 1).val = k.val) :
    iblk m c 0 t (ix2 i k) = m ((c.tc : Thread nD τ).loc main_arg0) j := by
  obtain ⟨e0, e1⟩ := index0 t
  refine (show iblk m c 0 t (ix2 i k) = V m c main_arg0 (((cfg0.win 0).blk t).view.emb (ix2 i k)) from rfl).trans ?_
  rw [V_main_arg0]
  refine congrArg (m ((c.tc : Thread nD τ).loc main_arg0)) (funext fun a => Fin.ext ?_)
  match a with
  | ⟨0, _⟩ => show win0_0.index t (0 : Fin 2) * 1024 + 1 * i.val = (j 0).val; omega
  | ⟨1, _⟩ => show win0_0.index t (1 : Fin 2) * 2048 + 1 * k.val = (j 1).val; omega

theorem weights_apply (c : Dev nD) (t : Fin cfg0.N) (k : Fin 2048) (d : Fin 1024) (j : S4x2048x2048.Idx)
    (h0 : (j 0).val = 0) (h1 : (j 1).val = k.val) (h2 : (j 2).val = t.val / 8 * 1024 + d.val) :
    iblk m c 1 t (ix3 0 k d) = m ((c.tc : Thread nD τ).loc main_arg1) j := by
  obtain ⟨e0, e1, e2⟩ := index1 t
  refine (show iblk m c 1 t (ix3 0 k d) = V m c main_arg1 (((cfg0.win 1).blk t).view.emb (ix3 0 k d)) from rfl).trans ?_
  rw [V_main_arg1]
  refine congrArg (m ((c.tc : Thread nD τ).loc main_arg1)) (funext fun a => Fin.ext ?_)
  match a with
  | ⟨0, _⟩ => show win0_1.index t (0 : Fin 3) * 1 + 1 * 0 = (j 0).val; omega
  | ⟨1, _⟩ => show win0_1.index t (1 : Fin 3) * 2048 + 1 * k.val = (j 1).val; omega
  | ⟨2, _⟩ => show win0_1.index t (2 : Fin 3) * 1024 + 1 * d.val = (j 2).val; omega

/-- Where the block of the result lies in the result. -/
theorem emb2_val (t : Fin cfg0.N) (i : Fin 1024) (d : Fin 1024) (j : S8192x2048.Idx)
    (h0 : (j 0).val = t.val % 8 * 1024 + i.val) (h1 : (j 1).val = t.val / 8 * 1024 + d.val) :
    ((cfg0.win 2).blk t).view.emb (ix2 i d) = j := by
  obtain ⟨e0, e1⟩ := index2 t
  refine funext fun a => Fin.ext ?_
  match a with
  | ⟨0, _⟩ => show win0_2.index t (0 : Fin 2) * 1024 + 1 * i.val = (j 0).val; omega
  | ⟨1, _⟩ => show win0_2.index t (1 : Fin 2) * 1024 + 1 * d.val = (j 1).val; omega

/-- The points of one column tile are given the same tile of the weights. -/
theorem weights_same (c : Dev nD) (t s : Fin cfg0.N) (h : t.val / 8 = s.val / 8) : rounded (iblk m c 1 t) = rounded (iblk m c 1 s) := by
  have ht : t.val < 16 := t.isLt
  funext y
  let k : Fin 2048 := y 0
  let d : Fin 1024 := y 1
  have hk := k.isLt
  have hd := d.isLt
  have e := weights_apply m c t k d (ix3 (0 : Fin 4) k (⟨t.val / 8 * 1024 + d.val, by omega⟩ : Fin 2048)) rfl rfl rfl
  have e' := weights_apply m c s k d (ix3 (0 : Fin 4) k (⟨t.val / 8 * 1024 + d.val, by omega⟩ : Fin 2048)) rfl rfl (by show t.val / 8 * 1024 + d.val = _; omega)
  exact e.trans e'.symm

/-- What every point leaves: its rows times its tile of the weights, and that tile, rounded. -/
theorem outs (c : Dev nD) : ∀ (n : ℕ) (hn : n < cfg0.N), outsAt0 m c n hn
    = (k0_pay4 (iblk m c 0 ⟨n, hn⟩) (rounded (iblk m c 1 ⟨n, hn⟩)), rounded (iblk m c 1 ⟨n, hn⟩)) := by
  intro n
  induction n with
  | zero =>
    intro hn
    refine (outsAt0_A m c ⟨0, hn⟩ rfl).trans ?_
    rw [out_A, sout_A]
  | succ n ih =>
    intro hn
    by_cases h : (n + 1) % 8 = 0
    · refine (outsAt0_A m c ⟨n + 1, hn⟩ h).trans ?_
      rw [out_A, sout_A]
    · have e := weights_same m c ⟨n, Nat.lt_of_succ_lt hn⟩ ⟨n + 1, hn⟩ (by show n / 8 = (n + 1) / 8; omega)
      have e' : (outsAt0 m c n (Nat.lt_of_succ_lt hn)).2 = rounded (iblk m c 1 ⟨n + 1, hn⟩) := by rw [ih, ← e]
      refine (outsAt0_B m c ⟨n + 1, hn⟩ h).trans ?_
      rw [out_B]
      unfold sout0_B_0
      show (k0_pay4 (iblk m c 0 ⟨n + 1, hn⟩) (outsAt0 m c n (Nat.lt_of_succ_lt hn)).2, (outsAt0 m c n (Nat.lt_of_succ_lt hn)).2) = _
      rw [e']

/-- The product of a block of rows with a tile of the weights, at an element. -/
theorem product_apply (x : Vec Ideal S1024x2048 .bf16) (w : Vec Ideal S2048x1024 .bf16) (i : Fin 1024) (d : Fin 1024) :
    k0_pay4 (F := Ideal) x w (ix2 i d) = ∑ k : Fin 2048, x (ix2 i k) * w (ix2 k d) := by
  unfold k0_pay4
  pointwise

/-- What the result is shown to hold: the reference's value. -/
abbrev wanted (c : Dev nD) : Buf (Elt Ideal) ((c.tc : Thread nD τ).loc main_v0) :=
  Cert.Reference6Ideal.Read.val_main_v3 (F := Ideal) (m ((c.tc : Thread nD τ).loc main_arg0)) (m ((c.tc : Thread nD τ).loc main_arg1))

theorem wanted_apply (x0 : FVec Ideal S8192x2048 .bf16) (x1 : FVec Ideal S4x2048x2048 .f32) (r : Fin 8192) (q : Fin 2048) :
    Cert.Reference6Ideal.Read.val_main_v3 (F := Ideal) x0 x1 (ix2 r q) = ∑ k : Fin 2048, x0 (ix2 r k) * x1 (ix3 (0 : Fin 4) k q) := by
  unfold Cert.Reference6Ideal.Read.val_main_v3 Cert.Reference6Ideal.Read.val_main_v2 Cert.Reference6Ideal.Read.val_main_v1 Cert.Reference6Ideal.Read.val_main_v0
  pointwise

theorem flushed (c : Dev nD) (t : Fin cfg0.N) : (dats m 0 c).flushed 2 t = ((cfg0.win 2).blk t).view.read (Elt Ideal) (wanted m c) := by
  have ht : t.val < 16 := t.isLt
  funext y
  let i : Fin 1024 := y 0
  let d : Fin 1024 := y 1
  have hi := i.isLt
  have hd := d.isLt
  have hy : y = ix2 i d := funext fun a => match a with | ⟨0, _⟩ => rfl | ⟨1, _⟩ => rfl
  let r : Fin 8192 := ⟨t.val % 8 * 1024 + i.val, by omega⟩
  let q : Fin 2048 := ⟨t.val / 8 * 1024 + d.val, by omega⟩
  have e := emb2_val t i d (ix2 r q) rfl rfl
  have hr : ((cfg0.win 2).blk t).view.read (Elt Ideal) (wanted m c) y = wanted m c (((cfg0.win 2).blk t).view.emb (ix2 i d)) :=
    congrArg (fun y => wanted m c (((cfg0.win 2).blk t).view.emb y)) hy
  rw [hr]
  refine Eq.trans ?_ (congrArg (wanted m c) e).symm
  refine Eq.trans ?_ (wanted_apply _ _ r q).symm
  rw [flushed2, outs]
  refine (congrArg (k0_pay4 (F := Ideal) (iblk m c 0 t) (rounded (iblk m c 1 t))) hy).trans ((product_apply _ _ i d).trans ?_)
  refine Finset.sum_congr rfl fun k _ => congrArg₂ (· * ·) (rows_apply m c t i k (ix2 r k) rfl rfl) ?_
  exact weights_apply m c t k d (ix3 (0 : Fin 4) k q) rfl rfl rfl

theorem result (c : Dev nD) : G2 m c = wanted m c := by
  refine (final2 m c).symm.trans ((dats m 0 c).arrAt_eq_of_cover 2 (wanted m c) (fun t _ => flushed m c t) (fun i => (covered_iff2 i).2 ?_))
  have h0 : (i 0).val < 8192 := (i 0).isLt
  have h1 : (i 1).val < 2048 := (i 1).isLt
  omega

end Cert.Kernel6Ideal.Out

namespace Cert.Proof

open Idealize.ShloMosaic Idealize.SL.Sem

/-- The idealized output projection and its idealized reference leave the same result. -/
theorem algebraic6 : Cert.algebraic_Kernel6Ideal_Reference6Ideal (hKernel6Ideal := Cert.Kernel6Ideal.Gen.facts)
    (hReference6Ideal := Cert.Reference6Ideal.Gen.facts) := fun m g m' g' _ hm => by
  refine ⟨fun c => Cert.Kernel6Ideal.Out.wanted m c, (θ_run _ _ _).mono (fun r h c => ⟨(h c).1.trans (Cert.Kernel6Ideal.Out.result m c), (h c).2⟩) (Cert.Kernel6Ideal.Value.run m g),
    (θ_run _ _ _).mono (fun r h c => ⟨(h c).1.trans ?_, (h c).2⟩) (Cert.Reference6Ideal.Value.run m' g')⟩
  rw [Cert.Reference6Ideal.Read.val_main_v3_eq, (hm c).1, (hm c).2]

end Cert.Proof
-- ==== Proof.ResNorm.lean ====
module

public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Pointwise

/-! The last residual step: the kernel's normalised, scaled and gated sum, row tile by row tile, is the reference's. -/

@[expose] public section

set_option maxRecDepth 16384

noncomputable section

namespace Cert.Kernel7Ideal.ResNorm
open Cert.Kernel7Ideal.Gen Cert.Kernel7Ideal.Value

open Idealize.ShloMosaic Idealize.ShloMosaic.TcCoe Idealize.SL.Sem

/-- The factor a row is normalised by, from the sum of its squares: one over the root of their mean, the mean kept off zero. -/
def scale (s : EReal) : EReal := Ideal.rsqrt (Ideal.div s (Ideal.ofBits .f32 0x45000000#32) + Ideal.ofBits .f32 0x358637BD#32)

theorem hz : (![0, 0] : Fin 2 → Nat) = fun _ => 0 := funext fun a => by fin_cases a <;> rfl
theorem hz3 : (![0, 0, 0] : Fin 3 → Nat) = fun _ => 0 := funext fun a => by fin_cases a <;> rfl

/-- What a tile's point stores, at an element. -/
theorem stored_apply (x : Vec Ideal S256x2048 .f32) (g : Vec Ideal S1x1x2048 .f32) (y : Vec Ideal S256x2048 .f32) (n : Vec Ideal S1x2048 .f32) (i : Fin 256) (d : Fin 2048) :
    k0_pay1 (F := Ideal) x g y n (ix2 i d) = x (ix2 i d) + g (ix3 (0 : Fin 1) (0 : Fin 1) d)
      * (y (ix2 i d) * scale (∑ k : Fin 2048, y (ix2 i k) * y (ix2 i k)) * n (ix2 (0 : Fin 1) d)) := by
  unfold k0_pay1
  pointwise
  rfl

theorem out_eq (y x : Vec Ideal S256x2048 .f32) (n : Vec Ideal S1x2048 .f32) (g : Vec Ideal S1x1x2048 .f32) : out0_4 (F := Ideal) y x n g = k0_pay1 x g y n := by
  unfold out0_4
  rw [View.canon_unit_zero hz, View.ld_unit_zero hz, View.ld_unit_zero hz3, View.ld_unit_zero hz, View.ld_unit_zero hz]

/-- Point `t` of the grid is row tile `t`, of the batch entry `t / 16`; each window's block index there. -/
theorem index0 : ∀ t : Fin cfg0.N, win0_0.index t (0 : Fin 2) = t.val ∧ win0_0.index t (1 : Fin 2) = 0 :=
  (by decide +kernel : ∀ t : Fin grid0.N, _)
@[inherit_doc index0] theorem index1 : ∀ t : Fin cfg0.N, win0_1.index t (0 : Fin 2) = t.val ∧ win0_1.index t (1 : Fin 2) = 0 :=
  (by decide +kernel : ∀ t : Fin grid0.N, _)
@[inherit_doc index0] theorem index2 : ∀ t : Fin cfg0.N, win0_2.index t (0 : Fin 2) = 0 ∧ win0_2.index t (1 : Fin 2) = 0 :=
  (by decide +kernel : ∀ t : Fin grid0.N, _)
@[inherit_doc index0] theorem index3 : ∀ t : Fin cfg0.N, win0_3.index t (0 : Fin 3) = t.val / 16 * 6 + 5 ∧ win0_3.index t (1 : Fin 3) = 0 ∧ win0_3.index t (2 : Fin 3) = 0 :=
  (by decide +kernel : ∀ t : Fin grid0.N, _)
@[inherit_doc index0] theorem index4 : ∀ t : Fin cfg0.N, win0_4.index t (0 : Fin 2) = t.val ∧ win0_4.index t (1 : Fin 2) = 0 :=
  (by decide +kernel : ∀ t : Fin grid0.N, _)
/-- Every point writes its tile back. -/
theorem flush4 : ∀ t : Fin cfg0.N, (cfg0.win 4).flush t = true := (by decide +kernel : ∀ t : Fin grid0.N, win0_4.flush t = true)

variable (m : (ℓ : Loc nD τ sig) → Buf (Elt Ideal) ℓ)

/-- The norm gain the kernel is launched on: the last gain of the last layer. -/
theorem gain (c : Dev nD) : V m c main_v5 = shapeCast S1x2048 (shapeCast S2048 (extractStridedSlice S1x1x2048 ![3, 3, 0] (m ((c.tc : Thread nD τ).loc main_arg2) : FVec Ideal S4x4x2048 .f32) slices_S4x4x2048_S1x1x2048_3_3_0) shapeCasts_S1x1x2048_S2048) shapeCasts_S2048_S1x2048 := by
  show StableHlo.after hostOps0 _ _ = _
  unfold hostOps0
  after_results
  rfl

/-- The modulation the kernel is launched on: the last layer's, its twelve rows in one axis. -/
theorem modulation (c : Dev nD) : V m c main_v2 = shapeCast S12x1x2048 (shapeCast S2x6x2048 (extractStridedSlice S1x2x6x2048 ![3, 0, 0, 0] (m ((c.tc : Thread nD τ).loc main_arg3) : FVec Ideal S4x2x6x2048 .f32) slices_S4x2x6x2048_S1x2x6x2048_3_0_0_0) shapeCasts_S1x2x6x2048_S2x6x2048) shapeCasts_S2x6x2048_S12x1x2048 := by
  show StableHlo.after hostOps0 _ _ = _
  unfold hostOps0
  after_results
  rfl

theorem modulation_apply (x3 : FVec Ideal S4x2x6x2048 .f32) (e : Fin 12) (b : Fin 2) (h : e.val = b.val * 6 + 5) (q : Fin 2048) :
    shapeCast S12x1x2048 (shapeCast S2x6x2048 (extractStridedSlice S1x2x6x2048 ![3, 0, 0, 0] x3 slices_S4x2x6x2048_S1x2x6x2048_3_0_0_0) shapeCasts_S1x2x6x2048_S2x6x2048) shapeCasts_S2x6x2048_S12x1x2048 (ix3 e (0 : Fin 1) q)
      = x3 (ix4 (3 : Fin 4) b (5 : Fin 6) q) := by
  have hb := b.isLt
  pointwise
  have e1 : (⟨e.val / 6, by omega⟩ : Fin 2) = b := Fin.ext (show e.val / 6 = b.val by omega)
  have e2 : (⟨e.val % 6, by omega⟩ : Fin 6) = 5 := Fin.ext (show e.val % 6 = 5 by omega)
  rw [e1, e2]

theorem branch_apply (c : Dev nD) (t : Fin cfg0.N) (i : Fin 256) (k : Fin 2048) (j : S8192x2048.Idx)
    (h0 : (j 0).val = t.val * 256 + i.val) (h1 : (j 1).val = k.val) :
    iblk m c 0 t (ix2 i k) = m ((c.tc : Thread nD τ).loc main_arg0) j := by
  obtain ⟨e0, e1⟩ := index0 t
  refine (show iblk m c 0 t (ix2 i k) = V m c main_arg0 (((cfg0.win 0).blk t).view.emb (ix2 i k)) from rfl).trans ?_
  rw [V_main_arg0]
  refine congrArg (m ((c.tc : Thread nD τ).loc main_arg0)) (funext fun a => Fin.ext ?_)
  match a with
  | ⟨0, _⟩ => show win0_0.index t (0 : Fin 2) * 256 + 1 * i.val = (j 0).val; omega
  | ⟨1, _⟩ => show win0_0.index t (1 : Fin 2) * 2048 + 1 * k.val = (j 1).val; omega

theorem residual_apply (c : Dev nD) (t : Fin cfg0.N) (i : Fin 256) (k : Fin 2048) (j : S8192x2048.Idx)
    (h0 : (j 0).val = t.val * 256 + i.val) (h1 : (j 1).val = k.val) :
    iblk m c 1 t (ix2 i k) = m ((c.tc : Thread nD τ).loc main_arg1) j := by
  obtain ⟨e0, e1⟩ := index1 t
  refine (show iblk m c 1 t (ix2 i k) = V m c main_arg1 (((cfg0.win 1).blk t).view.emb (ix2 i k)) from rfl).trans ?_
  rw [V_main_arg1]
  refine congrArg (m ((c.tc : Thread nD τ).loc main_arg1)) (funext fun a => Fin.ext ?_)
  match a with
  | ⟨0, _⟩ => show win0_1.index t (0 : Fin 2) * 256 + 1 * i.val = (j 0).val; omega
  | ⟨1, _⟩ => show win0_1.index t (1 : Fin 2) * 2048 + 1 * k.val = (j 1).val; omega

theorem gain_apply (c : Dev nD) (t : Fin cfg0.N) (q : Fin 2048) :
    iblk m c 2 t (ix2 (0 : Fin 1) q) = m ((c.tc : Thread nD τ).loc main_arg2) (ix3 (3 : Fin 4) (3 : Fin 4) q) := by
  obtain ⟨e0, e1⟩ := index2 t
  have e : ((cfg0.win 2).blk t).view.emb (ix2 (0 : Fin 1) q) = ix2 (0 : Fin 1) q := funext fun a => Fin.ext (match a with
    | ⟨0, _⟩ => by show win0_2.index t (0 : Fin 2) * 1 + 1 * 0 = 0; omega
    | ⟨1, _⟩ => by show win0_2.index t (1 : Fin 2) * 2048 + 1 * q.val = q.val; omega)
  refine ((show iblk m c 2 t (ix2 (0 : Fin 1) q) = V m c main_v5 (((cfg0.win 2).blk t).view.emb (ix2 (0 : Fin 1) q)) from rfl).trans (congrArg (V m c main_v5) e)).trans ?_
  rw [gain]
  pointwise

theorem gate_apply (c : Dev nD) (t : Fin cfg0.N) (q : Fin 2048) (b : Fin 2) (h : b.val = t.val / 16) :
    iblk m c 3 t (ix3 (0 : Fin 1) (0 : Fin 1) q) = m ((c.tc : Thread nD τ).loc main_arg3) (ix4 (3 : Fin 4) b (5 : Fin 6) q) := by
  obtain ⟨e0, e1, e2⟩ := index3 t
  have hb := b.isLt
  have e : ((cfg0.win 3).blk t).view.emb (ix3 (0 : Fin 1) (0 : Fin 1) q) = ix3 (⟨b.val * 6 + 5, by omega⟩ : Fin 12) (0 : Fin 1) q := funext fun a => Fin.ext (match a with
    | ⟨0, _⟩ => by show win0_3.index t (0 : Fin 3) * 1 + 1 * 0 = b.val * 6 + 5; omega
    | ⟨1, _⟩ => by show win0_3.index t (1 : Fin 3) * 1 + 1 * 0 = 0; omega
    | ⟨2, _⟩ => by show win0_3.index t (2 : Fin 3) * 2048 + 1 * q.val = q.val; omega)
  refine ((show iblk m c 3 t (ix3 (0 : Fin 1) (0 : Fin 1) q) = V m c main_v2 (((cfg0.win 3).blk t).view.emb (ix3 (0 : Fin 1) (0 : Fin 1) q)) from rfl).trans (congrArg (V m c main_v2) e)).trans ?_
  rw [modulation]
  exact modulation_apply _ _ b rfl q

theorem emb4_val (t : Fin cfg0.N) (i : Fin 256) (d : Fin 2048) (j : S8192x2048.Idx)
    (h0 : (j 0).val = t.val * 256 + i.val) (h1 : (j 1).val = d.val) :
    ((cfg0.win 4).blk t).view.emb (ix2 i d) = j := by
  obtain ⟨e0, e1⟩ := index4 t
  refine funext fun a => Fin.ext ?_
  match a with
  | ⟨0, _⟩ => show win0_4.index t (0 : Fin 2) * 256 + 1 * i.val = (j 0).val; omega
  | ⟨1, _⟩ => show win0_4.index t (1 : Fin 2) * 2048 + 1 * d.val = (j 1).val; omega

/-- What the result is shown to hold: the reference's value. -/
abbrev wanted (c : Dev nD) : Buf (Elt Ideal) ((c.tc : Thread nD τ).loc main_v6) :=
  Cert.Reference7Ideal.Read.val_main_v25 (F := Ideal) (m ((c.tc : Thread nD τ).loc main_arg0)) (m ((c.tc : Thread nD τ).loc main_arg1)) (m ((c.tc : Thread nD τ).loc main_arg2))
    (m ((c.tc : Thread nD τ).loc main_arg3))

theorem wanted_apply (x0 x1 : FVec Ideal S8192x2048 .f32) (x2 : FVec Ideal S4x4x2048 .f32) (x3 : FVec Ideal S4x2x6x2048 .f32) (r : Fin 8192) (q : Fin 2048) (b : Fin 2)
    (hb : b.val = r.val / 4096) :
    Cert.Reference7Ideal.Read.val_main_v25 (F := Ideal) x0 x1 x2 x3 (ix2 r q) = x1 (ix2 r q) + x3 (ix4 (3 : Fin 4) b (5 : Fin 6) q)
      * (x0 (ix2 r q) * scale (∑ k : Fin 2048, x0 (ix2 r k) * x0 (ix2 r k)) * x2 (ix3 (3 : Fin 4) (3 : Fin 4) q)) := by
  rw [← Cert.Reference7Ideal.Read.val_main_v25_eq]
  pointwise
  have e : (⟨r.val / 4096, by omega⟩ : Fin 2) = b := Fin.ext hb.symm
  rw [e]
  rfl

theorem flushed (c : Dev nD) (t : Fin cfg0.N) : (dats m 0 c).flushed 4 t = ((cfg0.win 4).blk t).view.read (Elt Ideal) (wanted m c) := by
  have ht : t.val < 32 := t.isLt
  funext y
  let i : Fin 256 := y 0
  let d : Fin 2048 := y 1
  have hi := i.isLt
  have hy : y = ix2 i d := funext fun a => match a with | ⟨0, _⟩ => rfl | ⟨1, _⟩ => rfl
  let r : Fin 8192 := ⟨t.val * 256 + i.val, by omega⟩
  let b : Fin 2 := ⟨t.val / 16, by omega⟩
  have e := emb4_val t i d (ix2 r d) rfl rfl
  have hr : ((cfg0.win 4).blk t).view.read (Elt Ideal) (wanted m c) y = wanted m c (((cfg0.win 4).blk t).view.emb (ix2 i d)) :=
    congrArg (fun y => wanted m c (((cfg0.win 4).blk t).view.emb y)) hy
  rw [hr]
  refine Eq.trans ?_ (congrArg (wanted m c) e).symm
  refine Eq.trans ?_ (wanted_apply _ _ _ _ r d b (show t.val / 16 = (t.val * 256 + i.val) / 4096 by omega)).symm
  rw [flushed4, out_eq]
  refine (congrArg (k0_pay1 (F := Ideal) (iblk m c 1 t) (iblk m c 3 t) (iblk m c 0 t) (iblk m c 2 t)) hy).trans ((stored_apply _ _ _ _ i d).trans ?_)
  refine congrArg₂ (· + ·) (residual_apply m c t i d (ix2 r d) rfl rfl) (congrArg₂ (· * ·) (gate_apply m c t d b rfl)
    (congrArg₂ (· * ·) (congrArg₂ (fun a s => a * scale s) (branch_apply m c t i d (ix2 r d) rfl rfl) (Finset.sum_congr rfl fun k _ => ?_)) (gain_apply m c t d)))
  exact congrArg₂ (· * ·) (branch_apply m c t i k (ix2 r k) rfl rfl) (branch_apply m c t i k (ix2 r k) rfl rfl)

theorem cover4 (j : S8192x2048.Idx) : ∃ t : Fin cfg0.N, (cfg0.win 4).flush t = true ∧ j ∈ ((cfg0.win 4).blk t).view.set := by
  have h0 : (j 0).val < 8192 := (j 0).isLt
  have h1 : (j 1).val < 2048 := (j 1).isLt
  let t : Fin cfg0.N := ⟨(j 0).val / 256, show _ < 32 by omega⟩
  have ht : t.val = (j 0).val / 256 := rfl
  have e := emb4_val t (⟨(j 0).val % 256, by omega⟩ : Fin 256) (⟨(j 1).val, h1⟩ : Fin 2048) j (by rw [ht]; show (j 0).val = _ + (j 0).val % 256; omega) rfl
  refine ⟨t, flush4 t, ?_⟩
  have h := ((cfg0.win 4).blk t).view.emb_mem_set (ix2 (⟨(j 0).val % 256, by omega⟩ : Fin 256) (⟨(j 1).val, h1⟩ : Fin 2048))
  exact (congrArg (· ∈ ((cfg0.win 4).blk t).view.set) e).mp h

theorem result (c : Dev nD) : (dats m 0 c).arrAt 4 cfg0.N = wanted m c :=
  (dats m 0 c).arrAt_eq_of_cover 4 (wanted m c) (fun t _ => flushed m c t) cover4

end Cert.Kernel7Ideal.ResNorm

namespace Cert.Proof

open Idealize.ShloMosaic Idealize.SL.Sem

/-- The idealized residual step and its idealized reference leave the same result. -/
theorem algebraic7 : Cert.algebraic_Kernel7Ideal_Reference7Ideal (hKernel7Ideal := Cert.Kernel7Ideal.Gen.facts)
    (hReference7Ideal := Cert.Reference7Ideal.Gen.facts) := fun m g m' g' _ hm => by
  refine ⟨fun c => Cert.Kernel7Ideal.ResNorm.wanted m c, (θ_run _ _ _).mono (fun r h c => ⟨(h c).1.trans (Cert.Kernel7Ideal.ResNorm.result m c), (h c).2⟩) (Cert.Kernel7Ideal.Value.run_blocks m g),
    (θ_run _ _ _).mono (fun r h c => ⟨(h c).1.trans ?_, (h c).2⟩) (Cert.Reference7Ideal.Value.run m' g')⟩
  rw [Cert.Reference7Ideal.Read.val_main_v25_eq, (hm c).1, (hm c).2.1, (hm c).2.2.1, (hm c).2.2.2]

end Cert.Proof
-- ==== Proof.FirstNorm.lean ====
module

public import proofs.«01_k».proof.Proof.Gen.Kernel9Ideal.Value
public import proofs.«01_k».proof.Proof.Gen.Reference9Ideal.Run
public import proofs.«01_k».proof.Proof.Gen.Reference9Ideal.Read
public import proofs.«01_k».proof.Defs
public import proofs.«01_k».proof.Proof.ResNorm

/-! The first norm: the kernel's normalised, scaled and shifted rows, row tile by row tile, are the reference's. -/

@[expose] public section

set_option maxRecDepth 16384

noncomputable section

namespace Cert.Kernel9Ideal.FirstNorm
open Cert.Kernel9Ideal.Gen Cert.Kernel9Ideal.Value
open Cert.Kernel7Ideal.ResNorm (scale hz hz3)

open Idealize.ShloMosaic Idealize.ShloMosaic.TcCoe Idealize.SL.Sem

/-- What a tile's point stores, at an element. -/
theorem stored_apply (x : Vec Ideal S512x2048 .f32) (n : Vec Ideal S1x2048 .f32) (a b : Vec Ideal S1x1x2048 .f32) (i : Fin 512) (d : Fin 2048) :
    k0_pay1 (F := Ideal) x n a b (ix2 i d) = x (ix2 i d) * scale (∑ k : Fin 2048, x (ix2 i k) * x (ix2 i k)) * n (ix2 (0 : Fin 1) d)
      * (1 + a (ix3 (0 : Fin 1) (0 : Fin 1) d)) + b (ix3 (0 : Fin 1) (0 : Fin 1) d) := by
  unfold k0_pay1
  pointwise
  rfl

theorem out_eq (x : Vec Ideal S512x2048 .f32) (n : Vec Ideal S1x2048 .f32) (a b : Vec Ideal S1x1x2048 .f32) : out0_4 (F := Ideal) x n a b = k0_pay1 x n a b := by
  unfold out0_4
  rw [View.canon_unit_zero hz, View.ld_unit_zero hz, View.ld_unit_zero hz, View.ld_unit_zero hz3, View.ld_unit_zero hz3]

/-- Point `t` of the grid is row tile `t`, of the batch entry `t / 8`; each window's block index there. -/
theorem index0 : ∀ t : Fin cfg0.N, win0_0.index t (0 : Fin 2) = t.val ∧ win0_0.index t (1 : Fin 2) = 0 :=
  (by decide +kernel : ∀ t : Fin grid0.N, _)
@[inherit_doc index0] theorem index1 : ∀ t : Fin cfg0.N, win0_1.index t (0 : Fin 2) = 0 ∧ win0_1.index t (1 : Fin 2) = 0 :=
  (by decide +kernel : ∀ t : Fin grid0.N, _)
@[inherit_doc index0] theorem index2 : ∀ t : Fin cfg0.N, win0_2.index t (0 : Fin 3) = t.val / 8 * 6 + 1 ∧ win0_2.index t (1 : Fin 3) = 0 ∧ win0_2.index t (2 : Fin 3) = 0 :=
  (by decide +kernel : ∀ t : Fin grid0.N, _)
@[inherit_doc index0] theorem index3 : ∀ t : Fin cfg0.N, win0_3.index t (0 : Fin 3) = t.val / 8 * 6 + 0 ∧ win0_3.index t (1 : Fin 3) = 0 ∧ win0_3.index t (2 : Fin 3) = 0 :=
  (by decide +kernel : ∀ t : Fin grid0.N, _)
@[inherit_doc index0] theorem index4 : ∀ t : Fin cfg0.N, win0_4.index t (0 : Fin 2) = t.val ∧ win0_4.index t (1 : Fin 2) = 0 :=
  (by decide +kernel : ∀ t : Fin grid0.N, _)
/-- Every point writes its tile back. -/
theorem flush4 : ∀ t : Fin cfg0.N, (cfg0.win 4).flush t = true := (by decide +kernel : ∀ t : Fin grid0.N, win0_4.flush t = true)

variable (m : (ℓ : Loc nD τ sig) → Buf (Elt Ideal) ℓ)

/-- The norm gain the kernel is launched on: the first gain of the first layer. -/
theorem gain (c : Dev nD) : V m c main_v5 = shapeCast S1x2048 (shapeCast S2048 (extractStridedSlice S1x1x2048 ![0, 0, 0] (m ((c.tc : Thread nD τ).loc main_arg1) : FVec Ideal S4x4x2048 .f32) slices_S4x4x2048_S1x1x2048_0_0_0) shapeCasts_S1x1x2048_S2048) shapeCasts_S2048_S1x2048 := by
  show StableHlo.after hostOps0 _ _ = _
  unfold hostOps0
  after_results
  rfl

/-- The modulation the kernel is launched on: the first layer's, its twelve rows in one axis. -/
theorem modulation (c : Dev nD) : V m c main_v4 = shapeCast S12x1x2048 (shapeCast S2x6x2048 (extractStridedSlice S1x2x6x2048 ![0, 0, 0, 0] (m ((c.tc : Thread nD τ).loc main_arg2) : FVec Ideal S4x2x6x2048 .f32) slices_S4x2x6x2048_S1x2x6x2048_0_0_0_0) shapeCasts_S1x2x6x2048_S2x6x2048) shapeCasts_S2x6x2048_S12x1x2048 := by
  show StableHlo.after hostOps0 _ _ = _
  unfold hostOps0
  after_results
  rfl

/-- A row of the twelve, at an element: the row `s` of the batch entry `b` in the first layer's modulation. -/
theorem modulation_apply (x3 : FVec Ideal S4x2x6x2048 .f32) (e : Fin 12) (b : Fin 2) (s : Fin 6) (h : e.val = b.val * 6 + s.val) (q : Fin 2048) :
    shapeCast S12x1x2048 (shapeCast S2x6x2048 (extractStridedSlice S1x2x6x2048 ![0, 0, 0, 0] x3 slices_S4x2x6x2048_S1x2x6x2048_0_0_0_0) shapeCasts_S1x2x6x2048_S2x6x2048) shapeCasts_S2x6x2048_S12x1x2048 (ix3 e (0 : Fin 1) q)
      = x3 (ix4 (0 : Fin 4) b s q) := by
  have hb := b.isLt
  have hs := s.isLt
  pointwise
  have e1 : (⟨e.val / 6, by omega⟩ : Fin 2) = b := Fin.ext (show e.val / 6 = b.val by omega)
  have e2 : (⟨e.val % 6, by omega⟩ : Fin 6) = s := Fin.ext (show e.val % 6 = s.val by omega)
  rw [e1, e2]

theorem stream_apply (c : Dev nD) (t : Fin cfg0.N) (i : Fin 512) (k : Fin 2048) (j : S8192x2048.Idx)
    (h0 : (j 0).val = t.val * 512 + i.val) (h1 : (j 1).val = k.val) :
    iblk m c 0 t (ix2 i k) = m ((c.tc : Thread nD τ).loc main_arg0) j := by
  obtain ⟨e0, e1⟩ := index0 t
  refine (show iblk m c 0 t (ix2 i k) = V m c main_arg0 (((cfg0.win 0).blk t).view.emb (ix2 i k)) from rfl).trans ?_
  rw [V_main_arg0]
  refine congrArg (m ((c.tc : Thread nD τ).loc main_arg0)) (funext fun a => Fin.ext ?_)
  match a with
  | ⟨0, _⟩ => show win0_0.index t (0 : Fin 2) * 512 + 1 * i.val = (j 0).val; omega
  | ⟨1, _⟩ => show win0_0.index t (1 : Fin 2) * 2048 + 1 * k.val = (j 1).val; omega

theorem gain_apply (c : Dev nD) (t : Fin cfg0.N) (q : Fin 2048) :
    iblk m c 1 t (ix2 (0 : Fin 1) q) = m ((c.tc : Thread nD τ).loc main_arg1) (ix3 (0 : Fin 4) (0 : Fin 4) q) := by
  obtain ⟨e0, e1⟩ := index1 t
  have e : ((cfg0.win 1).blk t).view.emb (ix2 (0 : Fin 1) q) = ix2 (0 : Fin 1) q := funext fun a => Fin.ext (match a with
    | ⟨0, _⟩ => by show win0_1.index t (0 : Fin 2) * 1 + 1 * 0 = 0; omega
    | ⟨1, _⟩ => by show win0_1.index t (1 : Fin 2) * 2048 + 1 * q.val = q.val; omega)
  refine ((show iblk m c 1 t (ix2 (0 : Fin 1) q) = V m c main_v5 (((cfg0.win 1).blk t).view.emb (ix2 (0 : Fin 1) q)) from rfl).trans (congrArg (V m c main_v5) e)).trans ?_
  rw [gain]
  pointwise

theorem scale_apply (c : Dev nD) (t : Fin cfg0.N) (q : Fin 2048) (b : Fin 2) (h : b.val = t.val / 8) :
    iblk m c 2 t (ix3 (0 : Fin 1) (0 : Fin 1) q) = m ((c.tc : Thread nD τ).loc main_arg2) (ix4 (0 : Fin 4) b (1 : Fin 6) q) := by
  obtain ⟨e0, e1, e2⟩ := index2 t
  have hb := b.isLt
  have e : ((cfg0.win 2).blk t).view.emb (ix3 (0 : Fin 1) (0 : Fin 1) q) = ix3 (⟨b.val * 6 + 1, by omega⟩ : Fin 12) (0 : Fin 1) q := funext fun a => Fin.ext (match a with
    | ⟨0, _⟩ => by show win0_2.index t (0 : Fin 3) * 1 + 1 * 0 = b.val * 6 + 1; omega
    | ⟨1, _⟩ => by show win0_2.index t (1 : Fin 3) * 1 + 1 * 0 = 0; omega
    | ⟨2, _⟩ => by show win0_2.index t (2 : Fin 3) * 2048 + 1 * q.val = q.val; omega)
  refine ((show iblk m c 2 t (ix3 (0 : Fin 1) (0 : Fin 1) q) = V m c main_v4 (((cfg0.win 2).blk t).view.emb (ix3 (0 : Fin 1) (0 : Fin 1) q)) from rfl).trans (congrArg (V m c main_v4) e)).trans ?_
  rw [modulation]
  exact modulation_apply _ _ b 1 rfl q

theorem shift_apply (c : Dev nD) (t : Fin cfg0.N) (q : Fin 2048) (b : Fin 2) (h : b.val = t.val / 8) :
    iblk m c 3 t (ix3 (0 : Fin 1) (0 : Fin 1) q) = m ((c.tc : Thread nD τ).loc main_arg2) (ix4 (0 : Fin 4) b (0 : Fin 6) q) := by
  obtain ⟨e0, e1, e2⟩ := index3 t
  have hb := b.isLt
  have e : ((cfg0.win 3).blk t).view.emb (ix3 (0 : Fin 1) (0 : Fin 1) q) = ix3 (⟨b.val * 6 + 0, by omega⟩ : Fin 12) (0 : Fin 1) q := funext fun a => Fin.ext (match a with
    | ⟨0, _⟩ => by show win0_3.index t (0 : Fin 3) * 1 + 1 * 0 = b.val * 6 + 0; omega
    | ⟨1, _⟩ => by show win0_3.index t (1 : Fin 3) * 1 + 1 * 0 = 0; omega
    | ⟨2, _⟩ => by show win0_3.index t (2 : Fin 3) * 2048 + 1 * q.val = q.val; omega)
  refine ((show iblk m c 3 t (ix3 (0 : Fin 1) (0 : Fin 1) q) = V m c main_v4 (((cfg0.win 3).blk t).view.emb (ix3 (0 : Fin 1) (0 : Fin 1) q)) from rfl).trans (congrArg (V m c main_v4) e)).trans ?_
  rw [modulation]
  exact modulation_apply _ _ b 0 rfl q

theorem emb4_val (t : Fin cfg0.N) (i : Fin 512) (d : Fin 2048) (j : S8192x2048.Idx)
    (h0 : (j 0).val = t.val * 512 + i.val) (h1 : (j 1).val = d.val) :
    ((cfg0.win 4).blk t).view.emb (ix2 i d) = j := by
  obtain ⟨e0, e1⟩ := index4 t
  refine funext fun a => Fin.ext ?_
  match a with
  | ⟨0, _⟩ => show win0_4.index t (0 : Fin 2) * 512 + 1 * i.val = (j 0).val; omega
  | ⟨1, _⟩ => show win0_4.index t (1 : Fin 2) * 2048 + 1 * d.val = (j 1).val; omega

/-- What the result is shown to hold: the reference's value. -/
abbrev wanted (c : Dev nD) : Buf (Elt Ideal) ((c.tc : Thread nD τ).loc main_v6) :=
  Cert.Reference9Ideal.Read.val_main_v33 (F := Ideal) (m ((c.tc : Thread nD τ).loc main_arg0)) (m ((c.tc : Thread nD τ).loc main_arg1)) (m ((c.tc : Thread nD τ).loc main_arg2))

theorem wanted_apply (x0 : FVec Ideal S8192x2048 .f32) (x1 : FVec Ideal S4x4x2048 .f32) (x2 : FVec Ideal S4x2x6x2048 .f32) (r : Fin 8192) (q : Fin 2048) (b : Fin 2)
    (hb : b.val = r.val / 4096) :
    Cert.Reference9Ideal.Read.val_main_v33 (F := Ideal) x0 x1 x2 (ix2 r q) = x0 (ix2 r q) * scale (∑ k : Fin 2048, x0 (ix2 r k) * x0 (ix2 r k))
      * x1 (ix3 (0 : Fin 4) (0 : Fin 4) q) * (1 + x2 (ix4 (0 : Fin 4) b (1 : Fin 6) q)) + x2 (ix4 (0 : Fin 4) b (0 : Fin 6) q) := by
  rw [← Cert.Reference9Ideal.Read.val_main_v33_eq]
  pointwise
  have e : (⟨r.val / 4096, by omega⟩ : Fin 2) = b := Fin.ext hb.symm
  rw [e]
  rfl

theorem flushed (c : Dev nD) (t : Fin cfg0.N) : (dats m 0 c).flushed 4 t = ((cfg0.win 4).blk t).view.read (Elt Ideal) (wanted m c) := by
  have ht : t.val < 16 := t.isLt
  funext y
  let i : Fin 512 := y 0
  let d : Fin 2048 := y 1
  have hi := i.isLt
  have hy : y = ix2 i d := funext fun a => match a with | ⟨0, _⟩ => rfl | ⟨1, _⟩ => rfl
  let r : Fin 8192 := ⟨t.val * 512 + i.val, by omega⟩
  let b : Fin 2 := ⟨t.val / 8, by omega⟩
  have e := emb4_val t i d (ix2 r d) rfl rfl
  have hr : ((cfg0.win 4).blk t).view.read (Elt Ideal) (wanted m c) y = wanted m c (((cfg0.win 4).blk t).view.emb (ix2 i d)) :=
    congrArg (fun y => wanted m c (((cfg0.win 4).blk t).view.emb y)) hy
  rw [hr]
  refine Eq.trans ?_ (congrArg (wanted m c) e).symm
  refine Eq.trans ?_ (wanted_apply _ _ _ r d b (show t.val / 8 = (t.val * 512 + i.val) / 4096 by omega)).symm
  rw [flushed4, out_eq]
  refine (congrArg (k0_pay1 (F := Ideal) (iblk m c 0 t) (iblk m c 1 t) (iblk m c 2 t) (iblk m c 3 t)) hy).trans ((stored_apply _ _ _ _ i d).trans ?_)
  refine congrArg₂ (· + ·) (congrArg₂ (· * ·) (congrArg₂ (· * ·)
    (congrArg₂ (fun a s => a * scale s) (stream_apply m c t i d (ix2 r d) rfl rfl) (Finset.sum_congr rfl fun k _ => ?_)) (gain_apply m c t d))
    (congrArg (1 + ·) (scale_apply m c t d b rfl))) (shift_apply m c t d b rfl)
  exact congrArg₂ (· * ·) (stream_apply m c t i k (ix2 r k) rfl rfl) (stream_apply m c t i k (ix2 r k) rfl rfl)

theorem cover4 (j : S8192x2048.Idx) : ∃ t : Fin cfg0.N, (cfg0.win 4).flush t = true ∧ j ∈ ((cfg0.win 4).blk t).view.set := by
  have h0 : (j 0).val < 8192 := (j 0).isLt
  have h1 : (j 1).val < 2048 := (j 1).isLt
  let t : Fin cfg0.N := ⟨(j 0).val / 512, show _ < 16 by omega⟩
  have ht : t.val = (j 0).val / 512 := rfl
  have e := emb4_val t (⟨(j 0).val % 512, by omega⟩ : Fin 512) (⟨(j 1).val, h1⟩ : Fin 2048) j (by rw [ht]; show (j 0).val = _ + (j 0).val % 512; omega) rfl
  refine ⟨t, flush4 t, ?_⟩
  have h := ((cfg0.win 4).blk t).view.emb_mem_set (ix2 (⟨(j 0).val % 512, by omega⟩ : Fin 512) (⟨(j 1).val, h1⟩ : Fin 2048))
  exact (congrArg (· ∈ ((cfg0.win 4).blk t).view.set) e).mp h

theorem result (c : Dev nD) : (dats m 0 c).arrAt 4 cfg0.N = wanted m c :=
  (dats m 0 c).arrAt_eq_of_cover 4 (wanted m c) (fun t _ => flushed m c t) cover4

end Cert.Kernel9Ideal.FirstNorm

namespace Cert.Proof

open Idealize.ShloMosaic Idealize.SL.Sem

/-- The idealized first norm and its idealized reference leave the same result. -/
theorem algebraic9 : Cert.algebraic_Kernel9Ideal_Reference9Ideal (hKernel9Ideal := Cert.Kernel9Ideal.Gen.facts)
    (hReference9Ideal := Cert.Reference9Ideal.Gen.facts) := fun m g m' g' _ hm => by
  refine ⟨fun c => Cert.Kernel9Ideal.FirstNorm.wanted m c, (θ_run _ _ _).mono (fun r h c => ⟨(h c).1.trans (Cert.Kernel9Ideal.FirstNorm.result m c), (h c).2⟩) (Cert.Kernel9Ideal.Value.run_blocks m g),
    (θ_run _ _ _).mono (fun r h c => ⟨(h c).1.trans ?_, (h c).2⟩) (Cert.Reference9Ideal.Value.run m' g')⟩
  rw [Cert.Reference9Ideal.Read.val_main_v33_eq, (hm c).1, (hm c).2.1, (hm c).2.2]

end Cert.Proof
-- ==== Proof.NextNorm.lean ====
module

public import proofs.«01_k».proof.Proof.Gen.Kernel8Ideal.Value
public import proofs.«01_k».proof.Proof.Gen.Reference8Ideal.Run
public import proofs.«01_k».proof.Proof.Gen.Reference8Ideal.Read
public import proofs.«01_k».proof.Defs
public import proofs.«01_k».proof.Proof.FirstNorm

/-! The residual step that also gives the next call's normed activations: both of the kernel's results, row tile by row tile, are the reference's. -/

@[expose] public section

set_option maxRecDepth 16384

noncomputable section

namespace Cert.Kernel8Ideal.NextNorm
open Cert.Kernel8Ideal.Gen Cert.Kernel8Ideal.Value
open Cert.Kernel7Ideal.ResNorm (scale hz hz3)
open Cert.Kernel9Ideal.FirstNorm (modulation_apply)

open Idealize.ShloMosaic Idealize.ShloMosaic.TcCoe Idealize.SL.Sem

/-- The residual stream a tile's point stores, at an element. -/
theorem stream_stored_apply (x : Vec Ideal S256x2048 .f32) (g : Vec Ideal S1x1x2048 .f32) (y : Vec Ideal S256x2048 .f32) (n : Vec Ideal S1x2048 .f32) (i : Fin 256) (d : Fin 2048) :
    k0_pay2 (F := Ideal) x g y n (ix2 i d) = x (ix2 i d) + g (ix3 (0 : Fin 1) (0 : Fin 1) d)
      * (y (ix2 i d) * scale (∑ k : Fin 2048, y (ix2 i k) * y (ix2 i k)) * n (ix2 (0 : Fin 1) d)) := by
  unfold k0_pay2
  pointwise
  rfl

/-- The normed activations it stores, at an element, from that residual stream. -/
theorem normed_stored_apply (x : Vec Ideal S256x2048 .f32) (g : Vec Ideal S1x1x2048 .f32) (y : Vec Ideal S256x2048 .f32) (n n' : Vec Ideal S1x2048 .f32) (a b : Vec Ideal S1x1x2048 .f32)
    (i : Fin 256) (d : Fin 2048) :
    k0_pay1 (F := Ideal) (k0_pay3 x g y n n') a b (ix2 i d)
      = k0_pay2 x g y n (ix2 i d) * scale (∑ k : Fin 2048, k0_pay2 x g y n (ix2 i k) * k0_pay2 x g y n (ix2 i k)) * n' (ix2 (0 : Fin 1) d)
        * (1 + a (ix3 (0 : Fin 1) (0 : Fin 1) d)) + b (ix3 (0 : Fin 1) (0 : Fin 1) d) := by
  unfold k0_pay1 k0_pay3
  pointwise
  rfl

theorem stream_out_eq (y x : Vec Ideal S256x2048 .f32) (n : Vec Ideal S1x2048 .f32) (g : Vec Ideal S1x1x2048 .f32) (n' : Vec Ideal S1x2048 .f32) (a b : Vec Ideal S1x1x2048 .f32) :
    out0_7 (F := Ideal) y x n g n' a b = k0_pay2 x g y n := by
  unfold out0_7
  rw [View.canon_unit_zero hz, View.ld_unit_zero hz, View.ld_unit_zero hz3, View.ld_unit_zero hz, View.ld_unit_zero hz]

theorem normed_out_eq (y x : Vec Ideal S256x2048 .f32) (n : Vec Ideal S1x2048 .f32) (g : Vec Ideal S1x1x2048 .f32) (n' : Vec Ideal S1x2048 .f32) (a b : Vec Ideal S1x1x2048 .f32) :
    out0_8 (F := Ideal) y x n g n' a b = k0_pay1 (k0_pay3 x g y n n') a b := by
  unfold out0_8
  rw [View.canon_unit_zero hz, View.ld_unit_zero hz, View.ld_unit_zero hz3, View.ld_unit_zero hz, View.ld_unit_zero hz, View.ld_unit_zero hz, View.ld_unit_zero hz3, View.ld_unit_zero hz3]

/-- Point `t` of the grid is row tile `t`, of the batch entry `t / 16`; each window's block index there. -/
theorem index0 : ∀ t : Fin cfg0.N, win0_0.index t (0 : Fin 2) = t.val ∧ win0_0.index t (1 : Fin 2) = 0 :=
  (by decide +kernel : ∀ t : Fin grid0.N, _)
@[inherit_doc index0] theorem index1 : ∀ t : Fin cfg0.N, win0_1.index t (0 : Fin 2) = t.val ∧ win0_1.index t (1 : Fin 2) = 0 :=
  (by decide +kernel : ∀ t : Fin grid0.N, _)
@[inherit_doc index0] theorem index2 : ∀ t : Fin cfg0.N, win0_2.index t (0 : Fin 2) = 0 ∧ win0_2.index t (1 : Fin 2) = 0 :=
  (by decide +kernel : ∀ t : Fin grid0.N, _)
@[inherit_doc index0] theorem index3 : ∀ t : Fin cfg0.N, win0_3.index t (0 : Fin 3) = t.val / 16 * 6 + 2 ∧ win0_3.index t (1 : Fin 3) = 0 ∧ win0_3.index t (2 : Fin 3) = 0 :=
  (by decide +kernel : ∀ t : Fin grid0.N, _)
@[inherit_doc index0] theorem index4 : ∀ t : Fin cfg0.N, win0_4.index t (0 : Fin 2) = 0 ∧ win0_4.index t (1 : Fin 2) = 0 :=
  (by decide +kernel : ∀ t : Fin grid0.N, _)
@[inherit_doc index0] theorem index5 : ∀ t : Fin cfg0.N, win0_5.index t (0 : Fin 3) = t.val / 16 * 6 + 4 ∧ win0_5.index t (1 : Fin 3) = 0 ∧ win0_5.index t (2 : Fin 3) = 0 :=
  (by decide +kernel : ∀ t : Fin grid0.N, _)
@[inherit_doc index0] theorem index6 : ∀ t : Fin cfg0.N, win0_6.index t (0 : Fin 3) = t.val / 16 * 6 + 3 ∧ win0_6.index t (1 : Fin 3) = 0 ∧ win0_6.index t (2 : Fin 3) = 0 :=
  (by decide +kernel : ∀ t : Fin grid0.N, _)
@[inherit_doc index0] theorem index7 : ∀ t : Fin cfg0.N, win0_7.index t (0 : Fin 2) = t.val ∧ win0_7.index t (1 : Fin 2) = 0 :=
  (by decide +kernel : ∀ t : Fin grid0.N, _)
@[inherit_doc index0] theorem index8 : ∀ t : Fin cfg0.N, win0_8.index t (0 : Fin 2) = t.val ∧ win0_8.index t (1 : Fin 2) = 0 :=
  (by decide +kernel : ∀ t : Fin grid0.N, _)
/-- Every point writes its tile back. -/
theorem flush7 : ∀ t : Fin cfg0.N, (cfg0.win 7).flush t = true := (by decide +kernel : ∀ t : Fin grid0.N, win0_7.flush t = true)
@[inherit_doc flush7] theorem flush8 : ∀ t : Fin cfg0.N, (cfg0.win 8).flush t = true := (by decide +kernel : ∀ t : Fin grid0.N, win0_8.flush t = true)

variable (m : (ℓ : Loc nD τ sig) → Buf (Elt Ideal) ℓ)

/-- The gain the branch is normalised with: the second gain of the first layer. -/
theorem gain (c : Dev nD) : V m c main_v7 = shapeCast S1x2048 (shapeCast S2048 (extractStridedSlice S1x1x2048 ![0, 1, 0] (m ((c.tc : Thread nD τ).loc main_arg2) : FVec Ideal S4x4x2048 .f32) slices_S4x4x2048_S1x1x2048_0_1_0) shapeCasts_S1x1x2048_S2048) shapeCasts_S2048_S1x2048 := by
  show StableHlo.after hostOps0 _ _ = _
  unfold hostOps0
  after_results
  rfl

/-- The gain the residual stream is normalised with: the third gain of the first layer. -/
theorem next_gain (c : Dev nD) : V m c main_v8 = shapeCast S1x2048 (shapeCast S2048 (extractStridedSlice S1x1x2048 ![0, 2, 0] (m ((c.tc : Thread nD τ).loc main_arg2) : FVec Ideal S4x4x2048 .f32) slices_S4x4x2048_S1x1x2048_0_2_0) shapeCasts_S1x1x2048_S2048) shapeCasts_S2048_S1x2048 := by
  show StableHlo.after hostOps0 _ _ = _
  unfold hostOps0
  after_results
  rfl

/-- The modulation the kernel is launched on: the first layer's, its twelve rows in one axis. -/
theorem modulation (c : Dev nD) : V m c main_v2 = shapeCast S12x1x2048 (shapeCast S2x6x2048 (extractStridedSlice S1x2x6x2048 ![0, 0, 0, 0] (m ((c.tc : Thread nD τ).loc main_arg3) : FVec Ideal S4x2x6x2048 .f32) slices_S4x2x6x2048_S1x2x6x2048_0_0_0_0) shapeCasts_S1x2x6x2048_S2x6x2048) shapeCasts_S2x6x2048_S12x1x2048 := by
  show StableHlo.after hostOps0 _ _ = _
  unfold hostOps0
  after_results
  rfl

theorem branch_apply (c : Dev nD) (t : Fin cfg0.N) (i : Fin 256) (k : Fin 2048) (j : S8192x2048.Idx)
    (h0 : (j 0).val = t.val * 256 + i.val) (h1 : (j 1).val = k.val) :
    iblk m c 0 t (ix2 i k) = m ((c.tc : Thread nD τ).loc main_arg0) j := by
  obtain ⟨e0, e1⟩ := index0 t
  refine (show iblk m c 0 t (ix2 i k) = V m c main_arg0 (((cfg0.win 0).blk t).view.emb (ix2 i k)) from rfl).trans ?_
  rw [V_main_arg0]
  refine congrArg (m ((c.tc : Thread nD τ).loc main_arg0)) (funext fun a => Fin.ext ?_)
  match a with
  | ⟨0, _⟩ => show win0_0.index t (0 : Fin 2) * 256 + 1 * i.val = (j 0).val; omega
  | ⟨1, _⟩ => show win0_0.index t (1 : Fin 2) * 2048 + 1 * k.val = (j 1).val; omega

theorem residual_apply (c : Dev nD) (t : Fin cfg0.N) (i : Fin 256) (k : Fin 2048) (j : S8192x2048.Idx)
    (h0 : (j 0).val = t.val * 256 + i.val) (h1 : (j 1).val = k.val) :
    iblk m c 1 t (ix2 i k) = m ((c.tc : Thread nD τ).loc main_arg1) j := by
  obtain ⟨e0, e1⟩ := index1 t
  refine (show iblk m c 1 t (ix2 i k) = V m c main_arg1 (((cfg0.win 1).blk t).view.emb (ix2 i k)) from rfl).trans ?_
  rw [V_main_arg1]
  refine congrArg (m ((c.tc : Thread nD τ).loc main_arg1)) (funext fun a => Fin.ext ?_)
  match a with
  | ⟨0, _⟩ => show win0_1.index t (0 : Fin 2) * 256 + 1 * i.val = (j 0).val; omega
  | ⟨1, _⟩ => show win0_1.index t (1 : Fin 2) * 2048 + 1 * k.val = (j 1).val; omega

theorem gain_apply (c : Dev nD) (t : Fin cfg0.N) (q : Fin 2048) :
    iblk m c 2 t (ix2 (0 : Fin 1) q) = m ((c.tc : Thread nD τ).loc main_arg2) (ix3 (0 : Fin 4) (1 : Fin 4) q) := by
  obtain ⟨e0, e1⟩ := index2 t
  have e : ((cfg0.win 2).blk t).view.emb (ix2 (0 : Fin 1) q) = ix2 (0 : Fin 1) q := funext fun a => Fin.ext (match a with
    | ⟨0, _⟩ => by show win0_2.index t (0 : Fin 2) * 1 + 1 * 0 = 0; omega
    | ⟨1, _⟩ => by show win0_2.index t (1 : Fin 2) * 2048 + 1 * q.val = q.val; omega)
  refine ((show iblk m c 2 t (ix2 (0 : Fin 1) q) = V m c main_v7 (((cfg0.win 2).blk t).view.emb (ix2 (0 : Fin 1) q)) from rfl).trans (congrArg (V m c main_v7) e)).trans ?_
  rw [gain]
  pointwise

theorem gate_apply (c : Dev nD) (t : Fin cfg0.N) (q : Fin 2048) (b : Fin 2) (h : b.val = t.val / 16) :
    iblk m c 3 t (ix3 (0 : Fin 1) (0 : Fin 1) q) = m ((c.tc : Thread nD τ).loc main_arg3) (ix4 (0 : Fin 4) b (2 : Fin 6) q) := by
  obtain ⟨e0, e1, e2⟩ := index3 t
  have hb := b.isLt
  have e : ((cfg0.win 3).blk t).view.emb (ix3 (0 : Fin 1) (0 : Fin 1) q) = ix3 (⟨b.val * 6 + 2, by omega⟩ : Fin 12) (0 : Fin 1) q := funext fun a => Fin.ext (match a with
    | ⟨0, _⟩ => by show win0_3.index t (0 : Fin 3) * 1 + 1 * 0 = b.val * 6 + 2; omega
    | ⟨1, _⟩ => by show win0_3.index t (1 : Fin 3) * 1 + 1 * 0 = 0; omega
    | ⟨2, _⟩ => by show win0_3.index t (2 : Fin 3) * 2048 + 1 * q.val = q.val; omega)
  refine ((show iblk m c 3 t (ix3 (0 : Fin 1) (0 : Fin 1) q) = V m c main_v2 (((cfg0.win 3).blk t).view.emb (ix3 (0 : Fin 1) (0 : Fin 1) q)) from rfl).trans (congrArg (V m c main_v2) e)).trans ?_
  rw [modulation]
  exact modulation_apply _ _ b 2 rfl q

theorem next_gain_apply (c : Dev nD) (t : Fin cfg0.N) (q : Fin 2048) :
    iblk m c 4 t (ix2 (0 : Fin 1) q) = m ((c.tc : Thread nD τ).loc main_arg2) (ix3 (0 : Fin 4) (2 : Fin 4) q) := by
  obtain ⟨e0, e1⟩ := index4 t
  have e : ((cfg0.win 4).blk t).view.emb (ix2 (0 : Fin 1) q) = ix2 (0 : Fin 1) q := funext fun a => Fin.ext (match a with
    | ⟨0, _⟩ => by show win0_4.index t (0 : Fin 2) * 1 + 1 * 0 = 0; omega
    | ⟨1, _⟩ => by show win0_4.index t (1 : Fin 2) * 2048 + 1 * q.val = q.val; omega)
  refine ((show iblk m c 4 t (ix2 (0 : Fin 1) q) = V m c main_v8 (((cfg0.win 4).blk t).view.emb (ix2 (0 : Fin 1) q)) from rfl).trans (congrArg (V m c main_v8) e)).trans ?_
  rw [next_gain]
  pointwise

theorem scale_apply (c : Dev nD) (t : Fin cfg0.N) (q : Fin 2048) (b : Fin 2) (h : b.val = t.val / 16) :
    iblk m c 5 t (ix3 (0 : Fin 1) (0 : Fin 1) q) = m ((c.tc : Thread nD τ).loc main_arg3) (ix4 (0 : Fin 4) b (4 : Fin 6) q) := by
  obtain ⟨e0, e1, e2⟩ := index5 t
  have hb := b.isLt
  have e : ((cfg0.win 5).blk t).view.emb (ix3 (0 : Fin 1) (0 : Fin 1) q) = ix3 (⟨b.val * 6 + 4, by omega⟩ : Fin 12) (0 : Fin 1) q := funext fun a => Fin.ext (match a with
    | ⟨0, _⟩ => by show win0_5.index t (0 : Fin 3) * 1 + 1 * 0 = b.val * 6 + 4; omega
    | ⟨1, _⟩ => by show win0_5.index t (1 : Fin 3) * 1 + 1 * 0 = 0; omega
    | ⟨2, _⟩ => by show win0_5.index t (2 : Fin 3) * 2048 + 1 * q.val = q.val; omega)
  refine ((show iblk m c 5 t (ix3 (0 : Fin 1) (0 : Fin 1) q) = V m c main_v2 (((cfg0.win 5).blk t).view.emb (ix3 (0 : Fin 1) (0 : Fin 1) q)) from rfl).trans (congrArg (V m c main_v2) e)).trans ?_
  rw [modulation]
  exact modulation_apply _ _ b 4 rfl q

theorem shift_apply (c : Dev nD) (t : Fin cfg0.N) (q : Fin 2048) (b : Fin 2) (h : b.val = t.val / 16) :
    iblk m c 6 t (ix3 (0 : Fin 1) (0 : Fin 1) q) = m ((c.tc : Thread nD τ).loc main_arg3) (ix4 (0 : Fin 4) b (3 : Fin 6) q) := by
  obtain ⟨e0, e1, e2⟩ := index6 t
  have hb := b.isLt
  have e : ((cfg0.win 6).blk t).view.emb (ix3 (0 : Fin 1) (0 : Fin 1) q) = ix3 (⟨b.val * 6 + 3, by omega⟩ : Fin 12) (0 : Fin 1) q := funext fun a => Fin.ext (match a with
    | ⟨0, _⟩ => by show win0_6.index t (0 : Fin 3) * 1 + 1 * 0 = b.val * 6 + 3; omega
    | ⟨1, _⟩ => by show win0_6.index t (1 : Fin 3) * 1 + 1 * 0 = 0; omega
    | ⟨2, _⟩ => by show win0_6.index t (2 : Fin 3) * 2048 + 1 * q.val = q.val; omega)
  refine ((show iblk m c 6 t (ix3 (0 : Fin 1) (0 : Fin 1) q) = V m c main_v2 (((cfg0.win 6).blk t).view.emb (ix3 (0 : Fin 1) (0 : Fin 1) q)) from rfl).trans (congrArg (V m c main_v2) e)).trans ?_
  rw [modulation]
  exact modulation_apply _ _ b 3 rfl q

theorem emb7_val (t : Fin cfg0.N) (i : Fin 256) (d : Fin 2048) (j : S8192x2048.Idx)
    (h0 : (j 0).val = t.val * 256 + i.val) (h1 : (j 1).val = d.val) :
    ((cfg0.win 7).blk t).view.emb (ix2 i d) = j := by
  obtain ⟨e0, e1⟩ := index7 t
  refine funext fun a => Fin.ext ?_
  match a with
  | ⟨0, _⟩ => show win0_7.index t (0 : Fin 2) * 256 + 1 * i.val = (j 0).val; omega
  | ⟨1, _⟩ => show win0_7.index t (1 : Fin 2) * 2048 + 1 * d.val = (j 1).val; omega

theorem emb8_val (t : Fin cfg0.N) (i : Fin 256) (d : Fin 2048) (j : S8192x2048.Idx)
    (h0 : (j 0).val = t.val * 256 + i.val) (h1 : (j 1).val = d.val) :
    ((cfg0.win 8).blk t).view.emb (ix2 i d) = j := by
  obtain ⟨e0, e1⟩ := index8 t
  refine funext fun a => Fin.ext ?_
  match a with
  | ⟨0, _⟩ => show win0_8.index t (0 : Fin 2) * 256 + 1 * i.val = (j 0).val; omega
  | ⟨1, _⟩ => show win0_8.index t (1 : Fin 2) * 2048 + 1 * d.val = (j 1).val; omega

/-- What the first result is shown to hold: the reference's residual stream. -/
abbrev stream (c : Dev nD) : Buf (Elt Ideal) ((c.tc : Thread nD τ).loc main_v9_0) :=
  Cert.Reference8Ideal.Read.val_main_v56 (F := Ideal) (m ((c.tc : Thread nD τ).loc main_arg0)) (m ((c.tc : Thread nD τ).loc main_arg1)) (m ((c.tc : Thread nD τ).loc main_arg2)) (m ((c.tc : Thread nD τ).loc main_arg3))

/-- What the second result is shown to hold: the reference's normed activations. -/
abbrev normed (c : Dev nD) : Buf (Elt Ideal) ((c.tc : Thread nD τ).loc main_v9_1) :=
  Cert.Reference8Ideal.Read.val_main_v58 (F := Ideal) (m ((c.tc : Thread nD τ).loc main_arg0)) (m ((c.tc : Thread nD τ).loc main_arg1)) (m ((c.tc : Thread nD τ).loc main_arg2)) (m ((c.tc : Thread nD τ).loc main_arg3))

theorem stream_apply (x0 x1 : FVec Ideal S8192x2048 .f32) (x2 : FVec Ideal S4x4x2048 .f32) (x3 : FVec Ideal S4x2x6x2048 .f32) (r : Fin 8192) (q : Fin 2048) (b : Fin 2)
    (hb : b.val = r.val / 4096) :
    Cert.Reference8Ideal.Read.val_main_v56 (F := Ideal) x0 x1 x2 x3 (ix2 r q) = x1 (ix2 r q) + x3 (ix4 (0 : Fin 4) b (2 : Fin 6) q)
      * (x0 (ix2 r q) * scale (∑ k : Fin 2048, x0 (ix2 r k) * x0 (ix2 r k)) * x2 (ix3 (0 : Fin 4) (1 : Fin 4) q)) := by
  rw [← Cert.Reference8Ideal.Read.val_main_v56_eq]
  pointwise
  have e : (⟨r.val / 4096, by omega⟩ : Fin 2) = b := Fin.ext hb.symm
  rw [e]
  rfl

open Cert.Reference8Ideal.Read in
theorem normed_apply (x0 x1 : FVec Ideal S8192x2048 .f32) (x2 : FVec Ideal S4x4x2048 .f32) (x3 : FVec Ideal S4x2x6x2048 .f32) (r : Fin 8192) (q : Fin 2048) (b : Fin 2)
    (hb : b.val = r.val / 4096) :
    val_main_v58 (F := Ideal) x0 x1 x2 x3 (ix2 r q)
      = val_main_v56 (F := Ideal) x0 x1 x2 x3 (ix2 r q)
          * scale (∑ k : Fin 2048, val_main_v56 (F := Ideal) x0 x1 x2 x3 (ix2 r k) * val_main_v56 (F := Ideal) x0 x1 x2 x3 (ix2 r k))
          * x2 (ix3 (0 : Fin 4) (2 : Fin 4) q) * (1 + x3 (ix4 (0 : Fin 4) b (4 : Fin 6) q)) + x3 (ix4 (0 : Fin 4) b (3 : Fin 6) q) := by
  unfold val_main_v58 val_main_v57 val_main_v56 val_main_v55 val_main_v54 val_main_v53 val_main_v52 val_main_v51 val_main_v50 val_main_cst_5 val_main_v49 val_main_v48 val_main_v47 val_main_v46 val_main_v45 val_main_v44 val_main_v43 val_main_v42 val_main_v41 val_main_v40 val_main_cst_4 val_main_v39 val_main_v38 val_main_cst_3 val_main_v37 val_main_v36 val_main_cst_2 val_main_v35 val_main_v16 val_main_v15 val_main_v14 val_main_v13 val_main_v12 val_main_v11 val_main_v10 val_main_v9 val_main_v8 val_main_v7
  generalize val_main_v34 (F := Ideal) x0 x1 x2 x3 = s
  have hr : r.val / 4096 < 2 := by have := r.isLt; omega
  obtain rfl : b = ⟨r.val / 4096, hr⟩ := Fin.ext hb
  pointwise
  rfl

/-- The residual stream a tile's point stores is the reference's, at the tile's rows. -/
theorem stream_eq (c : Dev nD) (t : Fin cfg0.N) (i : Fin 256) (d : Fin 2048) (r : Fin 8192) (hr : r.val = t.val * 256 + i.val) :
    k0_pay2 (F := Ideal) (iblk m c 1 t) (iblk m c 3 t) (iblk m c 0 t) (iblk m c 2 t) (ix2 i d) = stream m c (ix2 r d) := by
  have ht : t.val < 32 := t.isLt
  have hi := i.isLt
  let b : Fin 2 := ⟨t.val / 16, by omega⟩
  refine Eq.trans ?_ (stream_apply _ _ _ _ r d b (show t.val / 16 = r.val / 4096 by omega)).symm
  refine (stream_stored_apply _ _ _ _ i d).trans ?_
  refine congrArg₂ (· + ·) (residual_apply m c t i d (ix2 r d) hr rfl) (congrArg₂ (· * ·) (gate_apply m c t d b rfl)
    (congrArg₂ (· * ·) (congrArg₂ (fun a s => a * scale s) (branch_apply m c t i d (ix2 r d) hr rfl) (Finset.sum_congr rfl fun k _ => ?_)) (gain_apply m c t d)))
  exact congrArg₂ (· * ·) (branch_apply m c t i k (ix2 r k) hr rfl) (branch_apply m c t i k (ix2 r k) hr rfl)

theorem stream_flushed (c : Dev nD) (t : Fin cfg0.N) : (dats m 0 c).flushed 7 t = ((cfg0.win 7).blk t).view.read (Elt Ideal) (stream m c) := by
  have ht : t.val < 32 := t.isLt
  funext y
  let i : Fin 256 := y 0
  let d : Fin 2048 := y 1
  have hi := i.isLt
  have hy : y = ix2 i d := funext fun a => match a with | ⟨0, _⟩ => rfl | ⟨1, _⟩ => rfl
  let r : Fin 8192 := ⟨t.val * 256 + i.val, by omega⟩
  have e := emb7_val t i d (ix2 r d) rfl rfl
  have hr : ((cfg0.win 7).blk t).view.read (Elt Ideal) (stream m c) y = stream m c (((cfg0.win 7).blk t).view.emb (ix2 i d)) :=
    congrArg (fun y => stream m c (((cfg0.win 7).blk t).view.emb y)) hy
  rw [hr]
  refine Eq.trans ?_ (congrArg (stream m c) e).symm
  rw [flushed7, stream_out_eq]
  exact (congrArg (k0_pay2 (F := Ideal) (iblk m c 1 t) (iblk m c 3 t) (iblk m c 0 t) (iblk m c 2 t)) hy).trans (stream_eq m c t i d r rfl)

theorem normed_flushed (c : Dev nD) (t : Fin cfg0.N) : (dats m 0 c).flushed 8 t = ((cfg0.win 8).blk t).view.read (Elt Ideal) (normed m c) := by
  have ht : t.val < 32 := t.isLt
  funext y
  let i : Fin 256 := y 0
  let d : Fin 2048 := y 1
  have hi := i.isLt
  have hy : y = ix2 i d := funext fun a => match a with | ⟨0, _⟩ => rfl | ⟨1, _⟩ => rfl
  let r : Fin 8192 := ⟨t.val * 256 + i.val, by omega⟩
  let b : Fin 2 := ⟨t.val / 16, by omega⟩
  have e := emb8_val t i d (ix2 r d) rfl rfl
  have hr : ((cfg0.win 8).blk t).view.read (Elt Ideal) (normed m c) y = normed m c (((cfg0.win 8).blk t).view.emb (ix2 i d)) :=
    congrArg (fun y => normed m c (((cfg0.win 8).blk t).view.emb y)) hy
  rw [hr]
  refine Eq.trans ?_ (congrArg (normed m c) e).symm
  refine Eq.trans ?_ (normed_apply _ _ _ _ r d b (show t.val / 16 = (t.val * 256 + i.val) / 4096 by omega)).symm
  rw [flushed8, normed_out_eq]
  refine (congrArg (k0_pay1 (F := Ideal) (k0_pay3 (iblk m c 1 t) (iblk m c 3 t) (iblk m c 0 t) (iblk m c 2 t) (iblk m c 4 t)) (iblk m c 5 t) (iblk m c 6 t)) hy).trans
    ((normed_stored_apply _ _ _ _ _ _ _ i d).trans ?_)
  refine congrArg₂ (· + ·) (congrArg₂ (· * ·) (congrArg₂ (· * ·)
    (congrArg₂ (fun a s => a * scale s) (stream_eq m c t i d r rfl) (Finset.sum_congr rfl fun k _ => ?_)) (next_gain_apply m c t d))
    (congrArg (1 + ·) (scale_apply m c t d b rfl))) (shift_apply m c t d b rfl)
  exact congrArg₂ (· * ·) (stream_eq m c t i k r rfl) (stream_eq m c t i k r rfl)

theorem cover7 (j : S8192x2048.Idx) : ∃ t : Fin cfg0.N, (cfg0.win 7).flush t = true ∧ j ∈ ((cfg0.win 7).blk t).view.set := by
  have h0 : (j 0).val < 8192 := (j 0).isLt
  have h1 : (j 1).val < 2048 := (j 1).isLt
  let t : Fin cfg0.N := ⟨(j 0).val / 256, show _ < 32 by omega⟩
  have ht : t.val = (j 0).val / 256 := rfl
  have e := emb7_val t (⟨(j 0).val % 256, by omega⟩ : Fin 256) (⟨(j 1).val, h1⟩ : Fin 2048) j (by rw [ht]; show (j 0).val = _ + (j 0).val % 256; omega) rfl
  refine ⟨t, flush7 t, ?_⟩
  have h := ((cfg0.win 7).blk t).view.emb_mem_set (ix2 (⟨(j 0).val % 256, by omega⟩ : Fin 256) (⟨(j 1).val, h1⟩ : Fin 2048))
  exact (congrArg (· ∈ ((cfg0.win 7).blk t).view.set) e).mp h

theorem cover8 (j : S8192x2048.Idx) : ∃ t : Fin cfg0.N, (cfg0.win 8).flush t = true ∧ j ∈ ((cfg0.win 8).blk t).view.set := by
  have h0 : (j 0).val < 8192 := (j 0).isLt
  have h1 : (j 1).val < 2048 := (j 1).isLt
  let t : Fin cfg0.N := ⟨(j 0).val / 256, show _ < 32 by omega⟩
  have ht : t.val = (j 0).val / 256 := rfl
  have e := emb8_val t (⟨(j 0).val % 256, by omega⟩ : Fin 256) (⟨(j 1).val, h1⟩ : Fin 2048) j (by rw [ht]; show (j 0).val = _ + (j 0).val % 256; omega) rfl
  refine ⟨t, flush8 t, ?_⟩
  have h := ((cfg0.win 8).blk t).view.emb_mem_set (ix2 (⟨(j 0).val % 256, by omega⟩ : Fin 256) (⟨(j 1).val, h1⟩ : Fin 2048))
  exact (congrArg (· ∈ ((cfg0.win 8).blk t).view.set) e).mp h

theorem stream_result (c : Dev nD) : (dats m 0 c).arrAt 7 cfg0.N = stream m c :=
  (dats m 0 c).arrAt_eq_of_cover 7 (stream m c) (fun t _ => stream_flushed m c t) cover7

theorem normed_result (c : Dev nD) : (dats m 0 c).arrAt 8 cfg0.N = normed m c :=
  (dats m 0 c).arrAt_eq_of_cover 8 (normed m c) (fun t _ => normed_flushed m c t) cover8

end Cert.Kernel8Ideal.NextNorm

namespace Cert.Proof

open Idealize.ShloMosaic Idealize.SL.Sem

/-- The idealized residual step with the next norm and its idealized reference leave the same two results. -/
theorem algebraic8 : Cert.algebraic_Kernel8Ideal_Reference8Ideal (hKernel8Ideal := Cert.Kernel8Ideal.Gen.facts)
    (hReference8Ideal := Cert.Reference8Ideal.Gen.facts) := fun m g m' g' _ hm => by
  refine ⟨fun c => Cert.Kernel8Ideal.NextNorm.stream m c, fun c => Cert.Kernel8Ideal.NextNorm.normed m c,
    (θ_run _ _ _).mono (fun r h c => ⟨(h c).1.trans (Cert.Kernel8Ideal.NextNorm.stream_result m c), (h c).2.1.trans (Cert.Kernel8Ideal.NextNorm.normed_result m c), (h c).2.2⟩) (Cert.Kernel8Ideal.Value.run_blocks m g),
    (θ_run _ _ _).mono (fun r h c => ⟨(h c).1.trans ?_, (h c).2.1.trans ?_, (h c).2.2⟩) (Cert.Reference8Ideal.Value.run m' g')⟩
  · rw [Cert.Reference8Ideal.Read.val_main_v56_eq, (hm c).1, (hm c).2.1, (hm c).2.2.1, (hm c).2.2.2]
  · rw [Cert.Reference8Ideal.Read.val_main_v58_eq, (hm c).1, (hm c).2.1, (hm c).2.2.1, (hm c).2.2.2]

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.PlainRun
public import proofs.«01_k».proof.Proof.IdealRun
public import proofs.«01_k».proof.Proof.Gen.Pre_finite
public import proofs.«01_k».proof.Proof.Same
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.ProjPlain
public import proofs.«01_k».proof.Proof.ProjValue
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Glu
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Down
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Merge
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Out
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.ResNorm
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.NextNorm
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.FirstNorm

@[expose] public section

noncomputable section

namespace Cert.Proof

open Idealize.ShloMosaic Idealize.SL.Sem

/-- The kernel as written ends with its arguments as launched and every semaphore at zero. -/
theorem quiescent_kernel : Cert.quiescent_Kernel (hKernel := Cert.Kernel.Gen.facts) := fun m g _ =>
  (θ_run _ _ _).mono (fun r h => ⟨Cert.Kernel.Fox.args_kept m r h.1, h.2⟩) (Cert.Kernel.Fox.run m g)

/-- So does the idealized kernel. -/
theorem quiescent_kernel_ideal : Cert.quiescent_KernelIdeal (hKernelIdeal := Cert.KernelIdeal.Gen.facts) := fun m g _ =>
  (θ_run _ _ _).mono (fun r h => ⟨Cert.KernelIdeal.Fox.args_kept m r h.1, h.2⟩) (Cert.KernelIdeal.Fox.run m g)

/-- So does the reference, which has no semaphore. -/
theorem quiescent_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The named constants stand for the literals they replace. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "neg_inf" .f32 0xF149F2CA#32 ⊥ rfl,
    IdealRules.named_const.statement Cert.KernelIdeal.κ "scale_log2e" .f32 0x3E0293EE#32 (((Real.sqrt 128)⁻¹ * (Real.log 2)⁻¹ : ℝ) : EReal) rfl⟩

/-- The input projection's reference ends with its arguments as launched; it has no semaphore. -/
theorem quiescent_reference2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

/-- The gated product as written ends with its arguments as launched and every semaphore at zero; so do its idealized kernel and reference. -/
theorem quiescent_kernel3 : Cert.quiescent_Kernel3 (hKernel3 := Cert.Kernel3.Gen.facts) := fun m g _ =>
  Cert.Kernel3.Gen.frame m g

theorem quiescent_kernel3_ideal : Cert.quiescent_Kernel3Ideal (hKernel3Ideal := Cert.Kernel3Ideal.Gen.facts) := fun m g _ =>
  Cert.Kernel3Ideal.Gen.frame m g

theorem quiescent_reference3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

/-- The down projection as written ends with its arguments as launched and every semaphore at zero; so do its idealized kernel and reference. -/
theorem quiescent_kernel4 : Cert.quiescent_Kernel4 (hKernel4 := Cert.Kernel4.Gen.facts) := fun m g _ =>
  Cert.Kernel4.Gen.frame m g

theorem quiescent_kernel4_ideal : Cert.quiescent_Kernel4Ideal (hKernel4Ideal := Cert.Kernel4Ideal.Gen.facts) := fun m g _ =>
  Cert.Kernel4Ideal.Gen.frame m g

theorem quiescent_reference4 : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

/-- The merge of the branches as written ends with its arguments as launched and every semaphore at zero; so do its idealized kernel and reference. -/
theorem quiescent_kernel5 : Cert.quiescent_Kernel5 (hKernel5 := Cert.Kernel5.Gen.facts) := fun m g _ =>
  Cert.Kernel5.Gen.frame m g

theorem quiescent_kernel5_ideal : Cert.quiescent_Kernel5Ideal (hKernel5Ideal := Cert.Kernel5Ideal.Gen.facts) := fun m g _ =>
  Cert.Kernel5Ideal.Gen.frame m g

theorem quiescent_reference5 : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

/-- The output projection as written ends with its arguments as launched and every semaphore at zero; so do its idealized kernel and reference. -/
theorem quiescent_kernel6 : Cert.quiescent_Kernel6 (hKernel6 := Cert.Kernel6.Gen.facts) := fun m g _ =>
  Cert.Kernel6.Gen.frame m g

theorem quiescent_kernel6_ideal : Cert.quiescent_Kernel6Ideal (hKernel6Ideal := Cert.Kernel6Ideal.Gen.facts) := fun m g _ =>
  Cert.Kernel6Ideal.Gen.frame m g

theorem quiescent_reference6 : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run m g)

/-- The last residual step as written ends with its arguments as launched and every semaphore at zero; so do its idealized kernel and reference. -/
theorem quiescent_kernel7 : Cert.quiescent_Kernel7 (hKernel7 := Cert.Kernel7.Gen.facts) := fun m g _ =>
  Cert.Kernel7.Gen.frame m g

theorem quiescent_kernel7_ideal : Cert.quiescent_Kernel7Ideal (hKernel7Ideal := Cert.Kernel7Ideal.Gen.facts) := fun m g _ =>
  Cert.Kernel7Ideal.Gen.frame m g

theorem quiescent_reference7 : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

/-- The residual step with the next norm as written ends with its arguments as launched and every semaphore at zero; so do its idealized kernel and reference. -/
theorem quiescent_kernel8 : Cert.quiescent_Kernel8 (hKernel8 := Cert.Kernel8.Gen.facts) := fun m g _ =>
  Cert.Kernel8.Gen.frame m g

theorem quiescent_kernel8_ideal : Cert.quiescent_Kernel8Ideal (hKernel8Ideal := Cert.Kernel8Ideal.Gen.facts) := fun m g _ =>
  Cert.Kernel8Ideal.Gen.frame m g

theorem quiescent_reference8 : Cert.quiescent_Reference8Ideal (hReference8Ideal := Cert.Reference8Ideal.Gen.facts) := fun m g _ =>
  (θ_run _ _ _).mono (fun r h => ⟨fun c => (h c).2.2, sem_eq_zero_of_no_sems (by decide) r.2⟩) (Cert.Reference8Ideal.Value.run m g)

/-- The first norm as written ends with its arguments as launched and every semaphore at zero; so do its idealized kernel and reference. -/
theorem quiescent_kernel9 : Cert.quiescent_Kernel9 (hKernel9 := Cert.Kernel9.Gen.facts) := fun m g _ =>
  Cert.Kernel9.Gen.frame m g

theorem quiescent_kernel9_ideal : Cert.quiescent_Kernel9Ideal (hKernel9Ideal := Cert.Kernel9Ideal.Gen.facts) := fun m g _ =>
  Cert.Kernel9Ideal.Gen.frame m g

theorem quiescent_reference9 : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Pre_finite.Gen.facts,
    quiescent_kernel, quiescent_kernel_ideal, fun m g _ => quiescent_kernel_ideal m g trivial,
    quiescent_reference, fun m g _ => quiescent_reference m g trivial,
    quiescent_kernel2, quiescent_kernel2_ideal, quiescent_reference2,
    quiescent_kernel3, quiescent_kernel3_ideal, quiescent_reference3, quiescent_kernel4, quiescent_kernel4_ideal, quiescent_reference4,
    quiescent_kernel5, quiescent_kernel5_ideal, quiescent_reference5, quiescent_kernel6, quiescent_kernel6_ideal, quiescent_reference6, quiescent_kernel7, quiescent_kernel7_ideal, quiescent_reference7,
    quiescent_kernel8, quiescent_kernel8_ideal, quiescent_reference8, quiescent_kernel9, quiescent_kernel9_ideal, quiescent_reference9,
    preserves, algebraic, trivial, algebraic2, trivial, algebraic3, trivial, algebraic4, trivial, algebraic5, trivial, algebraic6, trivial, algebraic7, trivial, algebraic8, trivial, algebraic9⟩

end Cert.Proof

end
